-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S1024x1024 : Shape := ⟨2, ![1024, 1024]⟩
abbrev S1024x2048 : Shape := ⟨2, ![1024, 2048]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4x256x1024 .f32) (main_arg1 : FVec F S1024x1024 .f32) (main_arg2 : FVec F S1024x1024 .f32) (main_arg3 : FVec F S1024x2048 .f32) (main_arg4 : FVec F S1024x2048 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Pre_finite_ReferenceIdeal.lean ====
abbrev S4x256x1024 : Shape := ⟨3, ![4, 256, 1024]⟩
abbrev S1024x8192 : Shape := ⟨2, ![1024, 8192]⟩
abbrev S8192x1024 : Shape := ⟨2, ![8192, 1024]⟩
abbrev S1024x2048 : Shape := ⟨2, ![1024, 2048]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn {F : FTy → Type} [FloatOps F] (main_arg0 : FVec F S4x256x1024 .f32) (main_arg1 : FVec F S1024x8192 .f32) (main_arg2 : FVec F S8192x1024 .f32) (main_arg3 : FVec F S1024x2048 .f32) (main_arg4 : FVec F S1024x2048 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  main_v13
-- ==== Kernel.lean ====
abbrev S4x256x1024 : Shape := ⟨3, ![4, 256, 1024]⟩
abbrev S1024x1024 : Shape := ⟨2, ![1024, 1024]⟩
abbrev S1024x2048 : Shape := ⟨2, ![1024, 2048]⟩
abbrev S8x16x1024 : Shape := ⟨3, ![8, 16, 1024]⟩
abbrev S7x16x1024 : Shape := ⟨3, ![7, 16, 1024]⟩
abbrev S1024x256 : Shape := ⟨2, ![1024, 256]⟩
abbrev S12 : Shape := ⟨1, ![12]⟩
abbrev S3 : Shape := ⟨1, ![3]⟩
abbrev S_ : Shape := ⟨0, ![]⟩
abbrev S1 : Shape := ⟨1, ![1]⟩
abbrev S1x256x1024 : Shape := ⟨3, ![1, 256, 1024]⟩
abbrev S256x1024 : Shape := ⟨2, ![256, 1024]⟩
abbrev S256x256 : Shape := ⟨2, ![256, 256]⟩
abbrev S256x128 : Shape := ⟨2, ![256, 128]⟩
abbrev S1024x128 : Shape := ⟨2, ![1024, 128]⟩
abbrev S1024 : Shape := ⟨1, ![1024]⟩
abbrev S1024x1 : Shape := ⟨2, ![1024, 1]⟩
abbrev S16x1024 : Shape := ⟨2, ![16, 1024]⟩
abbrev S1x16x1024 : Shape := ⟨3, ![1, 16, 1024]⟩
abbrev S4x16x1024 : Shape := ⟨3, ![4, 16, 1024]⟩
abbrev S2x16x1024 : Shape := ⟨3, ![2, 16, 1024]⟩

abbrev nBuf : Space → Nat
  | .hbm => 6
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S4x256x1024, .bf16⟩
  | .local _ .vmem, ⟨0, _⟩ => ⟨S4x256x1024, .f32⟩
  | .local _ .vmem, ⟨1, _⟩ => ⟨S1024x1024, .f32⟩
  | .local _ .vmem, ⟨2, _⟩ => ⟨S4x256x1024, .bf16⟩
  | .local _ .vmem, ⟨3, _⟩ => ⟨S8x16x1024, .bf16⟩
  | .local _ .vmem, ⟨4, _⟩ => ⟨S8x16x1024, .bf16⟩
  | .local _ .vmem, ⟨5, _⟩ => ⟨S8x16x1024, .bf16⟩
  | .local _ .vmem, ⟨6, _⟩ => ⟨S8x16x1024, .bf16⟩
  | .local _ .vmem, ⟨7, _⟩ => ⟨S8x16x1024, .bf16⟩
  | .local _ .vmem, ⟨8, _⟩ => ⟨S8x16x1024, .bf16⟩
  | .local _ .vmem, ⟨9, _⟩ => ⟨S8x16x1024, .bf16⟩
  | .local _ .vmem, ⟨10, _⟩ => ⟨S8x16x1024, .bf16⟩
  | .local _ .vmem, ⟨11, _⟩ => ⟨S7x16x1024, .bf16⟩
  | .local _ .vmem, ⟨12, _⟩ => ⟨S7x16x1024, .bf16⟩
  | .local _ .vmem, ⟨13, _⟩ => ⟨S7x16x1024, .bf16⟩
  | .local _ .vmem, ⟨14, _⟩ => ⟨S7x16x1024, .bf16⟩
  | .local _ .vmem, ⟨15, _⟩ => ⟨S7x16x1024, .bf16⟩
  | .local _ .vmem, ⟨16, _⟩ => ⟨S7x16x1024, .bf16⟩
  | .local _ .vmem, ⟨17, _⟩ => ⟨S7x16x1024, .bf16⟩
  | .local _ .vmem, ⟨18, _⟩ => ⟨S7x16x1024, .bf16⟩
  | .local _ .vmem, ⟨19, _⟩ => ⟨S1024x256, .f32⟩
  | .local _ .vmem, ⟨20, _⟩ => ⟨S1024x256, .f32⟩
  | .local _ .vmem, ⟨21, _⟩ => ⟨S1024x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2 : BitVec 32 := 1#32
  let v7 : BitVec 32 := Scalar.xori v5 c1_i32_2
  let c1_i32_3 : BitVec 32 := 1#32
  let v8 : BitVec 32 := Scalar.shrsi v7 c1_i32_3
  let c1_i32_4 : BitVec 32 := 1#32
  let v9 : BitVec 32 := Scalar.andi v8 c1_i32_4
  let v10 : BitVec 32 := Scalar.xori v7 v9
  let c1_i32_6 : BitVec 32 := 1#32
  let v11 : BitVec 32 := Scalar.muli v10 c1_i32_6
  let v12 : BitVec 32 := Scalar.addi c0_i32 v11
  v12.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32 : BitVec 32 := 2#32
  let v13 : BitVec 32 := Scalar.xori v5 c2_i32
  let c1_i32_7 : BitVec 32 := 1#32
  let v14 : BitVec 32 := Scalar.shrsi v13 c1_i32_7
  let c1_i32_8 : BitVec 32 := 1#32
  let v15 : BitVec 32 := Scalar.andi v14 c1_i32_8
  let v16 : BitVec 32 := Scalar.xori v13 v15
  let c1_i32_10 : BitVec 32 := 1#32
  let v17 : BitVec 32 := Scalar.muli v16 c1_i32_10
  let v18 : BitVec 32 := Scalar.addi c0_i32_11 v17
  v18.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32 : BitVec 32 := 4#32
  let v19 : BitVec 32 := Scalar.xori v5 c4_i32
  let c1_i32_12 : BitVec 32 := 1#32
  let v20 : BitVec 32 := Scalar.shrsi v19 c1_i32_12
  let c1_i32_13 : BitVec 32 := 1#32
  let v21 : BitVec 32 := Scalar.andi v20 c1_i32_13
  let v22 : BitVec 32 := Scalar.xori v19 v21
  let c1_i32_15 : BitVec 32 := 1#32
  let v23 : BitVec 32 := Scalar.muli v22 c1_i32_15
  let v24 : BitVec 32 := Scalar.addi c0_i32_16 v23
  v24.toNat
def k0_off1 (d0 : Dev nD) : Fin 2 → Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17 : BitVec 32 := 2#32
  let v25 : BitVec 32 := Scalar.muli v2 c2_i32_17
  let c128_i32 : BitVec 32 := 128#32
  let v26 : BitVec 32 := Scalar.muli v25 c128_i32
  ![0, v26.toNat]
def k0_off2 (d0 : Dev nD) (c0_i32_95 : BitVec 32) : Fin 3 → Nat :=
  let c0_i32_99 : BitVec 32 := 0#32
  let c4_i32_98 : BitVec 32 := 4#32
  let c1_i32_97 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v186 : BitVec 32 := Scalar.shrsi v5 c0_i32_95
  let c1_i32_96 : BitVec 32 := 1#32
  let v187 : BitVec 32 := Scalar.andi v186 c1_i32_96
  let v188 : BitVec 32 := Scalar.subi c1_i32_97 v187
  let v189 : BitVec 32 := Scalar.muli c4_i32_98 v188
  let v190 : BitVec 32 := Scalar.addi c0_i32_99 v189
  let c0_i32_110 : BitVec 32 := 0#32
  let c0_i32_111 : BitVec 32 := 0#32
  ![v190.toNat, 0, 0]
def k0_dev4 (d0 : Dev nD) : Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_100 : BitVec 32 := 1#32
  let v191 : BitVec 32 := Scalar.xori v5 c1_i32_100
  let c1_i32_101 : BitVec 32 := 1#32
  let v192 : BitVec 32 := Scalar.shrsi v191 c1_i32_101
  let c1_i32_102 : BitVec 32 := 1#32
  let v193 : BitVec 32 := Scalar.andi v192 c1_i32_102
  let v194 : BitVec 32 := Scalar.xori v191 v193
  let c1_i32_105 : BitVec 32 := 1#32
  let v195 : BitVec 32 := Scalar.muli v194 c1_i32_105
  let v196 : BitVec 32 := Scalar.addi c0_i32_106 v195
  v196.toNat
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_117 : BitVec 32 := 2#32
  let v208 : BitVec 32 := Scalar.xori v5 c2_i32_117
  let c1_i32_118 : BitVec 32 := 1#32
  let v209 : BitVec 32 := Scalar.shrsi v208 c1_i32_118
  let c1_i32_119 : BitVec 32 := 1#32
  let v210 : BitVec 32 := Scalar.andi v209 c1_i32_119
  let v211 : BitVec 32 := Scalar.xori v208 v210
  let c1_i32_121 : BitVec 32 := 1#32
  let v212 : BitVec 32 := Scalar.muli v211 c1_i32_121
  let v213 : BitVec 32 := Scalar.addi c0_i32_122 v212
  v213.toNat
def k0_dev6 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_198 : BitVec 32 := 1#32
  let v355 : BitVec 32 := Scalar.xori v5 c1_i32_198
  let c1_i32_199 : BitVec 32 := 1#32
  let v356 : BitVec 32 := Scalar.shrsi v355 c1_i32_199
  let c1_i32_200 : BitVec 32 := 1#32
  let v357 : BitVec 32 := Scalar.andi v356 c1_i32_200
  let v358 : BitVec 32 := Scalar.xori v355 v357
  let c1_i32_203 : BitVec 32 := 1#32
  let v359 : BitVec 32 := Scalar.muli v358 c1_i32_203
  let v360 : BitVec 32 := Scalar.addi c0_i32_204 v359
  v360.toNat
def k0_dev7 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_215 : BitVec 32 := 2#32
  let v372 : BitVec 32 := Scalar.xori v5 c2_i32_215
  let c1_i32_216 : BitVec 32 := 1#32
  let v373 : BitVec 32 := Scalar.shrsi v372 c1_i32_216
  let c1_i32_217 : BitVec 32 := 1#32
  let v374 : BitVec 32 := Scalar.andi v373 c1_i32_217
  let v375 : BitVec 32 := Scalar.xori v372 v374
  let c1_i32_220 : BitVec 32 := 1#32
  let v376 : BitVec 32 := Scalar.muli v375 c1_i32_220
  let v377 : BitVec 32 := Scalar.addi c0_i32_221 v376
  v377.toNat
def k0_dev8 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_297 : BitVec 32 := 1#32
  let v519 : BitVec 32 := Scalar.xori v5 c1_i32_297
  let c1_i32_298 : BitVec 32 := 1#32
  let v520 : BitVec 32 := Scalar.shrsi v519 c1_i32_298
  let c1_i32_299 : BitVec 32 := 1#32
  let v521 : BitVec 32 := Scalar.andi v520 c1_i32_299
  let v522 : BitVec 32 := Scalar.xori v519 v521
  let c1_i32_302 : BitVec 32 := 1#32
  let v523 : BitVec 32 := Scalar.muli v522 c1_i32_302
  let v524 : BitVec 32 := Scalar.addi c0_i32_303 v523
  v524.toNat
def k0_dev9 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_314 : BitVec 32 := 2#32
  let v536 : BitVec 32 := Scalar.xori v5 c2_i32_314
  let c1_i32_315 : BitVec 32 := 1#32
  let v537 : BitVec 32 := Scalar.shrsi v536 c1_i32_315
  let c1_i32_316 : BitVec 32 := 1#32
  let v538 : BitVec 32 := Scalar.andi v537 c1_i32_316
  let v539 : BitVec 32 := Scalar.xori v536 v538
  let c1_i32_319 : BitVec 32 := 1#32
  let v540 : BitVec 32 := Scalar.muli v539 c1_i32_319
  let v541 : BitVec 32 := Scalar.addi c0_i32_320 v540
  v541.toNat
def k0_dev10 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_396 : BitVec 32 := 1#32
  let v683 : BitVec 32 := Scalar.xori v5 c1_i32_396
  let c1_i32_397 : BitVec 32 := 1#32
  let v684 : BitVec 32 := Scalar.shrsi v683 c1_i32_397
  let c1_i32_398 : BitVec 32 := 1#32
  let v685 : BitVec 32 := Scalar.andi v684 c1_i32_398
  let v686 : BitVec 32 := Scalar.xori v683 v685
  let c1_i32_401 : BitVec 32 := 1#32
  let v687 : BitVec 32 := Scalar.muli v686 c1_i32_401
  let v688 : BitVec 32 := Scalar.addi c0_i32_402 v687
  v688.toNat
def k0_dev11 (d0 : Dev nD) : Nat :=
  let c0_i32_419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_413 : BitVec 32 := 2#32
  let v700 : BitVec 32 := Scalar.xori v5 c2_i32_413
  let c1_i32_414 : BitVec 32 := 1#32
  let v701 : BitVec 32 := Scalar.shrsi v700 c1_i32_414
  let c1_i32_415 : BitVec 32 := 1#32
  let v702 : BitVec 32 := Scalar.andi v701 c1_i32_415
  let v703 : BitVec 32 := Scalar.xori v700 v702
  let c1_i32_418 : BitVec 32 := 1#32
  let v704 : BitVec 32 := Scalar.muli v703 c1_i32_418
  let v705 : BitVec 32 := Scalar.addi c0_i32_419 v704
  v705.toNat
def k0_off3 (d0 : Dev nD) (c0_i32_442 : BitVec 32) : Fin 3 → Nat :=
  let c0_i32_445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v722 : BitVec 32 := Scalar.shrsi v5 c0_i32_442
  let c1_i32_443 : BitVec 32 := 1#32
  let v723 : BitVec 32 := Scalar.andi v722 c1_i32_443
  let c2_i32_444 : BitVec 32 := 2#32
  let v724 : BitVec 32 := Scalar.shli v723 c2_i32_444
  let v725 : BitVec 32 := Scalar.addi c0_i32_445 v724
  let v726 : Index := Scalar.indexCast v725
  let c0_446 : Index := 0#32
  let c0_447 : Index := 0#32
  ![v726.toNat, 0, 0]
def k0_off4 (d0 : Dev nD) (c0_i32_453 : BitVec 32) (c1_i32_457 : BitVec 32) : Fin 3 → Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v734 : BitVec 32 := Scalar.shrsi v5 c0_i32_453
  let c1_i32_454 : BitVec 32 := 1#32
  let v735 : BitVec 32 := Scalar.andi v734 c1_i32_454
  let c2_i32_455 : BitVec 32 := 2#32
  let v736 : BitVec 32 := Scalar.shli v735 c2_i32_455
  let v737 : BitVec 32 := Scalar.addi c0_i32_456 v736
  let c2_i32_460 : BitVec 32 := 2#32
  let c1_i32_459 : BitVec 32 := 1#32
  let v738 : BitVec 32 := Scalar.shrsi v5 c1_i32_457
  let c1_i32_458 : BitVec 32 := 1#32
  let v739 : BitVec 32 := Scalar.andi v738 c1_i32_458
  let v740 : BitVec 32 := Scalar.subi c1_i32_459 v739
  let v741 : BitVec 32 := Scalar.muli c2_i32_460 v740
  let v742 : BitVec 32 := Scalar.addi v737 v741
  let c0_i32_471 : BitVec 32 := 0#32
  let c0_i32_472 : BitVec 32 := 0#32
  ![v742.toNat, 0, 0]
def k0_off4_at (r : Fin 2) : BitVec 32 × BitVec 32 :=
  if r.val < 1 then
    (0#32, 1#32)
  else
    (1#32, 2#32)
def k0_dev12 (d0 : Dev nD) : Nat :=
  let c0_i32_467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_461 : BitVec 32 := 2#32
  let v743 : BitVec 32 := Scalar.xori v5 c2_i32_461
  let c1_i32_462 : BitVec 32 := 1#32
  let v744 : BitVec 32 := Scalar.shrsi v743 c1_i32_462
  let c1_i32_463 : BitVec 32 := 1#32
  let v745 : BitVec 32 := Scalar.andi v744 c1_i32_463
  let v746 : BitVec 32 := Scalar.xori v743 v745
  let c1_i32_466 : BitVec 32 := 1#32
  let v747 : BitVec 32 := Scalar.muli v746 c1_i32_466
  let v748 : BitVec 32 := Scalar.addi c0_i32_467 v747
  v748.toNat
def k0_dev13 (d0 : Dev nD) : Nat :=
  let c0_i32_514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_509 : BitVec 32 := 4#32
  let v786 : BitVec 32 := Scalar.xori v5 c4_i32_509
  let c1_i32_510 : BitVec 32 := 1#32
  let v787 : BitVec 32 := Scalar.shrsi v786 c1_i32_510
  let c1_i32_511 : BitVec 32 := 1#32
  let v788 : BitVec 32 := Scalar.andi v787 c1_i32_511
  let v789 : BitVec 32 := Scalar.xori v786 v788
  let c1_i32_513 : BitVec 32 := 1#32
  let v790 : BitVec 32 := Scalar.muli v789 c1_i32_513
  let v791 : BitVec 32 := Scalar.addi c0_i32_514 v790
  v791.toNat
def k0_dev14 (d0 : Dev nD) : Nat :=
  let c0_i32_562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_556 : BitVec 32 := 2#32
  let v829 : BitVec 32 := Scalar.xori v5 c2_i32_556
  let c1_i32_557 : BitVec 32 := 1#32
  let v830 : BitVec 32 := Scalar.shrsi v829 c1_i32_557
  let c1_i32_558 : BitVec 32 := 1#32
  let v831 : BitVec 32 := Scalar.andi v830 c1_i32_558
  let v832 : BitVec 32 := Scalar.xori v829 v831
  let c1_i32_561 : BitVec 32 := 1#32
  let v833 : BitVec 32 := Scalar.muli v832 c1_i32_561
  let v834 : BitVec 32 := Scalar.addi c0_i32_562 v833
  v834.toNat
def k0_dev15 (d0 : Dev nD) : Nat :=
  let c0_i32_610 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_604 : BitVec 32 := 4#32
  let v872 : BitVec 32 := Scalar.xori v5 c4_i32_604
  let c1_i32_605 : BitVec 32 := 1#32
  let v873 : BitVec 32 := Scalar.shrsi v872 c1_i32_605
  let c1_i32_606 : BitVec 32 := 1#32
  let v874 : BitVec 32 := Scalar.andi v873 c1_i32_606
  let v875 : BitVec 32 := Scalar.xori v872 v874
  let c1_i32_609 : BitVec 32 := 1#32
  let v876 : BitVec 32 := Scalar.muli v875 c1_i32_609
  let v877 : BitVec 32 := Scalar.addi c0_i32_610 v876
  v877.toNat
def k0_dev16 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_652 : BitVec 32 := 2#32
  let v915 : BitVec 32 := Scalar.xori v5 c2_i32_652
  let c1_i32_653 : BitVec 32 := 1#32
  let v916 : BitVec 32 := Scalar.shrsi v915 c1_i32_653
  let c1_i32_654 : BitVec 32 := 1#32
  let v917 : BitVec 32 := Scalar.andi v916 c1_i32_654
  let v918 : BitVec 32 := Scalar.xori v915 v917
  let c1_i32_657 : BitVec 32 := 1#32
  let v919 : BitVec 32 := Scalar.muli v918 c1_i32_657
  let v920 : BitVec 32 := Scalar.addi c0_i32_658 v919
  v920.toNat
def k0_dev17 (d0 : Dev nD) : Nat :=
  let c0_i32_706 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_700 : BitVec 32 := 4#32
  let v958 : BitVec 32 := Scalar.xori v5 c4_i32_700
  let c1_i32_701 : BitVec 32 := 1#32
  let v959 : BitVec 32 := Scalar.shrsi v958 c1_i32_701
  let c1_i32_702 : BitVec 32 := 1#32
  let v960 : BitVec 32 := Scalar.andi v959 c1_i32_702
  let v961 : BitVec 32 := Scalar.xori v958 v960
  let c1_i32_705 : BitVec 32 := 1#32
  let v962 : BitVec 32 := Scalar.muli v961 c1_i32_705
  let v963 : BitVec 32 := Scalar.addi c0_i32_706 v962
  v963.toNat
def k0_dev18 (d0 : Dev nD) : Nat :=
  let c0_i32_754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_748 : BitVec 32 := 2#32
  let v1001 : BitVec 32 := Scalar.xori v5 c2_i32_748
  let c1_i32_749 : BitVec 32 := 1#32
  let v1002 : BitVec 32 := Scalar.shrsi v1001 c1_i32_749
  let c1_i32_750 : BitVec 32 := 1#32
  let v1003 : BitVec 32 := Scalar.andi v1002 c1_i32_750
  let v1004 : BitVec 32 := Scalar.xori v1001 v1003
  let c1_i32_753 : BitVec 32 := 1#32
  let v1005 : BitVec 32 := Scalar.muli v1004 c1_i32_753
  let v1006 : BitVec 32 := Scalar.addi c0_i32_754 v1005
  v1006.toNat
def k0_dev19 (d0 : Dev nD) : Nat :=
  let c0_i32_802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_796 : BitVec 32 := 4#32
  let v1044 : BitVec 32 := Scalar.xori v5 c4_i32_796
  let c1_i32_797 : BitVec 32 := 1#32
  let v1045 : BitVec 32 := Scalar.shrsi v1044 c1_i32_797
  let c1_i32_798 : BitVec 32 := 1#32
  let v1046 : BitVec 32 := Scalar.andi v1045 c1_i32_798
  let v1047 : BitVec 32 := Scalar.xori v1044 v1046
  let c1_i32_801 : BitVec 32 := 1#32
  let v1048 : BitVec 32 := Scalar.muli v1047 c1_i32_801
  let v1049 : BitVec 32 := Scalar.addi c0_i32_802 v1048
  v1049.toNat
def k0_off5 (d0 : Dev nD) (c0_i32_825 : BitVec 32) (c1_i32_829 : BitVec 32) : Fin 3 → Nat :=
  let c0_i32_828 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1066 : BitVec 32 := Scalar.shrsi v5 c0_i32_825
  let c1_i32_826 : BitVec 32 := 1#32
  let v1067 : BitVec 32 := Scalar.andi v1066 c1_i32_826
  let c2_i32_827 : BitVec 32 := 2#32
  let v1068 : BitVec 32 := Scalar.shli v1067 c2_i32_827
  let v1069 : BitVec 32 := Scalar.addi c0_i32_828 v1068
  let v1070 : BitVec 32 := Scalar.shrsi v5 c1_i32_829
  let c1_i32_830 : BitVec 32 := 1#32
  let v1071 : BitVec 32 := Scalar.andi v1070 c1_i32_830
  let c1_i32_831 : BitVec 32 := 1#32
  let v1072 : BitVec 32 := Scalar.shli v1071 c1_i32_831
  let v1073 : BitVec 32 := Scalar.addi v1069 v1072
  let v1074 : Index := Scalar.indexCast v1073
  let c0_832 : Index := 0#32
  let c0_833 : Index := 0#32
  ![v1074.toNat, 0, 0]
def k0_off5_at (r : Fin 2) : BitVec 32 × BitVec 32 :=
  if r.val < 1 then
    (0#32, 1#32)
  else
    (1#32, 2#32)
def k0_off6 (d0 : Dev nD) (c0_i32_839 : BitVec 32) (c1_i32_843 : BitVec 32) (c2_i32_846 : BitVec 32) : Fin 3 → Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1082 : BitVec 32 := Scalar.shrsi v5 c0_i32_839
  let c1_i32_840 : BitVec 32 := 1#32
  let v1083 : BitVec 32 := Scalar.andi v1082 c1_i32_840
  let c2_i32_841 : BitVec 32 := 2#32
  let v1084 : BitVec 32 := Scalar.shli v1083 c2_i32_841
  let v1085 : BitVec 32 := Scalar.addi c0_i32_842 v1084
  let v1086 : BitVec 32 := Scalar.shrsi v5 c1_i32_843
  let c1_i32_844 : BitVec 32 := 1#32
  let v1087 : BitVec 32 := Scalar.andi v1086 c1_i32_844
  let c1_i32_845 : BitVec 32 := 1#32
  let v1088 : BitVec 32 := Scalar.shli v1087 c1_i32_845
  let v1089 : BitVec 32 := Scalar.addi v1085 v1088
  let c1_i32_849 : BitVec 32 := 1#32
  let c1_i32_848 : BitVec 32 := 1#32
  let v1090 : BitVec 32 := Scalar.shrsi v5 c2_i32_846
  let c1_i32_847 : BitVec 32 := 1#32
  let v1091 : BitVec 32 := Scalar.andi v1090 c1_i32_847
  let v1092 : BitVec 32 := Scalar.subi c1_i32_848 v1091
  let v1093 : BitVec 32 := Scalar.muli c1_i32_849 v1092
  let v1094 : BitVec 32 := Scalar.addi v1089 v1093
  let c0_i32_860 : BitVec 32 := 0#32
  let c0_i32_861 : BitVec 32 := 0#32
  ![v1094.toNat, 0, 0]
def k0_off6_at (r : Fin 2) : BitVec 32 × BitVec 32 × BitVec 32 :=
  if r.val < 1 then
    (0#32, 1#32, 2#32)
  else
    (1#32, 2#32, 0#32)
def k0_dev20 (d0 : Dev nD) : Nat :=
  let c0_i32_856 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_850 : BitVec 32 := 4#32
  let v1095 : BitVec 32 := Scalar.xori v5 c4_i32_850
  let c1_i32_851 : BitVec 32 := 1#32
  let v1096 : BitVec 32 := Scalar.shrsi v1095 c1_i32_851
  let c1_i32_852 : BitVec 32 := 1#32
  let v1097 : BitVec 32 := Scalar.andi v1096 c1_i32_852
  let v1098 : BitVec 32 := Scalar.xori v1095 v1097
  let c1_i32_855 : BitVec 32 := 1#32
  let v1099 : BitVec 32 := Scalar.muli v1098 c1_i32_855
  let v1100 : BitVec 32 := Scalar.addi c0_i32_856 v1099
  v1100.toNat
def k0_dev21 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_904 : BitVec 32 := 1#32
  let v1146 : BitVec 32 := Scalar.xori v5 c1_i32_904
  let c1_i32_905 : BitVec 32 := 1#32
  let v1147 : BitVec 32 := Scalar.shrsi v1146 c1_i32_905
  let c1_i32_906 : BitVec 32 := 1#32
  let v1148 : BitVec 32 := Scalar.andi v1147 c1_i32_906
  let v1149 : BitVec 32 := Scalar.xori v1146 v1148
  let c1_i32_909 : BitVec 32 := 1#32
  let v1150 : BitVec 32 := Scalar.muli v1149 c1_i32_909
  let v1151 : BitVec 32 := Scalar.addi c0_i32_910 v1150
  v1151.toNat
def k0_dev22 (d0 : Dev nD) : Nat :=
  let c0_i32_964 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_958 : BitVec 32 := 4#32
  let v1197 : BitVec 32 := Scalar.xori v5 c4_i32_958
  let c1_i32_959 : BitVec 32 := 1#32
  let v1198 : BitVec 32 := Scalar.shrsi v1197 c1_i32_959
  let c1_i32_960 : BitVec 32 := 1#32
  let v1199 : BitVec 32 := Scalar.andi v1198 c1_i32_960
  let v1200 : BitVec 32 := Scalar.xori v1197 v1199
  let c1_i32_963 : BitVec 32 := 1#32
  let v1201 : BitVec 32 := Scalar.muli v1200 c1_i32_963
  let v1202 : BitVec 32 := Scalar.addi c0_i32_964 v1201
  v1202.toNat
def k0_dev23 (d0 : Dev nD) : Nat :=
  let c0_i32_1018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1012 : BitVec 32 := 1#32
  let v1248 : BitVec 32 := Scalar.xori v5 c1_i32_1012
  let c1_i32_1013 : BitVec 32 := 1#32
  let v1249 : BitVec 32 := Scalar.shrsi v1248 c1_i32_1013
  let c1_i32_1014 : BitVec 32 := 1#32
  let v1250 : BitVec 32 := Scalar.andi v1249 c1_i32_1014
  let v1251 : BitVec 32 := Scalar.xori v1248 v1250
  let c1_i32_1017 : BitVec 32 := 1#32
  let v1252 : BitVec 32 := Scalar.muli v1251 c1_i32_1017
  let v1253 : BitVec 32 := Scalar.addi c0_i32_1018 v1252
  v1253.toNat
def k0_dev24 (d0 : Dev nD) : Nat :=
  let c0_i32_1072 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1066 : BitVec 32 := 4#32
  let v1299 : BitVec 32 := Scalar.xori v5 c4_i32_1066
  let c1_i32_1067 : BitVec 32 := 1#32
  let v1300 : BitVec 32 := Scalar.shrsi v1299 c1_i32_1067
  let c1_i32_1068 : BitVec 32 := 1#32
  let v1301 : BitVec 32 := Scalar.andi v1300 c1_i32_1068
  let v1302 : BitVec 32 := Scalar.xori v1299 v1301
  let c1_i32_1071 : BitVec 32 := 1#32
  let v1303 : BitVec 32 := Scalar.muli v1302 c1_i32_1071
  let v1304 : BitVec 32 := Scalar.addi c0_i32_1072 v1303
  v1304.toNat
def k0_dev25 (d0 : Dev nD) : Nat :=
  let c0_i32_1126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1120 : BitVec 32 := 1#32
  let v1350 : BitVec 32 := Scalar.xori v5 c1_i32_1120
  let c1_i32_1121 : BitVec 32 := 1#32
  let v1351 : BitVec 32 := Scalar.shrsi v1350 c1_i32_1121
  let c1_i32_1122 : BitVec 32 := 1#32
  let v1352 : BitVec 32 := Scalar.andi v1351 c1_i32_1122
  let v1353 : BitVec 32 := Scalar.xori v1350 v1352
  let c1_i32_1125 : BitVec 32 := 1#32
  let v1354 : BitVec 32 := Scalar.muli v1353 c1_i32_1125
  let v1355 : BitVec 32 := Scalar.addi c0_i32_1126 v1354
  v1355.toNat
def k0_dev26 (d0 : Dev nD) : Nat :=
  let c0_i32_1180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1174 : BitVec 32 := 4#32
  let v1401 : BitVec 32 := Scalar.xori v5 c4_i32_1174
  let c1_i32_1175 : BitVec 32 := 1#32
  let v1402 : BitVec 32 := Scalar.shrsi v1401 c1_i32_1175
  let c1_i32_1176 : BitVec 32 := 1#32
  let v1403 : BitVec 32 := Scalar.andi v1402 c1_i32_1176
  let v1404 : BitVec 32 := Scalar.xori v1401 v1403
  let c1_i32_1179 : BitVec 32 := 1#32
  let v1405 : BitVec 32 := Scalar.muli v1404 c1_i32_1179
  let v1406 : BitVec 32 := Scalar.addi c0_i32_1180 v1405
  v1406.toNat
def k0_dev27 (d0 : Dev nD) : Nat :=
  let c0_i32_1234 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1228 : BitVec 32 := 1#32
  let v1452 : BitVec 32 := Scalar.xori v5 c1_i32_1228
  let c1_i32_1229 : BitVec 32 := 1#32
  let v1453 : BitVec 32 := Scalar.shrsi v1452 c1_i32_1229
  let c1_i32_1230 : BitVec 32 := 1#32
  let v1454 : BitVec 32 := Scalar.andi v1453 c1_i32_1230
  let v1455 : BitVec 32 := Scalar.xori v1452 v1454
  let c1_i32_1233 : BitVec 32 := 1#32
  let v1456 : BitVec 32 := Scalar.muli v1455 c1_i32_1233
  let v1457 : BitVec 32 := Scalar.addi c0_i32_1234 v1456
  v1457.toNat
def k0_off7 (d0 : Dev nD) (c0_i32_1257 : BitVec 32) (c1_i32_1261 : BitVec 32) (c2_i32_1264 : BitVec 32) : Fin 3 → Nat :=
  let c0_i32_1260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let v1474 : BitVec 32 := Scalar.shrsi v5 c0_i32_1257
  let c1_i32_1258 : BitVec 32 := 1#32
  let v1475 : BitVec 32 := Scalar.andi v1474 c1_i32_1258
  let c2_i32_1259 : BitVec 32 := 2#32
  let v1476 : BitVec 32 := Scalar.shli v1475 c2_i32_1259
  let v1477 : BitVec 32 := Scalar.addi c0_i32_1260 v1476
  let v1478 : BitVec 32 := Scalar.shrsi v5 c1_i32_1261
  let c1_i32_1262 : BitVec 32 := 1#32
  let v1479 : BitVec 32 := Scalar.andi v1478 c1_i32_1262
  let c1_i32_1263 : BitVec 32 := 1#32
  let v1480 : BitVec 32 := Scalar.shli v1479 c1_i32_1263
  let v1481 : BitVec 32 := Scalar.addi v1477 v1480
  let v1482 : BitVec 32 := Scalar.shrsi v5 c2_i32_1264
  let c1_i32_1265 : BitVec 32 := 1#32
  let v1483 : BitVec 32 := Scalar.andi v1482 c1_i32_1265
  let c0_i32_1266 : BitVec 32 := 0#32
  let v1484 : BitVec 32 := Scalar.shli v1483 c0_i32_1266
  let v1485 : BitVec 32 := Scalar.addi v1481 v1484
  let v1486 : Index := Scalar.indexCast v1485
  let c0_1267 : Index := 0#32
  let c0_1268 : Index := 0#32
  ![v1486.toNat, 0, 0]
def k0_off7_at (r : Fin 2) : BitVec 32 × BitVec 32 × BitVec 32 :=
  if r.val < 1 then
    (0#32, 1#32, 2#32)
  else
    (1#32, 2#32, 0#32)
def k0_off8 (d0 : Dev nD) : Fin 3 → Nat :=
  let c0_1292 : Index := 0#32
  let c0_i32_1277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1274 : BitVec 32 := 0#32
  let v1494 : BitVec 32 := Scalar.shrsi v5 c0_i32_1274
  let c1_i32_1275 : BitVec 32 := 1#32
  let v1495 : BitVec 32 := Scalar.andi v1494 c1_i32_1275
  let c2_i32_1276 : BitVec 32 := 2#32
  let v1496 : BitVec 32 := Scalar.shli v1495 c2_i32_1276
  let v1497 : BitVec 32 := Scalar.addi c0_i32_1277 v1496
  let c1_i32_1278 : BitVec 32 := 1#32
  let v1498 : BitVec 32 := Scalar.shrsi v5 c1_i32_1278
  let c1_i32_1279 : BitVec 32 := 1#32
  let v1499 : BitVec 32 := Scalar.andi v1498 c1_i32_1279
  let c1_i32_1280 : BitVec 32 := 1#32
  let v1500 : BitVec 32 := Scalar.shli v1499 c1_i32_1280
  let v1501 : BitVec 32 := Scalar.addi v1497 v1500
  let c2_i32_1281 : BitVec 32 := 2#32
  let v1502 : BitVec 32 := Scalar.shrsi v5 c2_i32_1281
  let c1_i32_1282 : BitVec 32 := 1#32
  let v1503 : BitVec 32 := Scalar.andi v1502 c1_i32_1282
  let c0_i32_1283 : BitVec 32 := 0#32
  let v1504 : BitVec 32 := Scalar.shli v1503 c0_i32_1283
  let v1505 : BitVec 32 := Scalar.addi v1501 v1504
  let c2_i32_1284 : BitVec 32 := 2#32
  let v1506 : BitVec 32 := Scalar.shrsi v1505 c2_i32_1284
  let c1_i32_1285 : BitVec 32 := 1#32
  let v1507 : BitVec 32 := Scalar.andi v1506 c1_i32_1285
  let c2_i32_1286 : BitVec 32 := 2#32
  let v1508 : BitVec 32 := Scalar.andi v1505 c2_i32_1286
  let v1509 : BitVec 32 := Scalar.ori v1507 v1508
  let c1_i32_1287 : BitVec 32 := 1#32
  let v1510 : BitVec 32 := Scalar.andi v1505 c1_i32_1287
  let c2_i32_1288 : BitVec 32 := 2#32
  let v1511 : BitVec 32 := Scalar.shli v1510 c2_i32_1288
  let v1512 : BitVec 32 := Scalar.ori v1509 v1511
  let c32_i32 : BitVec 32 := 32#32
  let v1513 : BitVec 32 := Scalar.muli v1512 c32_i32
  let c0_i32_1289 : BitVec 32 := 0#32
  let v1514 : BitVec 32 := Scalar.addi v1513 c0_i32_1289
  let v1518 : Index := Scalar.indexCast v1514
  let c0_1293 : Index := 0#32
  ![0, v1518.toNat, 0]
def k0_off9 (d0 : Dev nD) : Fin 3 → Nat :=
  let c0_i32_1316 : BitVec 32 := 0#32
  let c0_i32_1297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1294 : BitVec 32 := 0#32
  let v1522 : BitVec 32 := Scalar.shrsi v5 c0_i32_1294
  let c1_i32_1295 : BitVec 32 := 1#32
  let v1523 : BitVec 32 := Scalar.andi v1522 c1_i32_1295
  let c2_i32_1296 : BitVec 32 := 2#32
  let v1524 : BitVec 32 := Scalar.shli v1523 c2_i32_1296
  let v1525 : BitVec 32 := Scalar.addi c0_i32_1297 v1524
  let c1_i32_1298 : BitVec 32 := 1#32
  let v1526 : BitVec 32 := Scalar.shrsi v5 c1_i32_1298
  let c1_i32_1299 : BitVec 32 := 1#32
  let v1527 : BitVec 32 := Scalar.andi v1526 c1_i32_1299
  let c1_i32_1300 : BitVec 32 := 1#32
  let v1528 : BitVec 32 := Scalar.shli v1527 c1_i32_1300
  let v1529 : BitVec 32 := Scalar.addi v1525 v1528
  let c2_i32_1301 : BitVec 32 := 2#32
  let v1530 : BitVec 32 := Scalar.shrsi v5 c2_i32_1301
  let c1_i32_1302 : BitVec 32 := 1#32
  let v1531 : BitVec 32 := Scalar.andi v1530 c1_i32_1302
  let c0_i32_1303 : BitVec 32 := 0#32
  let v1532 : BitVec 32 := Scalar.shli v1531 c0_i32_1303
  let v1533 : BitVec 32 := Scalar.addi v1529 v1532
  let c0_i32_1304 : BitVec 32 := 0#32
  let v1534 : BitVec 32 := Scalar.addi v1533 c0_i32_1304
  let c2_i32_1305 : BitVec 32 := 2#32
  let v1535 : BitVec 32 := Scalar.shrsi v1534 c2_i32_1305
  let c1_i32_1306 : BitVec 32 := 1#32
  let v1536 : BitVec 32 := Scalar.andi v1535 c1_i32_1306
  let c2_i32_1307 : BitVec 32 := 2#32
  let v1537 : BitVec 32 := Scalar.andi v1534 c2_i32_1307
  let v1538 : BitVec 32 := Scalar.ori v1536 v1537
  let c1_i32_1308 : BitVec 32 := 1#32
  let v1539 : BitVec 32 := Scalar.andi v1534 c1_i32_1308
  let c2_i32_1309 : BitVec 32 := 2#32
  let v1540 : BitVec 32 := Scalar.shli v1539 c2_i32_1309
  let v1541 : BitVec 32 := Scalar.ori v1538 v1540
  let c32_i32_1310 : BitVec 32 := 32#32
  let v1542 : BitVec 32 := Scalar.muli v1541 c32_i32_1310
  let c0_i32_1311 : BitVec 32 := 0#32
  let v1543 : BitVec 32 := Scalar.addi v1542 c0_i32_1311
  let c0_i32_1321 : BitVec 32 := 0#32
  ![0, v1543.toNat, 0]
def k0_dev28 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1312 : BitVec 32 := 4#32
  let v1544 : BitVec 32 := Scalar.xori v5 c4_i32_1312
  let c1_i32_1313 : BitVec 32 := 1#32
  let v1545 : BitVec 32 := Scalar.shrsi v1544 c1_i32_1313
  let c1_i32_1314 : BitVec 32 := 1#32
  let v1546 : BitVec 32 := Scalar.andi v1545 c1_i32_1314
  let v1547 : BitVec 32 := Scalar.xori v1544 v1546
  let c1_i32_1319 : BitVec 32 := 1#32
  let v1548 : BitVec 32 := Scalar.muli v1547 c1_i32_1319
  let v1549 : BitVec 32 := Scalar.addi c0_i32_1320 v1548
  v1549.toNat
def k0_off10 (d0 : Dev nD) : Fin 3 → Nat :=
  let c0_1377 : Index := 0#32
  let c0_i32_1360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1357 : BitVec 32 := 1#32
  let v1588 : BitVec 32 := Scalar.shrsi v5 c1_i32_1357
  let c1_i32_1358 : BitVec 32 := 1#32
  let v1589 : BitVec 32 := Scalar.andi v1588 c1_i32_1358
  let c2_i32_1359 : BitVec 32 := 2#32
  let v1590 : BitVec 32 := Scalar.shli v1589 c2_i32_1359
  let v1591 : BitVec 32 := Scalar.addi c0_i32_1360 v1590
  let c2_i32_1361 : BitVec 32 := 2#32
  let v1592 : BitVec 32 := Scalar.shrsi v5 c2_i32_1361
  let c1_i32_1362 : BitVec 32 := 1#32
  let v1593 : BitVec 32 := Scalar.andi v1592 c1_i32_1362
  let c1_i32_1363 : BitVec 32 := 1#32
  let v1594 : BitVec 32 := Scalar.shli v1593 c1_i32_1363
  let v1595 : BitVec 32 := Scalar.addi v1591 v1594
  let c0_i32_1364 : BitVec 32 := 0#32
  let v1596 : BitVec 32 := Scalar.shrsi v5 c0_i32_1364
  let c1_i32_1365 : BitVec 32 := 1#32
  let v1597 : BitVec 32 := Scalar.andi v1596 c1_i32_1365
  let c0_i32_1366 : BitVec 32 := 0#32
  let v1598 : BitVec 32 := Scalar.shli v1597 c0_i32_1366
  let v1599 : BitVec 32 := Scalar.addi v1595 v1598
  let c1_i32_1367 : BitVec 32 := 1#32
  let v1600 : BitVec 32 := Scalar.andi v1599 c1_i32_1367
  let c2_i32_1368 : BitVec 32 := 2#32
  let v1601 : BitVec 32 := Scalar.shrsi v1599 c2_i32_1368
  let c1_i32_1369 : BitVec 32 := 1#32
  let v1602 : BitVec 32 := Scalar.andi v1601 c1_i32_1369
  let c1_i32_1370 : BitVec 32 := 1#32
  let v1603 : BitVec 32 := Scalar.shli v1602 c1_i32_1370
  let v1604 : BitVec 32 := Scalar.ori v1600 v1603
  let c1_i32_1371 : BitVec 32 := 1#32
  let v1605 : BitVec 32 := Scalar.shrsi v1599 c1_i32_1371
  let c1_i32_1372 : BitVec 32 := 1#32
  let v1606 : BitVec 32 := Scalar.andi v1605 c1_i32_1372
  let c2_i32_1373 : BitVec 32 := 2#32
  let v1607 : BitVec 32 := Scalar.shli v1606 c2_i32_1373
  let v1608 : BitVec 32 := Scalar.ori v1604 v1607
  let c32_i32_1374 : BitVec 32 := 32#32
  let v1609 : BitVec 32 := Scalar.muli v1608 c32_i32_1374
  let c16_i32 : BitVec 32 := 16#32
  let v1610 : BitVec 32 := Scalar.addi v1609 c16_i32
  let v1614 : Index := Scalar.indexCast v1610
  let c0_1378 : Index := 0#32
  ![0, v1614.toNat, 0]
def k0_off11 (d0 : Dev nD) : Fin 3 → Nat :=
  let c0_i32_1403 : BitVec 32 := 0#32
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1379 : BitVec 32 := 1#32
  let v1618 : BitVec 32 := Scalar.shrsi v5 c1_i32_1379
  let c1_i32_1380 : BitVec 32 := 1#32
  let v1619 : BitVec 32 := Scalar.andi v1618 c1_i32_1380
  let c2_i32_1381 : BitVec 32 := 2#32
  let v1620 : BitVec 32 := Scalar.shli v1619 c2_i32_1381
  let v1621 : BitVec 32 := Scalar.addi c0_i32_1382 v1620
  let c2_i32_1383 : BitVec 32 := 2#32
  let v1622 : BitVec 32 := Scalar.shrsi v5 c2_i32_1383
  let c1_i32_1384 : BitVec 32 := 1#32
  let v1623 : BitVec 32 := Scalar.andi v1622 c1_i32_1384
  let c1_i32_1385 : BitVec 32 := 1#32
  let v1624 : BitVec 32 := Scalar.shli v1623 c1_i32_1385
  let v1625 : BitVec 32 := Scalar.addi v1621 v1624
  let c0_i32_1386 : BitVec 32 := 0#32
  let v1626 : BitVec 32 := Scalar.shrsi v5 c0_i32_1386
  let c1_i32_1387 : BitVec 32 := 1#32
  let v1627 : BitVec 32 := Scalar.andi v1626 c1_i32_1387
  let c0_i32_1388 : BitVec 32 := 0#32
  let v1628 : BitVec 32 := Scalar.shli v1627 c0_i32_1388
  let v1629 : BitVec 32 := Scalar.addi v1625 v1628
  let c0_i32_1389 : BitVec 32 := 0#32
  let v1630 : BitVec 32 := Scalar.addi v1629 c0_i32_1389
  let c1_i32_1390 : BitVec 32 := 1#32
  let v1631 : BitVec 32 := Scalar.andi v1630 c1_i32_1390
  let c2_i32_1391 : BitVec 32 := 2#32
  let v1632 : BitVec 32 := Scalar.shrsi v1630 c2_i32_1391
  let c1_i32_1392 : BitVec 32 := 1#32
  let v1633 : BitVec 32 := Scalar.andi v1632 c1_i32_1392
  let c1_i32_1393 : BitVec 32 := 1#32
  let v1634 : BitVec 32 := Scalar.shli v1633 c1_i32_1393
  let v1635 : BitVec 32 := Scalar.ori v1631 v1634
  let c1_i32_1394 : BitVec 32 := 1#32
  let v1636 : BitVec 32 := Scalar.shrsi v1630 c1_i32_1394
  let c1_i32_1395 : BitVec 32 := 1#32
  let v1637 : BitVec 32 := Scalar.andi v1636 c1_i32_1395
  let c2_i32_1396 : BitVec 32 := 2#32
  let v1638 : BitVec 32 := Scalar.shli v1637 c2_i32_1396
  let v1639 : BitVec 32 := Scalar.ori v1635 v1638
  let c32_i32_1397 : BitVec 32 := 32#32
  let v1640 : BitVec 32 := Scalar.muli v1639 c32_i32_1397
  let c16_i32_1398 : BitVec 32 := 16#32
  let v1641 : BitVec 32 := Scalar.addi v1640 c16_i32_1398
  let c0_i32_1407 : BitVec 32 := 0#32
  ![0, v1641.toNat, 0]
def k0_dev29 (d0 : Dev nD) : Nat :=
  let c0_i32_1406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1399 : BitVec 32 := 1#32
  let v1642 : BitVec 32 := Scalar.xori v5 c1_i32_1399
  let c1_i32_1400 : BitVec 32 := 1#32
  let v1643 : BitVec 32 := Scalar.shrsi v1642 c1_i32_1400
  let c1_i32_1401 : BitVec 32 := 1#32
  let v1644 : BitVec 32 := Scalar.andi v1643 c1_i32_1401
  let v1645 : BitVec 32 := Scalar.xori v1642 v1644
  let c1_i32_1405 : BitVec 32 := 1#32
  let v1646 : BitVec 32 := Scalar.muli v1645 c1_i32_1405
  let v1647 : BitVec 32 := Scalar.addi c0_i32_1406 v1646
  v1647.toNat
def k0_off12 (d0 : Dev nD) : Fin 3 → Nat :=
  let c1_1462 : Index := 1#32
  let c0_i32_1446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1443 : BitVec 32 := 0#32
  let v1686 : BitVec 32 := Scalar.shrsi v5 c0_i32_1443
  let c1_i32_1444 : BitVec 32 := 1#32
  let v1687 : BitVec 32 := Scalar.andi v1686 c1_i32_1444
  let c2_i32_1445 : BitVec 32 := 2#32
  let v1688 : BitVec 32 := Scalar.shli v1687 c2_i32_1445
  let v1689 : BitVec 32 := Scalar.addi c0_i32_1446 v1688
  let c1_i32_1447 : BitVec 32 := 1#32
  let v1690 : BitVec 32 := Scalar.shrsi v5 c1_i32_1447
  let c1_i32_1448 : BitVec 32 := 1#32
  let v1691 : BitVec 32 := Scalar.andi v1690 c1_i32_1448
  let c1_i32_1449 : BitVec 32 := 1#32
  let v1692 : BitVec 32 := Scalar.shli v1691 c1_i32_1449
  let v1693 : BitVec 32 := Scalar.addi v1689 v1692
  let c2_i32_1450 : BitVec 32 := 2#32
  let v1694 : BitVec 32 := Scalar.shrsi v5 c2_i32_1450
  let c1_i32_1451 : BitVec 32 := 1#32
  let v1695 : BitVec 32 := Scalar.andi v1694 c1_i32_1451
  let c0_i32_1452 : BitVec 32 := 0#32
  let v1696 : BitVec 32 := Scalar.shli v1695 c0_i32_1452
  let v1697 : BitVec 32 := Scalar.addi v1693 v1696
  let c2_i32_1453 : BitVec 32 := 2#32
  let v1698 : BitVec 32 := Scalar.shrsi v1697 c2_i32_1453
  let c1_i32_1454 : BitVec 32 := 1#32
  let v1699 : BitVec 32 := Scalar.andi v1698 c1_i32_1454
  let c2_i32_1455 : BitVec 32 := 2#32
  let v1700 : BitVec 32 := Scalar.andi v1697 c2_i32_1455
  let v1701 : BitVec 32 := Scalar.ori v1699 v1700
  let c1_i32_1456 : BitVec 32 := 1#32
  let v1702 : BitVec 32 := Scalar.andi v1697 c1_i32_1456
  let c2_i32_1457 : BitVec 32 := 2#32
  let v1703 : BitVec 32 := Scalar.shli v1702 c2_i32_1457
  let v1704 : BitVec 32 := Scalar.ori v1701 v1703
  let c32_i32_1458 : BitVec 32 := 32#32
  let v1705 : BitVec 32 := Scalar.muli v1704 c32_i32_1458
  let c0_i32_1459 : BitVec 32 := 0#32
  let v1706 : BitVec 32 := Scalar.addi v1705 c0_i32_1459
  let v1710 : Index := Scalar.indexCast v1706
  let c0_1463 : Index := 0#32
  ![1, v1710.toNat, 0]
def k0_off13 (d0 : Dev nD) : Fin 3 → Nat :=
  let c1_i32_1486 : BitVec 32 := 1#32
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1464 : BitVec 32 := 0#32
  let v1714 : BitVec 32 := Scalar.shrsi v5 c0_i32_1464
  let c1_i32_1465 : BitVec 32 := 1#32
  let v1715 : BitVec 32 := Scalar.andi v1714 c1_i32_1465
  let c2_i32_1466 : BitVec 32 := 2#32
  let v1716 : BitVec 32 := Scalar.shli v1715 c2_i32_1466
  let v1717 : BitVec 32 := Scalar.addi c0_i32_1467 v1716
  let c1_i32_1468 : BitVec 32 := 1#32
  let v1718 : BitVec 32 := Scalar.shrsi v5 c1_i32_1468
  let c1_i32_1469 : BitVec 32 := 1#32
  let v1719 : BitVec 32 := Scalar.andi v1718 c1_i32_1469
  let c1_i32_1470 : BitVec 32 := 1#32
  let v1720 : BitVec 32 := Scalar.shli v1719 c1_i32_1470
  let v1721 : BitVec 32 := Scalar.addi v1717 v1720
  let c2_i32_1471 : BitVec 32 := 2#32
  let v1722 : BitVec 32 := Scalar.shrsi v5 c2_i32_1471
  let c1_i32_1472 : BitVec 32 := 1#32
  let v1723 : BitVec 32 := Scalar.andi v1722 c1_i32_1472
  let c0_i32_1473 : BitVec 32 := 0#32
  let v1724 : BitVec 32 := Scalar.shli v1723 c0_i32_1473
  let v1725 : BitVec 32 := Scalar.addi v1721 v1724
  let c0_i32_1474 : BitVec 32 := 0#32
  let v1726 : BitVec 32 := Scalar.addi v1725 c0_i32_1474
  let c2_i32_1475 : BitVec 32 := 2#32
  let v1727 : BitVec 32 := Scalar.shrsi v1726 c2_i32_1475
  let c1_i32_1476 : BitVec 32 := 1#32
  let v1728 : BitVec 32 := Scalar.andi v1727 c1_i32_1476
  let c2_i32_1477 : BitVec 32 := 2#32
  let v1729 : BitVec 32 := Scalar.andi v1726 c2_i32_1477
  let v1730 : BitVec 32 := Scalar.ori v1728 v1729
  let c1_i32_1478 : BitVec 32 := 1#32
  let v1731 : BitVec 32 := Scalar.andi v1726 c1_i32_1478
  let c2_i32_1479 : BitVec 32 := 2#32
  let v1732 : BitVec 32 := Scalar.shli v1731 c2_i32_1479
  let v1733 : BitVec 32 := Scalar.ori v1730 v1732
  let c32_i32_1480 : BitVec 32 := 32#32
  let v1734 : BitVec 32 := Scalar.muli v1733 c32_i32_1480
  let c0_i32_1481 : BitVec 32 := 0#32
  let v1735 : BitVec 32 := Scalar.addi v1734 c0_i32_1481
  let c0_i32_1491 : BitVec 32 := 0#32
  ![1, v1735.toNat, 0]
def k0_dev30 (d0 : Dev nD) : Nat :=
  let c0_i32_1490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1482 : BitVec 32 := 4#32
  let v1736 : BitVec 32 := Scalar.xori v5 c4_i32_1482
  let c1_i32_1483 : BitVec 32 := 1#32
  let v1737 : BitVec 32 := Scalar.shrsi v1736 c1_i32_1483
  let c1_i32_1484 : BitVec 32 := 1#32
  let v1738 : BitVec 32 := Scalar.andi v1737 c1_i32_1484
  let v1739 : BitVec 32 := Scalar.xori v1736 v1738
  let c1_i32_1489 : BitVec 32 := 1#32
  let v1740 : BitVec 32 := Scalar.muli v1739 c1_i32_1489
  let v1741 : BitVec 32 := Scalar.addi c0_i32_1490 v1740
  v1741.toNat
def k0_off14 (d0 : Dev nD) : Fin 3 → Nat :=
  let c1_1548 : Index := 1#32
  let c0_i32_1530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1527 : BitVec 32 := 1#32
  let v1780 : BitVec 32 := Scalar.shrsi v5 c1_i32_1527
  let c1_i32_1528 : BitVec 32 := 1#32
  let v1781 : BitVec 32 := Scalar.andi v1780 c1_i32_1528
  let c2_i32_1529 : BitVec 32 := 2#32
  let v1782 : BitVec 32 := Scalar.shli v1781 c2_i32_1529
  let v1783 : BitVec 32 := Scalar.addi c0_i32_1530 v1782
  let c2_i32_1531 : BitVec 32 := 2#32
  let v1784 : BitVec 32 := Scalar.shrsi v5 c2_i32_1531
  let c1_i32_1532 : BitVec 32 := 1#32
  let v1785 : BitVec 32 := Scalar.andi v1784 c1_i32_1532
  let c1_i32_1533 : BitVec 32 := 1#32
  let v1786 : BitVec 32 := Scalar.shli v1785 c1_i32_1533
  let v1787 : BitVec 32 := Scalar.addi v1783 v1786
  let c0_i32_1534 : BitVec 32 := 0#32
  let v1788 : BitVec 32 := Scalar.shrsi v5 c0_i32_1534
  let c1_i32_1535 : BitVec 32 := 1#32
  let v1789 : BitVec 32 := Scalar.andi v1788 c1_i32_1535
  let c0_i32_1536 : BitVec 32 := 0#32
  let v1790 : BitVec 32 := Scalar.shli v1789 c0_i32_1536
  let v1791 : BitVec 32 := Scalar.addi v1787 v1790
  let c1_i32_1537 : BitVec 32 := 1#32
  let v1792 : BitVec 32 := Scalar.andi v1791 c1_i32_1537
  let c2_i32_1538 : BitVec 32 := 2#32
  let v1793 : BitVec 32 := Scalar.shrsi v1791 c2_i32_1538
  let c1_i32_1539 : BitVec 32 := 1#32
  let v1794 : BitVec 32 := Scalar.andi v1793 c1_i32_1539
  let c1_i32_1540 : BitVec 32 := 1#32
  let v1795 : BitVec 32 := Scalar.shli v1794 c1_i32_1540
  let v1796 : BitVec 32 := Scalar.ori v1792 v1795
  let c1_i32_1541 : BitVec 32 := 1#32
  let v1797 : BitVec 32 := Scalar.shrsi v1791 c1_i32_1541
  let c1_i32_1542 : BitVec 32 := 1#32
  let v1798 : BitVec 32 := Scalar.andi v1797 c1_i32_1542
  let c2_i32_1543 : BitVec 32 := 2#32
  let v1799 : BitVec 32 := Scalar.shli v1798 c2_i32_1543
  let v1800 : BitVec 32 := Scalar.ori v1796 v1799
  let c32_i32_1544 : BitVec 32 := 32#32
  let v1801 : BitVec 32 := Scalar.muli v1800 c32_i32_1544
  let c16_i32_1545 : BitVec 32 := 16#32
  let v1802 : BitVec 32 := Scalar.addi v1801 c16_i32_1545
  let v1806 : Index := Scalar.indexCast v1802
  let c0_1549 : Index := 0#32
  ![1, v1806.toNat, 0]
def k0_off15 (d0 : Dev nD) : Fin 3 → Nat :=
  let c1_i32_1574 : BitVec 32 := 1#32
  let c0_i32_1553 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1550 : BitVec 32 := 1#32
  let v1810 : BitVec 32 := Scalar.shrsi v5 c1_i32_1550
  let c1_i32_1551 : BitVec 32 := 1#32
  let v1811 : BitVec 32 := Scalar.andi v1810 c1_i32_1551
  let c2_i32_1552 : BitVec 32 := 2#32
  let v1812 : BitVec 32 := Scalar.shli v1811 c2_i32_1552
  let v1813 : BitVec 32 := Scalar.addi c0_i32_1553 v1812
  let c2_i32_1554 : BitVec 32 := 2#32
  let v1814 : BitVec 32 := Scalar.shrsi v5 c2_i32_1554
  let c1_i32_1555 : BitVec 32 := 1#32
  let v1815 : BitVec 32 := Scalar.andi v1814 c1_i32_1555
  let c1_i32_1556 : BitVec 32 := 1#32
  let v1816 : BitVec 32 := Scalar.shli v1815 c1_i32_1556
  let v1817 : BitVec 32 := Scalar.addi v1813 v1816
  let c0_i32_1557 : BitVec 32 := 0#32
  let v1818 : BitVec 32 := Scalar.shrsi v5 c0_i32_1557
  let c1_i32_1558 : BitVec 32 := 1#32
  let v1819 : BitVec 32 := Scalar.andi v1818 c1_i32_1558
  let c0_i32_1559 : BitVec 32 := 0#32
  let v1820 : BitVec 32 := Scalar.shli v1819 c0_i32_1559
  let v1821 : BitVec 32 := Scalar.addi v1817 v1820
  let c0_i32_1560 : BitVec 32 := 0#32
  let v1822 : BitVec 32 := Scalar.addi v1821 c0_i32_1560
  let c1_i32_1561 : BitVec 32 := 1#32
  let v1823 : BitVec 32 := Scalar.andi v1822 c1_i32_1561
  let c2_i32_1562 : BitVec 32 := 2#32
  let v1824 : BitVec 32 := Scalar.shrsi v1822 c2_i32_1562
  let c1_i32_1563 : BitVec 32 := 1#32
  let v1825 : BitVec 32 := Scalar.andi v1824 c1_i32_1563
  let c1_i32_1564 : BitVec 32 := 1#32
  let v1826 : BitVec 32 := Scalar.shli v1825 c1_i32_1564
  let v1827 : BitVec 32 := Scalar.ori v1823 v1826
  let c1_i32_1565 : BitVec 32 := 1#32
  let v1828 : BitVec 32 := Scalar.shrsi v1822 c1_i32_1565
  let c1_i32_1566 : BitVec 32 := 1#32
  let v1829 : BitVec 32 := Scalar.andi v1828 c1_i32_1566
  let c2_i32_1567 : BitVec 32 := 2#32
  let v1830 : BitVec 32 := Scalar.shli v1829 c2_i32_1567
  let v1831 : BitVec 32 := Scalar.ori v1827 v1830
  let c32_i32_1568 : BitVec 32 := 32#32
  let v1832 : BitVec 32 := Scalar.muli v1831 c32_i32_1568
  let c16_i32_1569 : BitVec 32 := 16#32
  let v1833 : BitVec 32 := Scalar.addi v1832 c16_i32_1569
  let c0_i32_1579 : BitVec 32 := 0#32
  ![1, v1833.toNat, 0]
def k0_dev31 (d0 : Dev nD) : Nat :=
  let c0_i32_1578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1570 : BitVec 32 := 1#32
  let v1834 : BitVec 32 := Scalar.xori v5 c1_i32_1570
  let c1_i32_1571 : BitVec 32 := 1#32
  let v1835 : BitVec 32 := Scalar.shrsi v1834 c1_i32_1571
  let c1_i32_1572 : BitVec 32 := 1#32
  let v1836 : BitVec 32 := Scalar.andi v1835 c1_i32_1572
  let v1837 : BitVec 32 := Scalar.xori v1834 v1836
  let c1_i32_1577 : BitVec 32 := 1#32
  let v1838 : BitVec 32 := Scalar.muli v1837 c1_i32_1577
  let v1839 : BitVec 32 := Scalar.addi c0_i32_1578 v1838
  v1839.toNat
def k0_off16 (d0 : Dev nD) : Fin 3 → Nat :=
  let c2_1634 : Index := 2#32
  let c0_i32_1618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1615 : BitVec 32 := 0#32
  let v1878 : BitVec 32 := Scalar.shrsi v5 c0_i32_1615
  let c1_i32_1616 : BitVec 32 := 1#32
  let v1879 : BitVec 32 := Scalar.andi v1878 c1_i32_1616
  let c2_i32_1617 : BitVec 32 := 2#32
  let v1880 : BitVec 32 := Scalar.shli v1879 c2_i32_1617
  let v1881 : BitVec 32 := Scalar.addi c0_i32_1618 v1880
  let c1_i32_1619 : BitVec 32 := 1#32
  let v1882 : BitVec 32 := Scalar.shrsi v5 c1_i32_1619
  let c1_i32_1620 : BitVec 32 := 1#32
  let v1883 : BitVec 32 := Scalar.andi v1882 c1_i32_1620
  let c1_i32_1621 : BitVec 32 := 1#32
  let v1884 : BitVec 32 := Scalar.shli v1883 c1_i32_1621
  let v1885 : BitVec 32 := Scalar.addi v1881 v1884
  let c2_i32_1622 : BitVec 32 := 2#32
  let v1886 : BitVec 32 := Scalar.shrsi v5 c2_i32_1622
  let c1_i32_1623 : BitVec 32 := 1#32
  let v1887 : BitVec 32 := Scalar.andi v1886 c1_i32_1623
  let c0_i32_1624 : BitVec 32 := 0#32
  let v1888 : BitVec 32 := Scalar.shli v1887 c0_i32_1624
  let v1889 : BitVec 32 := Scalar.addi v1885 v1888
  let c2_i32_1625 : BitVec 32 := 2#32
  let v1890 : BitVec 32 := Scalar.shrsi v1889 c2_i32_1625
  let c1_i32_1626 : BitVec 32 := 1#32
  let v1891 : BitVec 32 := Scalar.andi v1890 c1_i32_1626
  let c2_i32_1627 : BitVec 32 := 2#32
  let v1892 : BitVec 32 := Scalar.andi v1889 c2_i32_1627
  let v1893 : BitVec 32 := Scalar.ori v1891 v1892
  let c1_i32_1628 : BitVec 32 := 1#32
  let v1894 : BitVec 32 := Scalar.andi v1889 c1_i32_1628
  let c2_i32_1629 : BitVec 32 := 2#32
  let v1895 : BitVec 32 := Scalar.shli v1894 c2_i32_1629
  let v1896 : BitVec 32 := Scalar.ori v1893 v1895
  let c32_i32_1630 : BitVec 32 := 32#32
  let v1897 : BitVec 32 := Scalar.muli v1896 c32_i32_1630
  let c0_i32_1631 : BitVec 32 := 0#32
  let v1898 : BitVec 32 := Scalar.addi v1897 c0_i32_1631
  let v1902 : Index := Scalar.indexCast v1898
  let c0_1635 : Index := 0#32
  ![2, v1902.toNat, 0]
def k0_off17 (d0 : Dev nD) : Fin 3 → Nat :=
  let c2_i32_1658 : BitVec 32 := 2#32
  let c0_i32_1639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1636 : BitVec 32 := 0#32
  let v1906 : BitVec 32 := Scalar.shrsi v5 c0_i32_1636
  let c1_i32_1637 : BitVec 32 := 1#32
  let v1907 : BitVec 32 := Scalar.andi v1906 c1_i32_1637
  let c2_i32_1638 : BitVec 32 := 2#32
  let v1908 : BitVec 32 := Scalar.shli v1907 c2_i32_1638
  let v1909 : BitVec 32 := Scalar.addi c0_i32_1639 v1908
  let c1_i32_1640 : BitVec 32 := 1#32
  let v1910 : BitVec 32 := Scalar.shrsi v5 c1_i32_1640
  let c1_i32_1641 : BitVec 32 := 1#32
  let v1911 : BitVec 32 := Scalar.andi v1910 c1_i32_1641
  let c1_i32_1642 : BitVec 32 := 1#32
  let v1912 : BitVec 32 := Scalar.shli v1911 c1_i32_1642
  let v1913 : BitVec 32 := Scalar.addi v1909 v1912
  let c2_i32_1643 : BitVec 32 := 2#32
  let v1914 : BitVec 32 := Scalar.shrsi v5 c2_i32_1643
  let c1_i32_1644 : BitVec 32 := 1#32
  let v1915 : BitVec 32 := Scalar.andi v1914 c1_i32_1644
  let c0_i32_1645 : BitVec 32 := 0#32
  let v1916 : BitVec 32 := Scalar.shli v1915 c0_i32_1645
  let v1917 : BitVec 32 := Scalar.addi v1913 v1916
  let c0_i32_1646 : BitVec 32 := 0#32
  let v1918 : BitVec 32 := Scalar.addi v1917 c0_i32_1646
  let c2_i32_1647 : BitVec 32 := 2#32
  let v1919 : BitVec 32 := Scalar.shrsi v1918 c2_i32_1647
  let c1_i32_1648 : BitVec 32 := 1#32
  let v1920 : BitVec 32 := Scalar.andi v1919 c1_i32_1648
  let c2_i32_1649 : BitVec 32 := 2#32
  let v1921 : BitVec 32 := Scalar.andi v1918 c2_i32_1649
  let v1922 : BitVec 32 := Scalar.ori v1920 v1921
  let c1_i32_1650 : BitVec 32 := 1#32
  let v1923 : BitVec 32 := Scalar.andi v1918 c1_i32_1650
  let c2_i32_1651 : BitVec 32 := 2#32
  let v1924 : BitVec 32 := Scalar.shli v1923 c2_i32_1651
  let v1925 : BitVec 32 := Scalar.ori v1922 v1924
  let c32_i32_1652 : BitVec 32 := 32#32
  let v1926 : BitVec 32 := Scalar.muli v1925 c32_i32_1652
  let c0_i32_1653 : BitVec 32 := 0#32
  let v1927 : BitVec 32 := Scalar.addi v1926 c0_i32_1653
  let c0_i32_1663 : BitVec 32 := 0#32
  ![2, v1927.toNat, 0]
def k0_dev32 (d0 : Dev nD) : Nat :=
  let c0_i32_1662 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1654 : BitVec 32 := 4#32
  let v1928 : BitVec 32 := Scalar.xori v5 c4_i32_1654
  let c1_i32_1655 : BitVec 32 := 1#32
  let v1929 : BitVec 32 := Scalar.shrsi v1928 c1_i32_1655
  let c1_i32_1656 : BitVec 32 := 1#32
  let v1930 : BitVec 32 := Scalar.andi v1929 c1_i32_1656
  let v1931 : BitVec 32 := Scalar.xori v1928 v1930
  let c1_i32_1661 : BitVec 32 := 1#32
  let v1932 : BitVec 32 := Scalar.muli v1931 c1_i32_1661
  let v1933 : BitVec 32 := Scalar.addi c0_i32_1662 v1932
  v1933.toNat
def k0_off18 (d0 : Dev nD) : Fin 3 → Nat :=
  let c2_1720 : Index := 2#32
  let c0_i32_1702 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1699 : BitVec 32 := 1#32
  let v1972 : BitVec 32 := Scalar.shrsi v5 c1_i32_1699
  let c1_i32_1700 : BitVec 32 := 1#32
  let v1973 : BitVec 32 := Scalar.andi v1972 c1_i32_1700
  let c2_i32_1701 : BitVec 32 := 2#32
  let v1974 : BitVec 32 := Scalar.shli v1973 c2_i32_1701
  let v1975 : BitVec 32 := Scalar.addi c0_i32_1702 v1974
  let c2_i32_1703 : BitVec 32 := 2#32
  let v1976 : BitVec 32 := Scalar.shrsi v5 c2_i32_1703
  let c1_i32_1704 : BitVec 32 := 1#32
  let v1977 : BitVec 32 := Scalar.andi v1976 c1_i32_1704
  let c1_i32_1705 : BitVec 32 := 1#32
  let v1978 : BitVec 32 := Scalar.shli v1977 c1_i32_1705
  let v1979 : BitVec 32 := Scalar.addi v1975 v1978
  let c0_i32_1706 : BitVec 32 := 0#32
  let v1980 : BitVec 32 := Scalar.shrsi v5 c0_i32_1706
  let c1_i32_1707 : BitVec 32 := 1#32
  let v1981 : BitVec 32 := Scalar.andi v1980 c1_i32_1707
  let c0_i32_1708 : BitVec 32 := 0#32
  let v1982 : BitVec 32 := Scalar.shli v1981 c0_i32_1708
  let v1983 : BitVec 32 := Scalar.addi v1979 v1982
  let c1_i32_1709 : BitVec 32 := 1#32
  let v1984 : BitVec 32 := Scalar.andi v1983 c1_i32_1709
  let c2_i32_1710 : BitVec 32 := 2#32
  let v1985 : BitVec 32 := Scalar.shrsi v1983 c2_i32_1710
  let c1_i32_1711 : BitVec 32 := 1#32
  let v1986 : BitVec 32 := Scalar.andi v1985 c1_i32_1711
  let c1_i32_1712 : BitVec 32 := 1#32
  let v1987 : BitVec 32 := Scalar.shli v1986 c1_i32_1712
  let v1988 : BitVec 32 := Scalar.ori v1984 v1987
  let c1_i32_1713 : BitVec 32 := 1#32
  let v1989 : BitVec 32 := Scalar.shrsi v1983 c1_i32_1713
  let c1_i32_1714 : BitVec 32 := 1#32
  let v1990 : BitVec 32 := Scalar.andi v1989 c1_i32_1714
  let c2_i32_1715 : BitVec 32 := 2#32
  let v1991 : BitVec 32 := Scalar.shli v1990 c2_i32_1715
  let v1992 : BitVec 32 := Scalar.ori v1988 v1991
  let c32_i32_1716 : BitVec 32 := 32#32
  let v1993 : BitVec 32 := Scalar.muli v1992 c32_i32_1716
  let c16_i32_1717 : BitVec 32 := 16#32
  let v1994 : BitVec 32 := Scalar.addi v1993 c16_i32_1717
  let v1998 : Index := Scalar.indexCast v1994
  let c0_1721 : Index := 0#32
  ![2, v1998.toNat, 0]
def k0_off19 (d0 : Dev nD) : Fin 3 → Nat :=
  let c2_i32_1746 : BitVec 32 := 2#32
  let c0_i32_1725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1722 : BitVec 32 := 1#32
  let v2002 : BitVec 32 := Scalar.shrsi v5 c1_i32_1722
  let c1_i32_1723 : BitVec 32 := 1#32
  let v2003 : BitVec 32 := Scalar.andi v2002 c1_i32_1723
  let c2_i32_1724 : BitVec 32 := 2#32
  let v2004 : BitVec 32 := Scalar.shli v2003 c2_i32_1724
  let v2005 : BitVec 32 := Scalar.addi c0_i32_1725 v2004
  let c2_i32_1726 : BitVec 32 := 2#32
  let v2006 : BitVec 32 := Scalar.shrsi v5 c2_i32_1726
  let c1_i32_1727 : BitVec 32 := 1#32
  let v2007 : BitVec 32 := Scalar.andi v2006 c1_i32_1727
  let c1_i32_1728 : BitVec 32 := 1#32
  let v2008 : BitVec 32 := Scalar.shli v2007 c1_i32_1728
  let v2009 : BitVec 32 := Scalar.addi v2005 v2008
  let c0_i32_1729 : BitVec 32 := 0#32
  let v2010 : BitVec 32 := Scalar.shrsi v5 c0_i32_1729
  let c1_i32_1730 : BitVec 32 := 1#32
  let v2011 : BitVec 32 := Scalar.andi v2010 c1_i32_1730
  let c0_i32_1731 : BitVec 32 := 0#32
  let v2012 : BitVec 32 := Scalar.shli v2011 c0_i32_1731
  let v2013 : BitVec 32 := Scalar.addi v2009 v2012
  let c0_i32_1732 : BitVec 32 := 0#32
  let v2014 : BitVec 32 := Scalar.addi v2013 c0_i32_1732
  let c1_i32_1733 : BitVec 32 := 1#32
  let v2015 : BitVec 32 := Scalar.andi v2014 c1_i32_1733
  let c2_i32_1734 : BitVec 32 := 2#32
  let v2016 : BitVec 32 := Scalar.shrsi v2014 c2_i32_1734
  let c1_i32_1735 : BitVec 32 := 1#32
  let v2017 : BitVec 32 := Scalar.andi v2016 c1_i32_1735
  let c1_i32_1736 : BitVec 32 := 1#32
  let v2018 : BitVec 32 := Scalar.shli v2017 c1_i32_1736
  let v2019 : BitVec 32 := Scalar.ori v2015 v2018
  let c1_i32_1737 : BitVec 32 := 1#32
  let v2020 : BitVec 32 := Scalar.shrsi v2014 c1_i32_1737
  let c1_i32_1738 : BitVec 32 := 1#32
  let v2021 : BitVec 32 := Scalar.andi v2020 c1_i32_1738
  let c2_i32_1739 : BitVec 32 := 2#32
  let v2022 : BitVec 32 := Scalar.shli v2021 c2_i32_1739
  let v2023 : BitVec 32 := Scalar.ori v2019 v2022
  let c32_i32_1740 : BitVec 32 := 32#32
  let v2024 : BitVec 32 := Scalar.muli v2023 c32_i32_1740
  let c16_i32_1741 : BitVec 32 := 16#32
  let v2025 : BitVec 32 := Scalar.addi v2024 c16_i32_1741
  let c0_i32_1751 : BitVec 32 := 0#32
  ![2, v2025.toNat, 0]
def k0_dev33 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1742 : BitVec 32 := 1#32
  let v2026 : BitVec 32 := Scalar.xori v5 c1_i32_1742
  let c1_i32_1743 : BitVec 32 := 1#32
  let v2027 : BitVec 32 := Scalar.shrsi v2026 c1_i32_1743
  let c1_i32_1744 : BitVec 32 := 1#32
  let v2028 : BitVec 32 := Scalar.andi v2027 c1_i32_1744
  let v2029 : BitVec 32 := Scalar.xori v2026 v2028
  let c1_i32_1749 : BitVec 32 := 1#32
  let v2030 : BitVec 32 := Scalar.muli v2029 c1_i32_1749
  let v2031 : BitVec 32 := Scalar.addi c0_i32_1750 v2030
  v2031.toNat
def k0_off20 (d0 : Dev nD) : Fin 3 → Nat :=
  let c3_1806 : Index := 3#32
  let c0_i32_1790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1787 : BitVec 32 := 0#32
  let v2070 : BitVec 32 := Scalar.shrsi v5 c0_i32_1787
  let c1_i32_1788 : BitVec 32 := 1#32
  let v2071 : BitVec 32 := Scalar.andi v2070 c1_i32_1788
  let c2_i32_1789 : BitVec 32 := 2#32
  let v2072 : BitVec 32 := Scalar.shli v2071 c2_i32_1789
  let v2073 : BitVec 32 := Scalar.addi c0_i32_1790 v2072
  let c1_i32_1791 : BitVec 32 := 1#32
  let v2074 : BitVec 32 := Scalar.shrsi v5 c1_i32_1791
  let c1_i32_1792 : BitVec 32 := 1#32
  let v2075 : BitVec 32 := Scalar.andi v2074 c1_i32_1792
  let c1_i32_1793 : BitVec 32 := 1#32
  let v2076 : BitVec 32 := Scalar.shli v2075 c1_i32_1793
  let v2077 : BitVec 32 := Scalar.addi v2073 v2076
  let c2_i32_1794 : BitVec 32 := 2#32
  let v2078 : BitVec 32 := Scalar.shrsi v5 c2_i32_1794
  let c1_i32_1795 : BitVec 32 := 1#32
  let v2079 : BitVec 32 := Scalar.andi v2078 c1_i32_1795
  let c0_i32_1796 : BitVec 32 := 0#32
  let v2080 : BitVec 32 := Scalar.shli v2079 c0_i32_1796
  let v2081 : BitVec 32 := Scalar.addi v2077 v2080
  let c2_i32_1797 : BitVec 32 := 2#32
  let v2082 : BitVec 32 := Scalar.shrsi v2081 c2_i32_1797
  let c1_i32_1798 : BitVec 32 := 1#32
  let v2083 : BitVec 32 := Scalar.andi v2082 c1_i32_1798
  let c2_i32_1799 : BitVec 32 := 2#32
  let v2084 : BitVec 32 := Scalar.andi v2081 c2_i32_1799
  let v2085 : BitVec 32 := Scalar.ori v2083 v2084
  let c1_i32_1800 : BitVec 32 := 1#32
  let v2086 : BitVec 32 := Scalar.andi v2081 c1_i32_1800
  let c2_i32_1801 : BitVec 32 := 2#32
  let v2087 : BitVec 32 := Scalar.shli v2086 c2_i32_1801
  let v2088 : BitVec 32 := Scalar.ori v2085 v2087
  let c32_i32_1802 : BitVec 32 := 32#32
  let v2089 : BitVec 32 := Scalar.muli v2088 c32_i32_1802
  let c0_i32_1803 : BitVec 32 := 0#32
  let v2090 : BitVec 32 := Scalar.addi v2089 c0_i32_1803
  let v2094 : Index := Scalar.indexCast v2090
  let c0_1807 : Index := 0#32
  ![3, v2094.toNat, 0]
def k0_off21 (d0 : Dev nD) : Fin 3 → Nat :=
  let c3_i32_1830 : BitVec 32 := 3#32
  let c0_i32_1811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1808 : BitVec 32 := 0#32
  let v2098 : BitVec 32 := Scalar.shrsi v5 c0_i32_1808
  let c1_i32_1809 : BitVec 32 := 1#32
  let v2099 : BitVec 32 := Scalar.andi v2098 c1_i32_1809
  let c2_i32_1810 : BitVec 32 := 2#32
  let v2100 : BitVec 32 := Scalar.shli v2099 c2_i32_1810
  let v2101 : BitVec 32 := Scalar.addi c0_i32_1811 v2100
  let c1_i32_1812 : BitVec 32 := 1#32
  let v2102 : BitVec 32 := Scalar.shrsi v5 c1_i32_1812
  let c1_i32_1813 : BitVec 32 := 1#32
  let v2103 : BitVec 32 := Scalar.andi v2102 c1_i32_1813
  let c1_i32_1814 : BitVec 32 := 1#32
  let v2104 : BitVec 32 := Scalar.shli v2103 c1_i32_1814
  let v2105 : BitVec 32 := Scalar.addi v2101 v2104
  let c2_i32_1815 : BitVec 32 := 2#32
  let v2106 : BitVec 32 := Scalar.shrsi v5 c2_i32_1815
  let c1_i32_1816 : BitVec 32 := 1#32
  let v2107 : BitVec 32 := Scalar.andi v2106 c1_i32_1816
  let c0_i32_1817 : BitVec 32 := 0#32
  let v2108 : BitVec 32 := Scalar.shli v2107 c0_i32_1817
  let v2109 : BitVec 32 := Scalar.addi v2105 v2108
  let c0_i32_1818 : BitVec 32 := 0#32
  let v2110 : BitVec 32 := Scalar.addi v2109 c0_i32_1818
  let c2_i32_1819 : BitVec 32 := 2#32
  let v2111 : BitVec 32 := Scalar.shrsi v2110 c2_i32_1819
  let c1_i32_1820 : BitVec 32 := 1#32
  let v2112 : BitVec 32 := Scalar.andi v2111 c1_i32_1820
  let c2_i32_1821 : BitVec 32 := 2#32
  let v2113 : BitVec 32 := Scalar.andi v2110 c2_i32_1821
  let v2114 : BitVec 32 := Scalar.ori v2112 v2113
  let c1_i32_1822 : BitVec 32 := 1#32
  let v2115 : BitVec 32 := Scalar.andi v2110 c1_i32_1822
  let c2_i32_1823 : BitVec 32 := 2#32
  let v2116 : BitVec 32 := Scalar.shli v2115 c2_i32_1823
  let v2117 : BitVec 32 := Scalar.ori v2114 v2116
  let c32_i32_1824 : BitVec 32 := 32#32
  let v2118 : BitVec 32 := Scalar.muli v2117 c32_i32_1824
  let c0_i32_1825 : BitVec 32 := 0#32
  let v2119 : BitVec 32 := Scalar.addi v2118 c0_i32_1825
  let c0_i32_1835 : BitVec 32 := 0#32
  ![3, v2119.toNat, 0]
def k0_dev34 (d0 : Dev nD) : Nat :=
  let c0_i32_1834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_1826 : BitVec 32 := 4#32
  let v2120 : BitVec 32 := Scalar.xori v5 c4_i32_1826
  let c1_i32_1827 : BitVec 32 := 1#32
  let v2121 : BitVec 32 := Scalar.shrsi v2120 c1_i32_1827
  let c1_i32_1828 : BitVec 32 := 1#32
  let v2122 : BitVec 32 := Scalar.andi v2121 c1_i32_1828
  let v2123 : BitVec 32 := Scalar.xori v2120 v2122
  let c1_i32_1833 : BitVec 32 := 1#32
  let v2124 : BitVec 32 := Scalar.muli v2123 c1_i32_1833
  let v2125 : BitVec 32 := Scalar.addi c0_i32_1834 v2124
  v2125.toNat
def k0_off22 (d0 : Dev nD) : Fin 3 → Nat :=
  let c3_1892 : Index := 3#32
  let c0_i32_1874 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1871 : BitVec 32 := 1#32
  let v2164 : BitVec 32 := Scalar.shrsi v5 c1_i32_1871
  let c1_i32_1872 : BitVec 32 := 1#32
  let v2165 : BitVec 32 := Scalar.andi v2164 c1_i32_1872
  let c2_i32_1873 : BitVec 32 := 2#32
  let v2166 : BitVec 32 := Scalar.shli v2165 c2_i32_1873
  let v2167 : BitVec 32 := Scalar.addi c0_i32_1874 v2166
  let c2_i32_1875 : BitVec 32 := 2#32
  let v2168 : BitVec 32 := Scalar.shrsi v5 c2_i32_1875
  let c1_i32_1876 : BitVec 32 := 1#32
  let v2169 : BitVec 32 := Scalar.andi v2168 c1_i32_1876
  let c1_i32_1877 : BitVec 32 := 1#32
  let v2170 : BitVec 32 := Scalar.shli v2169 c1_i32_1877
  let v2171 : BitVec 32 := Scalar.addi v2167 v2170
  let c0_i32_1878 : BitVec 32 := 0#32
  let v2172 : BitVec 32 := Scalar.shrsi v5 c0_i32_1878
  let c1_i32_1879 : BitVec 32 := 1#32
  let v2173 : BitVec 32 := Scalar.andi v2172 c1_i32_1879
  let c0_i32_1880 : BitVec 32 := 0#32
  let v2174 : BitVec 32 := Scalar.shli v2173 c0_i32_1880
  let v2175 : BitVec 32 := Scalar.addi v2171 v2174
  let c1_i32_1881 : BitVec 32 := 1#32
  let v2176 : BitVec 32 := Scalar.andi v2175 c1_i32_1881
  let c2_i32_1882 : BitVec 32 := 2#32
  let v2177 : BitVec 32 := Scalar.shrsi v2175 c2_i32_1882
  let c1_i32_1883 : BitVec 32 := 1#32
  let v2178 : BitVec 32 := Scalar.andi v2177 c1_i32_1883
  let c1_i32_1884 : BitVec 32 := 1#32
  let v2179 : BitVec 32 := Scalar.shli v2178 c1_i32_1884
  let v2180 : BitVec 32 := Scalar.ori v2176 v2179
  let c1_i32_1885 : BitVec 32 := 1#32
  let v2181 : BitVec 32 := Scalar.shrsi v2175 c1_i32_1885
  let c1_i32_1886 : BitVec 32 := 1#32
  let v2182 : BitVec 32 := Scalar.andi v2181 c1_i32_1886
  let c2_i32_1887 : BitVec 32 := 2#32
  let v2183 : BitVec 32 := Scalar.shli v2182 c2_i32_1887
  let v2184 : BitVec 32 := Scalar.ori v2180 v2183
  let c32_i32_1888 : BitVec 32 := 32#32
  let v2185 : BitVec 32 := Scalar.muli v2184 c32_i32_1888
  let c16_i32_1889 : BitVec 32 := 16#32
  let v2186 : BitVec 32 := Scalar.addi v2185 c16_i32_1889
  let v2190 : Index := Scalar.indexCast v2186
  let c0_1893 : Index := 0#32
  ![3, v2190.toNat, 0]
def k0_off23 (d0 : Dev nD) : Fin 3 → Nat :=
  let c3_i32_1918 : BitVec 32 := 3#32
  let c0_i32_1897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1894 : BitVec 32 := 1#32
  let v2194 : BitVec 32 := Scalar.shrsi v5 c1_i32_1894
  let c1_i32_1895 : BitVec 32 := 1#32
  let v2195 : BitVec 32 := Scalar.andi v2194 c1_i32_1895
  let c2_i32_1896 : BitVec 32 := 2#32
  let v2196 : BitVec 32 := Scalar.shli v2195 c2_i32_1896
  let v2197 : BitVec 32 := Scalar.addi c0_i32_1897 v2196
  let c2_i32_1898 : BitVec 32 := 2#32
  let v2198 : BitVec 32 := Scalar.shrsi v5 c2_i32_1898
  let c1_i32_1899 : BitVec 32 := 1#32
  let v2199 : BitVec 32 := Scalar.andi v2198 c1_i32_1899
  let c1_i32_1900 : BitVec 32 := 1#32
  let v2200 : BitVec 32 := Scalar.shli v2199 c1_i32_1900
  let v2201 : BitVec 32 := Scalar.addi v2197 v2200
  let c0_i32_1901 : BitVec 32 := 0#32
  let v2202 : BitVec 32 := Scalar.shrsi v5 c0_i32_1901
  let c1_i32_1902 : BitVec 32 := 1#32
  let v2203 : BitVec 32 := Scalar.andi v2202 c1_i32_1902
  let c0_i32_1903 : BitVec 32 := 0#32
  let v2204 : BitVec 32 := Scalar.shli v2203 c0_i32_1903
  let v2205 : BitVec 32 := Scalar.addi v2201 v2204
  let c0_i32_1904 : BitVec 32 := 0#32
  let v2206 : BitVec 32 := Scalar.addi v2205 c0_i32_1904
  let c1_i32_1905 : BitVec 32 := 1#32
  let v2207 : BitVec 32 := Scalar.andi v2206 c1_i32_1905
  let c2_i32_1906 : BitVec 32 := 2#32
  let v2208 : BitVec 32 := Scalar.shrsi v2206 c2_i32_1906
  let c1_i32_1907 : BitVec 32 := 1#32
  let v2209 : BitVec 32 := Scalar.andi v2208 c1_i32_1907
  let c1_i32_1908 : BitVec 32 := 1#32
  let v2210 : BitVec 32 := Scalar.shli v2209 c1_i32_1908
  let v2211 : BitVec 32 := Scalar.ori v2207 v2210
  let c1_i32_1909 : BitVec 32 := 1#32
  let v2212 : BitVec 32 := Scalar.shrsi v2206 c1_i32_1909
  let c1_i32_1910 : BitVec 32 := 1#32
  let v2213 : BitVec 32 := Scalar.andi v2212 c1_i32_1910
  let c2_i32_1911 : BitVec 32 := 2#32
  let v2214 : BitVec 32 := Scalar.shli v2213 c2_i32_1911
  let v2215 : BitVec 32 := Scalar.ori v2211 v2214
  let c32_i32_1912 : BitVec 32 := 32#32
  let v2216 : BitVec 32 := Scalar.muli v2215 c32_i32_1912
  let c16_i32_1913 : BitVec 32 := 16#32
  let v2217 : BitVec 32 := Scalar.addi v2216 c16_i32_1913
  let c0_i32_1923 : BitVec 32 := 0#32
  ![3, v2217.toNat, 0]
def k0_dev35 (d0 : Dev nD) : Nat :=
  let c0_i32_1922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_1914 : BitVec 32 := 1#32
  let v2218 : BitVec 32 := Scalar.xori v5 c1_i32_1914
  let c1_i32_1915 : BitVec 32 := 1#32
  let v2219 : BitVec 32 := Scalar.shrsi v2218 c1_i32_1915
  let c1_i32_1916 : BitVec 32 := 1#32
  let v2220 : BitVec 32 := Scalar.andi v2219 c1_i32_1916
  let v2221 : BitVec 32 := Scalar.xori v2218 v2220
  let c1_i32_1921 : BitVec 32 := 1#32
  let v2222 : BitVec 32 := Scalar.muli v2221 c1_i32_1921
  let v2223 : BitVec 32 := Scalar.addi c0_i32_1922 v2222
  v2223.toNat
def k0_off24 (d0 : Dev nD) (c0_i32_1947 : BitVec 32) : Fin 3 → Nat :=
  let c0_i32_1959 : BitVec 32 := 0#32
  let c0_i32_1943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_1940 : BitVec 32 := 0#32
  let v2246 : BitVec 32 := Scalar.shrsi v5 c0_i32_1940
  let c1_i32_1941 : BitVec 32 := 1#32
  let v2247 : BitVec 32 := Scalar.andi v2246 c1_i32_1941
  let c2_i32_1942 : BitVec 32 := 2#32
  let v2248 : BitVec 32 := Scalar.shli v2247 c2_i32_1942
  let v2249 : BitVec 32 := Scalar.addi c0_i32_1943 v2248
  let c1_i32_1944 : BitVec 32 := 1#32
  let v2250 : BitVec 32 := Scalar.shrsi v5 c1_i32_1944
  let c1_i32_1945 : BitVec 32 := 1#32
  let v2251 : BitVec 32 := Scalar.andi v2250 c1_i32_1945
  let c1_i32_1946 : BitVec 32 := 1#32
  let v2252 : BitVec 32 := Scalar.shli v2251 c1_i32_1946
  let v2253 : BitVec 32 := Scalar.addi v2249 v2252
  let v2254 : BitVec 32 := Scalar.addi v2253 c0_i32_1947
  let c2_i32_1948 : BitVec 32 := 2#32
  let v2255 : BitVec 32 := Scalar.shrsi v2254 c2_i32_1948
  let c1_i32_1949 : BitVec 32 := 1#32
  let v2256 : BitVec 32 := Scalar.andi v2255 c1_i32_1949
  let c2_i32_1950 : BitVec 32 := 2#32
  let v2257 : BitVec 32 := Scalar.andi v2254 c2_i32_1950
  let v2258 : BitVec 32 := Scalar.ori v2256 v2257
  let c1_i32_1951 : BitVec 32 := 1#32
  let v2259 : BitVec 32 := Scalar.andi v2254 c1_i32_1951
  let c2_i32_1952 : BitVec 32 := 2#32
  let v2260 : BitVec 32 := Scalar.shli v2259 c2_i32_1952
  let v2261 : BitVec 32 := Scalar.ori v2258 v2260
  let c32_i32_1953 : BitVec 32 := 32#32
  let v2262 : BitVec 32 := Scalar.muli v2261 c32_i32_1953
  let c0_i32_1954 : BitVec 32 := 0#32
  let v2263 : BitVec 32 := Scalar.addi v2262 c0_i32_1954
  let c0_i32_1964 : BitVec 32 := 0#32
  ![0, v2263.toNat, 0]
def k0_dev36 (d0 : Dev nD) : Nat :=
  let c0_i32_1963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1955 : BitVec 32 := 2#32
  let v2264 : BitVec 32 := Scalar.xori v5 c2_i32_1955
  let c1_i32_1956 : BitVec 32 := 1#32
  let v2265 : BitVec 32 := Scalar.shrsi v2264 c1_i32_1956
  let c1_i32_1957 : BitVec 32 := 1#32
  let v2266 : BitVec 32 := Scalar.andi v2265 c1_i32_1957
  let v2267 : BitVec 32 := Scalar.xori v2264 v2266
  let c1_i32_1962 : BitVec 32 := 1#32
  let v2268 : BitVec 32 := Scalar.muli v2267 c1_i32_1962
  let v2269 : BitVec 32 := Scalar.addi c0_i32_1963 v2268
  v2269.toNat
def k0_dev37 (d0 : Dev nD) : Nat :=
  let c0_i32_1982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_1974 : BitVec 32 := 2#32
  let v2288 : BitVec 32 := Scalar.xori v5 c2_i32_1974
  let c1_i32_1975 : BitVec 32 := 1#32
  let v2289 : BitVec 32 := Scalar.shrsi v2288 c1_i32_1975
  let c1_i32_1976 : BitVec 32 := 1#32
  let v2290 : BitVec 32 := Scalar.andi v2289 c1_i32_1976
  let v2291 : BitVec 32 := Scalar.xori v2288 v2290
  let c1_i32_1981 : BitVec 32 := 1#32
  let v2292 : BitVec 32 := Scalar.muli v2291 c1_i32_1981
  let v2293 : BitVec 32 := Scalar.addi c0_i32_1982 v2292
  v2293.toNat
def k0_off25 (d0 : Dev nD) (c0_i32_2007 : BitVec 32) : Fin 3 → Nat :=
  let c0_i32_2021 : BitVec 32 := 0#32
  let c0_i32_2003 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2000 : BitVec 32 := 1#32
  let v2316 : BitVec 32 := Scalar.shrsi v5 c1_i32_2000
  let c1_i32_2001 : BitVec 32 := 1#32
  let v2317 : BitVec 32 := Scalar.andi v2316 c1_i32_2001
  let c2_i32_2002 : BitVec 32 := 2#32
  let v2318 : BitVec 32 := Scalar.shli v2317 c2_i32_2002
  let v2319 : BitVec 32 := Scalar.addi c0_i32_2003 v2318
  let c2_i32_2004 : BitVec 32 := 2#32
  let v2320 : BitVec 32 := Scalar.shrsi v5 c2_i32_2004
  let c1_i32_2005 : BitVec 32 := 1#32
  let v2321 : BitVec 32 := Scalar.andi v2320 c1_i32_2005
  let c1_i32_2006 : BitVec 32 := 1#32
  let v2322 : BitVec 32 := Scalar.shli v2321 c1_i32_2006
  let v2323 : BitVec 32 := Scalar.addi v2319 v2322
  let v2324 : BitVec 32 := Scalar.addi v2323 c0_i32_2007
  let c1_i32_2008 : BitVec 32 := 1#32
  let v2325 : BitVec 32 := Scalar.andi v2324 c1_i32_2008
  let c2_i32_2009 : BitVec 32 := 2#32
  let v2326 : BitVec 32 := Scalar.shrsi v2324 c2_i32_2009
  let c1_i32_2010 : BitVec 32 := 1#32
  let v2327 : BitVec 32 := Scalar.andi v2326 c1_i32_2010
  let c1_i32_2011 : BitVec 32 := 1#32
  let v2328 : BitVec 32 := Scalar.shli v2327 c1_i32_2011
  let v2329 : BitVec 32 := Scalar.ori v2325 v2328
  let c1_i32_2012 : BitVec 32 := 1#32
  let v2330 : BitVec 32 := Scalar.shrsi v2324 c1_i32_2012
  let c1_i32_2013 : BitVec 32 := 1#32
  let v2331 : BitVec 32 := Scalar.andi v2330 c1_i32_2013
  let c2_i32_2014 : BitVec 32 := 2#32
  let v2332 : BitVec 32 := Scalar.shli v2331 c2_i32_2014
  let v2333 : BitVec 32 := Scalar.ori v2329 v2332
  let c32_i32_2015 : BitVec 32 := 32#32
  let v2334 : BitVec 32 := Scalar.muli v2333 c32_i32_2015
  let c16_i32_2016 : BitVec 32 := 16#32
  let v2335 : BitVec 32 := Scalar.addi v2334 c16_i32_2016
  let c0_i32_2025 : BitVec 32 := 0#32
  ![0, v2335.toNat, 0]
def k0_dev38 (d0 : Dev nD) : Nat :=
  let c0_i32_2024 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2017 : BitVec 32 := 4#32
  let v2336 : BitVec 32 := Scalar.xori v5 c4_i32_2017
  let c1_i32_2018 : BitVec 32 := 1#32
  let v2337 : BitVec 32 := Scalar.shrsi v2336 c1_i32_2018
  let c1_i32_2019 : BitVec 32 := 1#32
  let v2338 : BitVec 32 := Scalar.andi v2337 c1_i32_2019
  let v2339 : BitVec 32 := Scalar.xori v2336 v2338
  let c1_i32_2023 : BitVec 32 := 1#32
  let v2340 : BitVec 32 := Scalar.muli v2339 c1_i32_2023
  let v2341 : BitVec 32 := Scalar.addi c0_i32_2024 v2340
  v2341.toNat
def k0_dev39 (d0 : Dev nD) : Nat :=
  let c0_i32_2045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2037 : BitVec 32 := 4#32
  let v2362 : BitVec 32 := Scalar.xori v5 c4_i32_2037
  let c1_i32_2038 : BitVec 32 := 1#32
  let v2363 : BitVec 32 := Scalar.shrsi v2362 c1_i32_2038
  let c1_i32_2039 : BitVec 32 := 1#32
  let v2364 : BitVec 32 := Scalar.andi v2363 c1_i32_2039
  let v2365 : BitVec 32 := Scalar.xori v2362 v2364
  let c1_i32_2044 : BitVec 32 := 1#32
  let v2366 : BitVec 32 := Scalar.muli v2365 c1_i32_2044
  let v2367 : BitVec 32 := Scalar.addi c0_i32_2045 v2366
  v2367.toNat
def k0_off26 (d0 : Dev nD) (c0_i32_2070 : BitVec 32) : Fin 3 → Nat :=
  let c1_i32_2082 : BitVec 32 := 1#32
  let c0_i32_2066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_2063 : BitVec 32 := 0#32
  let v2390 : BitVec 32 := Scalar.shrsi v5 c0_i32_2063
  let c1_i32_2064 : BitVec 32 := 1#32
  let v2391 : BitVec 32 := Scalar.andi v2390 c1_i32_2064
  let c2_i32_2065 : BitVec 32 := 2#32
  let v2392 : BitVec 32 := Scalar.shli v2391 c2_i32_2065
  let v2393 : BitVec 32 := Scalar.addi c0_i32_2066 v2392
  let c1_i32_2067 : BitVec 32 := 1#32
  let v2394 : BitVec 32 := Scalar.shrsi v5 c1_i32_2067
  let c1_i32_2068 : BitVec 32 := 1#32
  let v2395 : BitVec 32 := Scalar.andi v2394 c1_i32_2068
  let c1_i32_2069 : BitVec 32 := 1#32
  let v2396 : BitVec 32 := Scalar.shli v2395 c1_i32_2069
  let v2397 : BitVec 32 := Scalar.addi v2393 v2396
  let v2398 : BitVec 32 := Scalar.addi v2397 c0_i32_2070
  let c2_i32_2071 : BitVec 32 := 2#32
  let v2399 : BitVec 32 := Scalar.shrsi v2398 c2_i32_2071
  let c1_i32_2072 : BitVec 32 := 1#32
  let v2400 : BitVec 32 := Scalar.andi v2399 c1_i32_2072
  let c2_i32_2073 : BitVec 32 := 2#32
  let v2401 : BitVec 32 := Scalar.andi v2398 c2_i32_2073
  let v2402 : BitVec 32 := Scalar.ori v2400 v2401
  let c1_i32_2074 : BitVec 32 := 1#32
  let v2403 : BitVec 32 := Scalar.andi v2398 c1_i32_2074
  let c2_i32_2075 : BitVec 32 := 2#32
  let v2404 : BitVec 32 := Scalar.shli v2403 c2_i32_2075
  let v2405 : BitVec 32 := Scalar.ori v2402 v2404
  let c32_i32_2076 : BitVec 32 := 32#32
  let v2406 : BitVec 32 := Scalar.muli v2405 c32_i32_2076
  let c0_i32_2077 : BitVec 32 := 0#32
  let v2407 : BitVec 32 := Scalar.addi v2406 c0_i32_2077
  let c0_i32_2087 : BitVec 32 := 0#32
  ![1, v2407.toNat, 0]
def k0_dev40 (d0 : Dev nD) : Nat :=
  let c0_i32_2086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2078 : BitVec 32 := 2#32
  let v2408 : BitVec 32 := Scalar.xori v5 c2_i32_2078
  let c1_i32_2079 : BitVec 32 := 1#32
  let v2409 : BitVec 32 := Scalar.shrsi v2408 c1_i32_2079
  let c1_i32_2080 : BitVec 32 := 1#32
  let v2410 : BitVec 32 := Scalar.andi v2409 c1_i32_2080
  let v2411 : BitVec 32 := Scalar.xori v2408 v2410
  let c1_i32_2085 : BitVec 32 := 1#32
  let v2412 : BitVec 32 := Scalar.muli v2411 c1_i32_2085
  let v2413 : BitVec 32 := Scalar.addi c0_i32_2086 v2412
  v2413.toNat
def k0_dev41 (d0 : Dev nD) : Nat :=
  let c0_i32_2105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2097 : BitVec 32 := 2#32
  let v2432 : BitVec 32 := Scalar.xori v5 c2_i32_2097
  let c1_i32_2098 : BitVec 32 := 1#32
  let v2433 : BitVec 32 := Scalar.shrsi v2432 c1_i32_2098
  let c1_i32_2099 : BitVec 32 := 1#32
  let v2434 : BitVec 32 := Scalar.andi v2433 c1_i32_2099
  let v2435 : BitVec 32 := Scalar.xori v2432 v2434
  let c1_i32_2104 : BitVec 32 := 1#32
  let v2436 : BitVec 32 := Scalar.muli v2435 c1_i32_2104
  let v2437 : BitVec 32 := Scalar.addi c0_i32_2105 v2436
  v2437.toNat
def k0_off27 (d0 : Dev nD) (c0_i32_2130 : BitVec 32) : Fin 3 → Nat :=
  let c1_i32_2144 : BitVec 32 := 1#32
  let c0_i32_2126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2123 : BitVec 32 := 1#32
  let v2460 : BitVec 32 := Scalar.shrsi v5 c1_i32_2123
  let c1_i32_2124 : BitVec 32 := 1#32
  let v2461 : BitVec 32 := Scalar.andi v2460 c1_i32_2124
  let c2_i32_2125 : BitVec 32 := 2#32
  let v2462 : BitVec 32 := Scalar.shli v2461 c2_i32_2125
  let v2463 : BitVec 32 := Scalar.addi c0_i32_2126 v2462
  let c2_i32_2127 : BitVec 32 := 2#32
  let v2464 : BitVec 32 := Scalar.shrsi v5 c2_i32_2127
  let c1_i32_2128 : BitVec 32 := 1#32
  let v2465 : BitVec 32 := Scalar.andi v2464 c1_i32_2128
  let c1_i32_2129 : BitVec 32 := 1#32
  let v2466 : BitVec 32 := Scalar.shli v2465 c1_i32_2129
  let v2467 : BitVec 32 := Scalar.addi v2463 v2466
  let v2468 : BitVec 32 := Scalar.addi v2467 c0_i32_2130
  let c1_i32_2131 : BitVec 32 := 1#32
  let v2469 : BitVec 32 := Scalar.andi v2468 c1_i32_2131
  let c2_i32_2132 : BitVec 32 := 2#32
  let v2470 : BitVec 32 := Scalar.shrsi v2468 c2_i32_2132
  let c1_i32_2133 : BitVec 32 := 1#32
  let v2471 : BitVec 32 := Scalar.andi v2470 c1_i32_2133
  let c1_i32_2134 : BitVec 32 := 1#32
  let v2472 : BitVec 32 := Scalar.shli v2471 c1_i32_2134
  let v2473 : BitVec 32 := Scalar.ori v2469 v2472
  let c1_i32_2135 : BitVec 32 := 1#32
  let v2474 : BitVec 32 := Scalar.shrsi v2468 c1_i32_2135
  let c1_i32_2136 : BitVec 32 := 1#32
  let v2475 : BitVec 32 := Scalar.andi v2474 c1_i32_2136
  let c2_i32_2137 : BitVec 32 := 2#32
  let v2476 : BitVec 32 := Scalar.shli v2475 c2_i32_2137
  let v2477 : BitVec 32 := Scalar.ori v2473 v2476
  let c32_i32_2138 : BitVec 32 := 32#32
  let v2478 : BitVec 32 := Scalar.muli v2477 c32_i32_2138
  let c16_i32_2139 : BitVec 32 := 16#32
  let v2479 : BitVec 32 := Scalar.addi v2478 c16_i32_2139
  let c0_i32_2149 : BitVec 32 := 0#32
  ![1, v2479.toNat, 0]
def k0_dev42 (d0 : Dev nD) : Nat :=
  let c0_i32_2148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2140 : BitVec 32 := 4#32
  let v2480 : BitVec 32 := Scalar.xori v5 c4_i32_2140
  let c1_i32_2141 : BitVec 32 := 1#32
  let v2481 : BitVec 32 := Scalar.shrsi v2480 c1_i32_2141
  let c1_i32_2142 : BitVec 32 := 1#32
  let v2482 : BitVec 32 := Scalar.andi v2481 c1_i32_2142
  let v2483 : BitVec 32 := Scalar.xori v2480 v2482
  let c1_i32_2147 : BitVec 32 := 1#32
  let v2484 : BitVec 32 := Scalar.muli v2483 c1_i32_2147
  let v2485 : BitVec 32 := Scalar.addi c0_i32_2148 v2484
  v2485.toNat
def k0_dev43 (d0 : Dev nD) : Nat :=
  let c0_i32_2169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2161 : BitVec 32 := 4#32
  let v2506 : BitVec 32 := Scalar.xori v5 c4_i32_2161
  let c1_i32_2162 : BitVec 32 := 1#32
  let v2507 : BitVec 32 := Scalar.shrsi v2506 c1_i32_2162
  let c1_i32_2163 : BitVec 32 := 1#32
  let v2508 : BitVec 32 := Scalar.andi v2507 c1_i32_2163
  let v2509 : BitVec 32 := Scalar.xori v2506 v2508
  let c1_i32_2168 : BitVec 32 := 1#32
  let v2510 : BitVec 32 := Scalar.muli v2509 c1_i32_2168
  let v2511 : BitVec 32 := Scalar.addi c0_i32_2169 v2510
  v2511.toNat
def k0_off28 (d0 : Dev nD) (c0_i32_2194 : BitVec 32) : Fin 3 → Nat :=
  let c2_i32_2206 : BitVec 32 := 2#32
  let c0_i32_2190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_2187 : BitVec 32 := 0#32
  let v2534 : BitVec 32 := Scalar.shrsi v5 c0_i32_2187
  let c1_i32_2188 : BitVec 32 := 1#32
  let v2535 : BitVec 32 := Scalar.andi v2534 c1_i32_2188
  let c2_i32_2189 : BitVec 32 := 2#32
  let v2536 : BitVec 32 := Scalar.shli v2535 c2_i32_2189
  let v2537 : BitVec 32 := Scalar.addi c0_i32_2190 v2536
  let c1_i32_2191 : BitVec 32 := 1#32
  let v2538 : BitVec 32 := Scalar.shrsi v5 c1_i32_2191
  let c1_i32_2192 : BitVec 32 := 1#32
  let v2539 : BitVec 32 := Scalar.andi v2538 c1_i32_2192
  let c1_i32_2193 : BitVec 32 := 1#32
  let v2540 : BitVec 32 := Scalar.shli v2539 c1_i32_2193
  let v2541 : BitVec 32 := Scalar.addi v2537 v2540
  let v2542 : BitVec 32 := Scalar.addi v2541 c0_i32_2194
  let c2_i32_2195 : BitVec 32 := 2#32
  let v2543 : BitVec 32 := Scalar.shrsi v2542 c2_i32_2195
  let c1_i32_2196 : BitVec 32 := 1#32
  let v2544 : BitVec 32 := Scalar.andi v2543 c1_i32_2196
  let c2_i32_2197 : BitVec 32 := 2#32
  let v2545 : BitVec 32 := Scalar.andi v2542 c2_i32_2197
  let v2546 : BitVec 32 := Scalar.ori v2544 v2545
  let c1_i32_2198 : BitVec 32 := 1#32
  let v2547 : BitVec 32 := Scalar.andi v2542 c1_i32_2198
  let c2_i32_2199 : BitVec 32 := 2#32
  let v2548 : BitVec 32 := Scalar.shli v2547 c2_i32_2199
  let v2549 : BitVec 32 := Scalar.ori v2546 v2548
  let c32_i32_2200 : BitVec 32 := 32#32
  let v2550 : BitVec 32 := Scalar.muli v2549 c32_i32_2200
  let c0_i32_2201 : BitVec 32 := 0#32
  let v2551 : BitVec 32 := Scalar.addi v2550 c0_i32_2201
  let c0_i32_2211 : BitVec 32 := 0#32
  ![2, v2551.toNat, 0]
def k0_dev44 (d0 : Dev nD) : Nat :=
  let c0_i32_2210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2202 : BitVec 32 := 2#32
  let v2552 : BitVec 32 := Scalar.xori v5 c2_i32_2202
  let c1_i32_2203 : BitVec 32 := 1#32
  let v2553 : BitVec 32 := Scalar.shrsi v2552 c1_i32_2203
  let c1_i32_2204 : BitVec 32 := 1#32
  let v2554 : BitVec 32 := Scalar.andi v2553 c1_i32_2204
  let v2555 : BitVec 32 := Scalar.xori v2552 v2554
  let c1_i32_2209 : BitVec 32 := 1#32
  let v2556 : BitVec 32 := Scalar.muli v2555 c1_i32_2209
  let v2557 : BitVec 32 := Scalar.addi c0_i32_2210 v2556
  v2557.toNat
def k0_dev45 (d0 : Dev nD) : Nat :=
  let c0_i32_2229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2221 : BitVec 32 := 2#32
  let v2576 : BitVec 32 := Scalar.xori v5 c2_i32_2221
  let c1_i32_2222 : BitVec 32 := 1#32
  let v2577 : BitVec 32 := Scalar.shrsi v2576 c1_i32_2222
  let c1_i32_2223 : BitVec 32 := 1#32
  let v2578 : BitVec 32 := Scalar.andi v2577 c1_i32_2223
  let v2579 : BitVec 32 := Scalar.xori v2576 v2578
  let c1_i32_2228 : BitVec 32 := 1#32
  let v2580 : BitVec 32 := Scalar.muli v2579 c1_i32_2228
  let v2581 : BitVec 32 := Scalar.addi c0_i32_2229 v2580
  v2581.toNat
def k0_off29 (d0 : Dev nD) (c0_i32_2254 : BitVec 32) : Fin 3 → Nat :=
  let c2_i32_2268 : BitVec 32 := 2#32
  let c0_i32_2250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2247 : BitVec 32 := 1#32
  let v2604 : BitVec 32 := Scalar.shrsi v5 c1_i32_2247
  let c1_i32_2248 : BitVec 32 := 1#32
  let v2605 : BitVec 32 := Scalar.andi v2604 c1_i32_2248
  let c2_i32_2249 : BitVec 32 := 2#32
  let v2606 : BitVec 32 := Scalar.shli v2605 c2_i32_2249
  let v2607 : BitVec 32 := Scalar.addi c0_i32_2250 v2606
  let c2_i32_2251 : BitVec 32 := 2#32
  let v2608 : BitVec 32 := Scalar.shrsi v5 c2_i32_2251
  let c1_i32_2252 : BitVec 32 := 1#32
  let v2609 : BitVec 32 := Scalar.andi v2608 c1_i32_2252
  let c1_i32_2253 : BitVec 32 := 1#32
  let v2610 : BitVec 32 := Scalar.shli v2609 c1_i32_2253
  let v2611 : BitVec 32 := Scalar.addi v2607 v2610
  let v2612 : BitVec 32 := Scalar.addi v2611 c0_i32_2254
  let c1_i32_2255 : BitVec 32 := 1#32
  let v2613 : BitVec 32 := Scalar.andi v2612 c1_i32_2255
  let c2_i32_2256 : BitVec 32 := 2#32
  let v2614 : BitVec 32 := Scalar.shrsi v2612 c2_i32_2256
  let c1_i32_2257 : BitVec 32 := 1#32
  let v2615 : BitVec 32 := Scalar.andi v2614 c1_i32_2257
  let c1_i32_2258 : BitVec 32 := 1#32
  let v2616 : BitVec 32 := Scalar.shli v2615 c1_i32_2258
  let v2617 : BitVec 32 := Scalar.ori v2613 v2616
  let c1_i32_2259 : BitVec 32 := 1#32
  let v2618 : BitVec 32 := Scalar.shrsi v2612 c1_i32_2259
  let c1_i32_2260 : BitVec 32 := 1#32
  let v2619 : BitVec 32 := Scalar.andi v2618 c1_i32_2260
  let c2_i32_2261 : BitVec 32 := 2#32
  let v2620 : BitVec 32 := Scalar.shli v2619 c2_i32_2261
  let v2621 : BitVec 32 := Scalar.ori v2617 v2620
  let c32_i32_2262 : BitVec 32 := 32#32
  let v2622 : BitVec 32 := Scalar.muli v2621 c32_i32_2262
  let c16_i32_2263 : BitVec 32 := 16#32
  let v2623 : BitVec 32 := Scalar.addi v2622 c16_i32_2263
  let c0_i32_2273 : BitVec 32 := 0#32
  ![2, v2623.toNat, 0]
def k0_dev46 (d0 : Dev nD) : Nat :=
  let c0_i32_2272 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2264 : BitVec 32 := 4#32
  let v2624 : BitVec 32 := Scalar.xori v5 c4_i32_2264
  let c1_i32_2265 : BitVec 32 := 1#32
  let v2625 : BitVec 32 := Scalar.shrsi v2624 c1_i32_2265
  let c1_i32_2266 : BitVec 32 := 1#32
  let v2626 : BitVec 32 := Scalar.andi v2625 c1_i32_2266
  let v2627 : BitVec 32 := Scalar.xori v2624 v2626
  let c1_i32_2271 : BitVec 32 := 1#32
  let v2628 : BitVec 32 := Scalar.muli v2627 c1_i32_2271
  let v2629 : BitVec 32 := Scalar.addi c0_i32_2272 v2628
  v2629.toNat
def k0_dev47 (d0 : Dev nD) : Nat :=
  let c0_i32_2293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2285 : BitVec 32 := 4#32
  let v2650 : BitVec 32 := Scalar.xori v5 c4_i32_2285
  let c1_i32_2286 : BitVec 32 := 1#32
  let v2651 : BitVec 32 := Scalar.shrsi v2650 c1_i32_2286
  let c1_i32_2287 : BitVec 32 := 1#32
  let v2652 : BitVec 32 := Scalar.andi v2651 c1_i32_2287
  let v2653 : BitVec 32 := Scalar.xori v2650 v2652
  let c1_i32_2292 : BitVec 32 := 1#32
  let v2654 : BitVec 32 := Scalar.muli v2653 c1_i32_2292
  let v2655 : BitVec 32 := Scalar.addi c0_i32_2293 v2654
  v2655.toNat
def k0_off30 (d0 : Dev nD) (c0_i32_2318 : BitVec 32) : Fin 3 → Nat :=
  let c3_i32_2330 : BitVec 32 := 3#32
  let c0_i32_2314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_2311 : BitVec 32 := 0#32
  let v2678 : BitVec 32 := Scalar.shrsi v5 c0_i32_2311
  let c1_i32_2312 : BitVec 32 := 1#32
  let v2679 : BitVec 32 := Scalar.andi v2678 c1_i32_2312
  let c2_i32_2313 : BitVec 32 := 2#32
  let v2680 : BitVec 32 := Scalar.shli v2679 c2_i32_2313
  let v2681 : BitVec 32 := Scalar.addi c0_i32_2314 v2680
  let c1_i32_2315 : BitVec 32 := 1#32
  let v2682 : BitVec 32 := Scalar.shrsi v5 c1_i32_2315
  let c1_i32_2316 : BitVec 32 := 1#32
  let v2683 : BitVec 32 := Scalar.andi v2682 c1_i32_2316
  let c1_i32_2317 : BitVec 32 := 1#32
  let v2684 : BitVec 32 := Scalar.shli v2683 c1_i32_2317
  let v2685 : BitVec 32 := Scalar.addi v2681 v2684
  let v2686 : BitVec 32 := Scalar.addi v2685 c0_i32_2318
  let c2_i32_2319 : BitVec 32 := 2#32
  let v2687 : BitVec 32 := Scalar.shrsi v2686 c2_i32_2319
  let c1_i32_2320 : BitVec 32 := 1#32
  let v2688 : BitVec 32 := Scalar.andi v2687 c1_i32_2320
  let c2_i32_2321 : BitVec 32 := 2#32
  let v2689 : BitVec 32 := Scalar.andi v2686 c2_i32_2321
  let v2690 : BitVec 32 := Scalar.ori v2688 v2689
  let c1_i32_2322 : BitVec 32 := 1#32
  let v2691 : BitVec 32 := Scalar.andi v2686 c1_i32_2322
  let c2_i32_2323 : BitVec 32 := 2#32
  let v2692 : BitVec 32 := Scalar.shli v2691 c2_i32_2323
  let v2693 : BitVec 32 := Scalar.ori v2690 v2692
  let c32_i32_2324 : BitVec 32 := 32#32
  let v2694 : BitVec 32 := Scalar.muli v2693 c32_i32_2324
  let c0_i32_2325 : BitVec 32 := 0#32
  let v2695 : BitVec 32 := Scalar.addi v2694 c0_i32_2325
  let c0_i32_2335 : BitVec 32 := 0#32
  ![3, v2695.toNat, 0]
def k0_dev48 (d0 : Dev nD) : Nat :=
  let c0_i32_2334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2326 : BitVec 32 := 2#32
  let v2696 : BitVec 32 := Scalar.xori v5 c2_i32_2326
  let c1_i32_2327 : BitVec 32 := 1#32
  let v2697 : BitVec 32 := Scalar.shrsi v2696 c1_i32_2327
  let c1_i32_2328 : BitVec 32 := 1#32
  let v2698 : BitVec 32 := Scalar.andi v2697 c1_i32_2328
  let v2699 : BitVec 32 := Scalar.xori v2696 v2698
  let c1_i32_2333 : BitVec 32 := 1#32
  let v2700 : BitVec 32 := Scalar.muli v2699 c1_i32_2333
  let v2701 : BitVec 32 := Scalar.addi c0_i32_2334 v2700
  v2701.toNat
def k0_dev49 (d0 : Dev nD) : Nat :=
  let c0_i32_2353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2345 : BitVec 32 := 2#32
  let v2720 : BitVec 32 := Scalar.xori v5 c2_i32_2345
  let c1_i32_2346 : BitVec 32 := 1#32
  let v2721 : BitVec 32 := Scalar.shrsi v2720 c1_i32_2346
  let c1_i32_2347 : BitVec 32 := 1#32
  let v2722 : BitVec 32 := Scalar.andi v2721 c1_i32_2347
  let v2723 : BitVec 32 := Scalar.xori v2720 v2722
  let c1_i32_2352 : BitVec 32 := 1#32
  let v2724 : BitVec 32 := Scalar.muli v2723 c1_i32_2352
  let v2725 : BitVec 32 := Scalar.addi c0_i32_2353 v2724
  v2725.toNat
def k0_off31 (d0 : Dev nD) (c0_i32_2378 : BitVec 32) : Fin 3 → Nat :=
  let c3_i32_2392 : BitVec 32 := 3#32
  let c0_i32_2374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2371 : BitVec 32 := 1#32
  let v2748 : BitVec 32 := Scalar.shrsi v5 c1_i32_2371
  let c1_i32_2372 : BitVec 32 := 1#32
  let v2749 : BitVec 32 := Scalar.andi v2748 c1_i32_2372
  let c2_i32_2373 : BitVec 32 := 2#32
  let v2750 : BitVec 32 := Scalar.shli v2749 c2_i32_2373
  let v2751 : BitVec 32 := Scalar.addi c0_i32_2374 v2750
  let c2_i32_2375 : BitVec 32 := 2#32
  let v2752 : BitVec 32 := Scalar.shrsi v5 c2_i32_2375
  let c1_i32_2376 : BitVec 32 := 1#32
  let v2753 : BitVec 32 := Scalar.andi v2752 c1_i32_2376
  let c1_i32_2377 : BitVec 32 := 1#32
  let v2754 : BitVec 32 := Scalar.shli v2753 c1_i32_2377
  let v2755 : BitVec 32 := Scalar.addi v2751 v2754
  let v2756 : BitVec 32 := Scalar.addi v2755 c0_i32_2378
  let c1_i32_2379 : BitVec 32 := 1#32
  let v2757 : BitVec 32 := Scalar.andi v2756 c1_i32_2379
  let c2_i32_2380 : BitVec 32 := 2#32
  let v2758 : BitVec 32 := Scalar.shrsi v2756 c2_i32_2380
  let c1_i32_2381 : BitVec 32 := 1#32
  let v2759 : BitVec 32 := Scalar.andi v2758 c1_i32_2381
  let c1_i32_2382 : BitVec 32 := 1#32
  let v2760 : BitVec 32 := Scalar.shli v2759 c1_i32_2382
  let v2761 : BitVec 32 := Scalar.ori v2757 v2760
  let c1_i32_2383 : BitVec 32 := 1#32
  let v2762 : BitVec 32 := Scalar.shrsi v2756 c1_i32_2383
  let c1_i32_2384 : BitVec 32 := 1#32
  let v2763 : BitVec 32 := Scalar.andi v2762 c1_i32_2384
  let c2_i32_2385 : BitVec 32 := 2#32
  let v2764 : BitVec 32 := Scalar.shli v2763 c2_i32_2385
  let v2765 : BitVec 32 := Scalar.ori v2761 v2764
  let c32_i32_2386 : BitVec 32 := 32#32
  let v2766 : BitVec 32 := Scalar.muli v2765 c32_i32_2386
  let c16_i32_2387 : BitVec 32 := 16#32
  let v2767 : BitVec 32 := Scalar.addi v2766 c16_i32_2387
  let c0_i32_2397 : BitVec 32 := 0#32
  ![3, v2767.toNat, 0]
def k0_dev50 (d0 : Dev nD) : Nat :=
  let c0_i32_2396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2388 : BitVec 32 := 4#32
  let v2768 : BitVec 32 := Scalar.xori v5 c4_i32_2388
  let c1_i32_2389 : BitVec 32 := 1#32
  let v2769 : BitVec 32 := Scalar.shrsi v2768 c1_i32_2389
  let c1_i32_2390 : BitVec 32 := 1#32
  let v2770 : BitVec 32 := Scalar.andi v2769 c1_i32_2390
  let v2771 : BitVec 32 := Scalar.xori v2768 v2770
  let c1_i32_2395 : BitVec 32 := 1#32
  let v2772 : BitVec 32 := Scalar.muli v2771 c1_i32_2395
  let v2773 : BitVec 32 := Scalar.addi c0_i32_2396 v2772
  v2773.toNat
def k0_dev51 (d0 : Dev nD) : Nat :=
  let c0_i32_2417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c4_i32_2409 : BitVec 32 := 4#32
  let v2794 : BitVec 32 := Scalar.xori v5 c4_i32_2409
  let c1_i32_2410 : BitVec 32 := 1#32
  let v2795 : BitVec 32 := Scalar.shrsi v2794 c1_i32_2410
  let c1_i32_2411 : BitVec 32 := 1#32
  let v2796 : BitVec 32 := Scalar.andi v2795 c1_i32_2411
  let v2797 : BitVec 32 := Scalar.xori v2794 v2796
  let c1_i32_2416 : BitVec 32 := 1#32
  let v2798 : BitVec 32 := Scalar.muli v2797 c1_i32_2416
  let v2799 : BitVec 32 := Scalar.addi c0_i32_2417 v2798
  v2799.toNat
def k0_off32 (d0 : Dev nD) (c0_i32_2454 : BitVec 32) : Fin 3 → Nat :=
  let c0_i32_2466 : BitVec 32 := 0#32
  let c0_i32_2453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_2450 : BitVec 32 := 0#32
  let v2836 : BitVec 32 := Scalar.shrsi v5 c0_i32_2450
  let c1_i32_2451 : BitVec 32 := 1#32
  let v2837 : BitVec 32 := Scalar.andi v2836 c1_i32_2451
  let c2_i32_2452 : BitVec 32 := 2#32
  let v2838 : BitVec 32 := Scalar.shli v2837 c2_i32_2452
  let v2839 : BitVec 32 := Scalar.addi c0_i32_2453 v2838
  let v2840 : BitVec 32 := Scalar.addi v2839 c0_i32_2454
  let c2_i32_2455 : BitVec 32 := 2#32
  let v2841 : BitVec 32 := Scalar.shrsi v2840 c2_i32_2455
  let c1_i32_2456 : BitVec 32 := 1#32
  let v2842 : BitVec 32 := Scalar.andi v2841 c1_i32_2456
  let c2_i32_2457 : BitVec 32 := 2#32
  let v2843 : BitVec 32 := Scalar.andi v2840 c2_i32_2457
  let v2844 : BitVec 32 := Scalar.ori v2842 v2843
  let c1_i32_2458 : BitVec 32 := 1#32
  let v2845 : BitVec 32 := Scalar.andi v2840 c1_i32_2458
  let c2_i32_2459 : BitVec 32 := 2#32
  let v2846 : BitVec 32 := Scalar.shli v2845 c2_i32_2459
  let v2847 : BitVec 32 := Scalar.ori v2844 v2846
  let c32_i32_2460 : BitVec 32 := 32#32
  let v2848 : BitVec 32 := Scalar.muli v2847 c32_i32_2460
  let c0_i32_2461 : BitVec 32 := 0#32
  let v2849 : BitVec 32 := Scalar.addi v2848 c0_i32_2461
  let c0_i32_2470 : BitVec 32 := 0#32
  ![0, v2849.toNat, 0]
def k0_dev52 (d0 : Dev nD) : Nat :=
  let c0_i32_2469 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2462 : BitVec 32 := 1#32
  let v2850 : BitVec 32 := Scalar.xori v5 c1_i32_2462
  let c1_i32_2463 : BitVec 32 := 1#32
  let v2851 : BitVec 32 := Scalar.shrsi v2850 c1_i32_2463
  let c1_i32_2464 : BitVec 32 := 1#32
  let v2852 : BitVec 32 := Scalar.andi v2851 c1_i32_2464
  let v2853 : BitVec 32 := Scalar.xori v2850 v2852
  let c1_i32_2468 : BitVec 32 := 1#32
  let v2854 : BitVec 32 := Scalar.muli v2853 c1_i32_2468
  let v2855 : BitVec 32 := Scalar.addi c0_i32_2469 v2854
  v2855.toNat
def k0_dev53 (d0 : Dev nD) : Nat :=
  let c0_i32_2488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2480 : BitVec 32 := 1#32
  let v2874 : BitVec 32 := Scalar.xori v5 c1_i32_2480
  let c1_i32_2481 : BitVec 32 := 1#32
  let v2875 : BitVec 32 := Scalar.shrsi v2874 c1_i32_2481
  let c1_i32_2482 : BitVec 32 := 1#32
  let v2876 : BitVec 32 := Scalar.andi v2875 c1_i32_2482
  let v2877 : BitVec 32 := Scalar.xori v2874 v2876
  let c1_i32_2487 : BitVec 32 := 1#32
  let v2878 : BitVec 32 := Scalar.muli v2877 c1_i32_2487
  let v2879 : BitVec 32 := Scalar.addi c0_i32_2488 v2878
  v2879.toNat
def k0_dev54 (d0 : Dev nD) : Nat :=
  let c0_i32_2507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2499 : BitVec 32 := 1#32
  let v2898 : BitVec 32 := Scalar.xori v5 c1_i32_2499
  let c1_i32_2500 : BitVec 32 := 1#32
  let v2899 : BitVec 32 := Scalar.shrsi v2898 c1_i32_2500
  let c1_i32_2501 : BitVec 32 := 1#32
  let v2900 : BitVec 32 := Scalar.andi v2899 c1_i32_2501
  let v2901 : BitVec 32 := Scalar.xori v2898 v2900
  let c1_i32_2506 : BitVec 32 := 1#32
  let v2902 : BitVec 32 := Scalar.muli v2901 c1_i32_2506
  let v2903 : BitVec 32 := Scalar.addi c0_i32_2507 v2902
  v2903.toNat
def k0_dev55 (d0 : Dev nD) : Nat :=
  let c0_i32_2526 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2518 : BitVec 32 := 1#32
  let v2922 : BitVec 32 := Scalar.xori v5 c1_i32_2518
  let c1_i32_2519 : BitVec 32 := 1#32
  let v2923 : BitVec 32 := Scalar.shrsi v2922 c1_i32_2519
  let c1_i32_2520 : BitVec 32 := 1#32
  let v2924 : BitVec 32 := Scalar.andi v2923 c1_i32_2520
  let v2925 : BitVec 32 := Scalar.xori v2922 v2924
  let c1_i32_2525 : BitVec 32 := 1#32
  let v2926 : BitVec 32 := Scalar.muli v2925 c1_i32_2525
  let v2927 : BitVec 32 := Scalar.addi c0_i32_2526 v2926
  v2927.toNat
def k0_off33 (d0 : Dev nD) (c0_i32_2563 : BitVec 32) : Fin 3 → Nat :=
  let c0_i32_2577 : BitVec 32 := 0#32
  let c0_i32_2562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2559 : BitVec 32 := 1#32
  let v2964 : BitVec 32 := Scalar.shrsi v5 c1_i32_2559
  let c1_i32_2560 : BitVec 32 := 1#32
  let v2965 : BitVec 32 := Scalar.andi v2964 c1_i32_2560
  let c2_i32_2561 : BitVec 32 := 2#32
  let v2966 : BitVec 32 := Scalar.shli v2965 c2_i32_2561
  let v2967 : BitVec 32 := Scalar.addi c0_i32_2562 v2966
  let v2968 : BitVec 32 := Scalar.addi v2967 c0_i32_2563
  let c1_i32_2564 : BitVec 32 := 1#32
  let v2969 : BitVec 32 := Scalar.andi v2968 c1_i32_2564
  let c2_i32_2565 : BitVec 32 := 2#32
  let v2970 : BitVec 32 := Scalar.shrsi v2968 c2_i32_2565
  let c1_i32_2566 : BitVec 32 := 1#32
  let v2971 : BitVec 32 := Scalar.andi v2970 c1_i32_2566
  let c1_i32_2567 : BitVec 32 := 1#32
  let v2972 : BitVec 32 := Scalar.shli v2971 c1_i32_2567
  let v2973 : BitVec 32 := Scalar.ori v2969 v2972
  let c1_i32_2568 : BitVec 32 := 1#32
  let v2974 : BitVec 32 := Scalar.shrsi v2968 c1_i32_2568
  let c1_i32_2569 : BitVec 32 := 1#32
  let v2975 : BitVec 32 := Scalar.andi v2974 c1_i32_2569
  let c2_i32_2570 : BitVec 32 := 2#32
  let v2976 : BitVec 32 := Scalar.shli v2975 c2_i32_2570
  let v2977 : BitVec 32 := Scalar.ori v2973 v2976
  let c32_i32_2571 : BitVec 32 := 32#32
  let v2978 : BitVec 32 := Scalar.muli v2977 c32_i32_2571
  let c16_i32_2572 : BitVec 32 := 16#32
  let v2979 : BitVec 32 := Scalar.addi v2978 c16_i32_2572
  let c0_i32_2581 : BitVec 32 := 0#32
  ![0, v2979.toNat, 0]
def k0_dev56 (d0 : Dev nD) : Nat :=
  let c0_i32_2580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2573 : BitVec 32 := 2#32
  let v2980 : BitVec 32 := Scalar.xori v5 c2_i32_2573
  let c1_i32_2574 : BitVec 32 := 1#32
  let v2981 : BitVec 32 := Scalar.shrsi v2980 c1_i32_2574
  let c1_i32_2575 : BitVec 32 := 1#32
  let v2982 : BitVec 32 := Scalar.andi v2981 c1_i32_2575
  let v2983 : BitVec 32 := Scalar.xori v2980 v2982
  let c1_i32_2579 : BitVec 32 := 1#32
  let v2984 : BitVec 32 := Scalar.muli v2983 c1_i32_2579
  let v2985 : BitVec 32 := Scalar.addi c0_i32_2580 v2984
  v2985.toNat
def k0_dev57 (d0 : Dev nD) : Nat :=
  let c0_i32_2601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2593 : BitVec 32 := 2#32
  let v3006 : BitVec 32 := Scalar.xori v5 c2_i32_2593
  let c1_i32_2594 : BitVec 32 := 1#32
  let v3007 : BitVec 32 := Scalar.shrsi v3006 c1_i32_2594
  let c1_i32_2595 : BitVec 32 := 1#32
  let v3008 : BitVec 32 := Scalar.andi v3007 c1_i32_2595
  let v3009 : BitVec 32 := Scalar.xori v3006 v3008
  let c1_i32_2600 : BitVec 32 := 1#32
  let v3010 : BitVec 32 := Scalar.muli v3009 c1_i32_2600
  let v3011 : BitVec 32 := Scalar.addi c0_i32_2601 v3010
  v3011.toNat
def k0_dev58 (d0 : Dev nD) : Nat :=
  let c0_i32_2622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2614 : BitVec 32 := 2#32
  let v3032 : BitVec 32 := Scalar.xori v5 c2_i32_2614
  let c1_i32_2615 : BitVec 32 := 1#32
  let v3033 : BitVec 32 := Scalar.shrsi v3032 c1_i32_2615
  let c1_i32_2616 : BitVec 32 := 1#32
  let v3034 : BitVec 32 := Scalar.andi v3033 c1_i32_2616
  let v3035 : BitVec 32 := Scalar.xori v3032 v3034
  let c1_i32_2621 : BitVec 32 := 1#32
  let v3036 : BitVec 32 := Scalar.muli v3035 c1_i32_2621
  let v3037 : BitVec 32 := Scalar.addi c0_i32_2622 v3036
  v3037.toNat
def k0_dev59 (d0 : Dev nD) : Nat :=
  let c0_i32_2643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2635 : BitVec 32 := 2#32
  let v3058 : BitVec 32 := Scalar.xori v5 c2_i32_2635
  let c1_i32_2636 : BitVec 32 := 1#32
  let v3059 : BitVec 32 := Scalar.shrsi v3058 c1_i32_2636
  let c1_i32_2637 : BitVec 32 := 1#32
  let v3060 : BitVec 32 := Scalar.andi v3059 c1_i32_2637
  let v3061 : BitVec 32 := Scalar.xori v3058 v3060
  let c1_i32_2642 : BitVec 32 := 1#32
  let v3062 : BitVec 32 := Scalar.muli v3061 c1_i32_2642
  let v3063 : BitVec 32 := Scalar.addi c0_i32_2643 v3062
  v3063.toNat
def k0_off34 (d0 : Dev nD) (c0_i32_2680 : BitVec 32) : Fin 3 → Nat :=
  let c1_i32_2692 : BitVec 32 := 1#32
  let c0_i32_2679 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_2676 : BitVec 32 := 0#32
  let v3100 : BitVec 32 := Scalar.shrsi v5 c0_i32_2676
  let c1_i32_2677 : BitVec 32 := 1#32
  let v3101 : BitVec 32 := Scalar.andi v3100 c1_i32_2677
  let c2_i32_2678 : BitVec 32 := 2#32
  let v3102 : BitVec 32 := Scalar.shli v3101 c2_i32_2678
  let v3103 : BitVec 32 := Scalar.addi c0_i32_2679 v3102
  let v3104 : BitVec 32 := Scalar.addi v3103 c0_i32_2680
  let c2_i32_2681 : BitVec 32 := 2#32
  let v3105 : BitVec 32 := Scalar.shrsi v3104 c2_i32_2681
  let c1_i32_2682 : BitVec 32 := 1#32
  let v3106 : BitVec 32 := Scalar.andi v3105 c1_i32_2682
  let c2_i32_2683 : BitVec 32 := 2#32
  let v3107 : BitVec 32 := Scalar.andi v3104 c2_i32_2683
  let v3108 : BitVec 32 := Scalar.ori v3106 v3107
  let c1_i32_2684 : BitVec 32 := 1#32
  let v3109 : BitVec 32 := Scalar.andi v3104 c1_i32_2684
  let c2_i32_2685 : BitVec 32 := 2#32
  let v3110 : BitVec 32 := Scalar.shli v3109 c2_i32_2685
  let v3111 : BitVec 32 := Scalar.ori v3108 v3110
  let c32_i32_2686 : BitVec 32 := 32#32
  let v3112 : BitVec 32 := Scalar.muli v3111 c32_i32_2686
  let c0_i32_2687 : BitVec 32 := 0#32
  let v3113 : BitVec 32 := Scalar.addi v3112 c0_i32_2687
  let c0_i32_2697 : BitVec 32 := 0#32
  ![1, v3113.toNat, 0]
def k0_dev60 (d0 : Dev nD) : Nat :=
  let c0_i32_2696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2688 : BitVec 32 := 1#32
  let v3114 : BitVec 32 := Scalar.xori v5 c1_i32_2688
  let c1_i32_2689 : BitVec 32 := 1#32
  let v3115 : BitVec 32 := Scalar.shrsi v3114 c1_i32_2689
  let c1_i32_2690 : BitVec 32 := 1#32
  let v3116 : BitVec 32 := Scalar.andi v3115 c1_i32_2690
  let v3117 : BitVec 32 := Scalar.xori v3114 v3116
  let c1_i32_2695 : BitVec 32 := 1#32
  let v3118 : BitVec 32 := Scalar.muli v3117 c1_i32_2695
  let v3119 : BitVec 32 := Scalar.addi c0_i32_2696 v3118
  v3119.toNat
def k0_dev61 (d0 : Dev nD) : Nat :=
  let c0_i32_2715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2707 : BitVec 32 := 1#32
  let v3138 : BitVec 32 := Scalar.xori v5 c1_i32_2707
  let c1_i32_2708 : BitVec 32 := 1#32
  let v3139 : BitVec 32 := Scalar.shrsi v3138 c1_i32_2708
  let c1_i32_2709 : BitVec 32 := 1#32
  let v3140 : BitVec 32 := Scalar.andi v3139 c1_i32_2709
  let v3141 : BitVec 32 := Scalar.xori v3138 v3140
  let c1_i32_2714 : BitVec 32 := 1#32
  let v3142 : BitVec 32 := Scalar.muli v3141 c1_i32_2714
  let v3143 : BitVec 32 := Scalar.addi c0_i32_2715 v3142
  v3143.toNat
def k0_dev62 (d0 : Dev nD) : Nat :=
  let c0_i32_2734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2726 : BitVec 32 := 1#32
  let v3162 : BitVec 32 := Scalar.xori v5 c1_i32_2726
  let c1_i32_2727 : BitVec 32 := 1#32
  let v3163 : BitVec 32 := Scalar.shrsi v3162 c1_i32_2727
  let c1_i32_2728 : BitVec 32 := 1#32
  let v3164 : BitVec 32 := Scalar.andi v3163 c1_i32_2728
  let v3165 : BitVec 32 := Scalar.xori v3162 v3164
  let c1_i32_2733 : BitVec 32 := 1#32
  let v3166 : BitVec 32 := Scalar.muli v3165 c1_i32_2733
  let v3167 : BitVec 32 := Scalar.addi c0_i32_2734 v3166
  v3167.toNat
def k0_dev63 (d0 : Dev nD) : Nat :=
  let c0_i32_2753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2745 : BitVec 32 := 1#32
  let v3186 : BitVec 32 := Scalar.xori v5 c1_i32_2745
  let c1_i32_2746 : BitVec 32 := 1#32
  let v3187 : BitVec 32 := Scalar.shrsi v3186 c1_i32_2746
  let c1_i32_2747 : BitVec 32 := 1#32
  let v3188 : BitVec 32 := Scalar.andi v3187 c1_i32_2747
  let v3189 : BitVec 32 := Scalar.xori v3186 v3188
  let c1_i32_2752 : BitVec 32 := 1#32
  let v3190 : BitVec 32 := Scalar.muli v3189 c1_i32_2752
  let v3191 : BitVec 32 := Scalar.addi c0_i32_2753 v3190
  v3191.toNat
def k0_off35 (d0 : Dev nD) (c0_i32_2790 : BitVec 32) : Fin 3 → Nat :=
  let c1_i32_2804 : BitVec 32 := 1#32
  let c0_i32_2789 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2786 : BitVec 32 := 1#32
  let v3228 : BitVec 32 := Scalar.shrsi v5 c1_i32_2786
  let c1_i32_2787 : BitVec 32 := 1#32
  let v3229 : BitVec 32 := Scalar.andi v3228 c1_i32_2787
  let c2_i32_2788 : BitVec 32 := 2#32
  let v3230 : BitVec 32 := Scalar.shli v3229 c2_i32_2788
  let v3231 : BitVec 32 := Scalar.addi c0_i32_2789 v3230
  let v3232 : BitVec 32 := Scalar.addi v3231 c0_i32_2790
  let c1_i32_2791 : BitVec 32 := 1#32
  let v3233 : BitVec 32 := Scalar.andi v3232 c1_i32_2791
  let c2_i32_2792 : BitVec 32 := 2#32
  let v3234 : BitVec 32 := Scalar.shrsi v3232 c2_i32_2792
  let c1_i32_2793 : BitVec 32 := 1#32
  let v3235 : BitVec 32 := Scalar.andi v3234 c1_i32_2793
  let c1_i32_2794 : BitVec 32 := 1#32
  let v3236 : BitVec 32 := Scalar.shli v3235 c1_i32_2794
  let v3237 : BitVec 32 := Scalar.ori v3233 v3236
  let c1_i32_2795 : BitVec 32 := 1#32
  let v3238 : BitVec 32 := Scalar.shrsi v3232 c1_i32_2795
  let c1_i32_2796 : BitVec 32 := 1#32
  let v3239 : BitVec 32 := Scalar.andi v3238 c1_i32_2796
  let c2_i32_2797 : BitVec 32 := 2#32
  let v3240 : BitVec 32 := Scalar.shli v3239 c2_i32_2797
  let v3241 : BitVec 32 := Scalar.ori v3237 v3240
  let c32_i32_2798 : BitVec 32 := 32#32
  let v3242 : BitVec 32 := Scalar.muli v3241 c32_i32_2798
  let c16_i32_2799 : BitVec 32 := 16#32
  let v3243 : BitVec 32 := Scalar.addi v3242 c16_i32_2799
  let c0_i32_2809 : BitVec 32 := 0#32
  ![1, v3243.toNat, 0]
def k0_dev64 (d0 : Dev nD) : Nat :=
  let c0_i32_2808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2800 : BitVec 32 := 2#32
  let v3244 : BitVec 32 := Scalar.xori v5 c2_i32_2800
  let c1_i32_2801 : BitVec 32 := 1#32
  let v3245 : BitVec 32 := Scalar.shrsi v3244 c1_i32_2801
  let c1_i32_2802 : BitVec 32 := 1#32
  let v3246 : BitVec 32 := Scalar.andi v3245 c1_i32_2802
  let v3247 : BitVec 32 := Scalar.xori v3244 v3246
  let c1_i32_2807 : BitVec 32 := 1#32
  let v3248 : BitVec 32 := Scalar.muli v3247 c1_i32_2807
  let v3249 : BitVec 32 := Scalar.addi c0_i32_2808 v3248
  v3249.toNat
def k0_dev65 (d0 : Dev nD) : Nat :=
  let c0_i32_2829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2821 : BitVec 32 := 2#32
  let v3270 : BitVec 32 := Scalar.xori v5 c2_i32_2821
  let c1_i32_2822 : BitVec 32 := 1#32
  let v3271 : BitVec 32 := Scalar.shrsi v3270 c1_i32_2822
  let c1_i32_2823 : BitVec 32 := 1#32
  let v3272 : BitVec 32 := Scalar.andi v3271 c1_i32_2823
  let v3273 : BitVec 32 := Scalar.xori v3270 v3272
  let c1_i32_2828 : BitVec 32 := 1#32
  let v3274 : BitVec 32 := Scalar.muli v3273 c1_i32_2828
  let v3275 : BitVec 32 := Scalar.addi c0_i32_2829 v3274
  v3275.toNat
def k0_dev66 (d0 : Dev nD) : Nat :=
  let c0_i32_2850 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2842 : BitVec 32 := 2#32
  let v3296 : BitVec 32 := Scalar.xori v5 c2_i32_2842
  let c1_i32_2843 : BitVec 32 := 1#32
  let v3297 : BitVec 32 := Scalar.shrsi v3296 c1_i32_2843
  let c1_i32_2844 : BitVec 32 := 1#32
  let v3298 : BitVec 32 := Scalar.andi v3297 c1_i32_2844
  let v3299 : BitVec 32 := Scalar.xori v3296 v3298
  let c1_i32_2849 : BitVec 32 := 1#32
  let v3300 : BitVec 32 := Scalar.muli v3299 c1_i32_2849
  let v3301 : BitVec 32 := Scalar.addi c0_i32_2850 v3300
  v3301.toNat
def k0_dev67 (d0 : Dev nD) : Nat :=
  let c0_i32_2871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_2863 : BitVec 32 := 2#32
  let v3322 : BitVec 32 := Scalar.xori v5 c2_i32_2863
  let c1_i32_2864 : BitVec 32 := 1#32
  let v3323 : BitVec 32 := Scalar.shrsi v3322 c1_i32_2864
  let c1_i32_2865 : BitVec 32 := 1#32
  let v3324 : BitVec 32 := Scalar.andi v3323 c1_i32_2865
  let v3325 : BitVec 32 := Scalar.xori v3322 v3324
  let c1_i32_2870 : BitVec 32 := 1#32
  let v3326 : BitVec 32 := Scalar.muli v3325 c1_i32_2870
  let v3327 : BitVec 32 := Scalar.addi c0_i32_2871 v3326
  v3327.toNat
def k0_off36 (d0 : Dev nD) (c0_i32_2908 : BitVec 32) : Fin 3 → Nat :=
  let c2_i32_2920 : BitVec 32 := 2#32
  let c0_i32_2907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_2904 : BitVec 32 := 0#32
  let v3364 : BitVec 32 := Scalar.shrsi v5 c0_i32_2904
  let c1_i32_2905 : BitVec 32 := 1#32
  let v3365 : BitVec 32 := Scalar.andi v3364 c1_i32_2905
  let c2_i32_2906 : BitVec 32 := 2#32
  let v3366 : BitVec 32 := Scalar.shli v3365 c2_i32_2906
  let v3367 : BitVec 32 := Scalar.addi c0_i32_2907 v3366
  let v3368 : BitVec 32 := Scalar.addi v3367 c0_i32_2908
  let c2_i32_2909 : BitVec 32 := 2#32
  let v3369 : BitVec 32 := Scalar.shrsi v3368 c2_i32_2909
  let c1_i32_2910 : BitVec 32 := 1#32
  let v3370 : BitVec 32 := Scalar.andi v3369 c1_i32_2910
  let c2_i32_2911 : BitVec 32 := 2#32
  let v3371 : BitVec 32 := Scalar.andi v3368 c2_i32_2911
  let v3372 : BitVec 32 := Scalar.ori v3370 v3371
  let c1_i32_2912 : BitVec 32 := 1#32
  let v3373 : BitVec 32 := Scalar.andi v3368 c1_i32_2912
  let c2_i32_2913 : BitVec 32 := 2#32
  let v3374 : BitVec 32 := Scalar.shli v3373 c2_i32_2913
  let v3375 : BitVec 32 := Scalar.ori v3372 v3374
  let c32_i32_2914 : BitVec 32 := 32#32
  let v3376 : BitVec 32 := Scalar.muli v3375 c32_i32_2914
  let c0_i32_2915 : BitVec 32 := 0#32
  let v3377 : BitVec 32 := Scalar.addi v3376 c0_i32_2915
  let c0_i32_2925 : BitVec 32 := 0#32
  ![2, v3377.toNat, 0]
def k0_dev68 (d0 : Dev nD) : Nat :=
  let c0_i32_2924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2916 : BitVec 32 := 1#32
  let v3378 : BitVec 32 := Scalar.xori v5 c1_i32_2916
  let c1_i32_2917 : BitVec 32 := 1#32
  let v3379 : BitVec 32 := Scalar.shrsi v3378 c1_i32_2917
  let c1_i32_2918 : BitVec 32 := 1#32
  let v3380 : BitVec 32 := Scalar.andi v3379 c1_i32_2918
  let v3381 : BitVec 32 := Scalar.xori v3378 v3380
  let c1_i32_2923 : BitVec 32 := 1#32
  let v3382 : BitVec 32 := Scalar.muli v3381 c1_i32_2923
  let v3383 : BitVec 32 := Scalar.addi c0_i32_2924 v3382
  v3383.toNat
def k0_dev69 (d0 : Dev nD) : Nat :=
  let c0_i32_2943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2935 : BitVec 32 := 1#32
  let v3402 : BitVec 32 := Scalar.xori v5 c1_i32_2935
  let c1_i32_2936 : BitVec 32 := 1#32
  let v3403 : BitVec 32 := Scalar.shrsi v3402 c1_i32_2936
  let c1_i32_2937 : BitVec 32 := 1#32
  let v3404 : BitVec 32 := Scalar.andi v3403 c1_i32_2937
  let v3405 : BitVec 32 := Scalar.xori v3402 v3404
  let c1_i32_2942 : BitVec 32 := 1#32
  let v3406 : BitVec 32 := Scalar.muli v3405 c1_i32_2942
  let v3407 : BitVec 32 := Scalar.addi c0_i32_2943 v3406
  v3407.toNat
def k0_dev70 (d0 : Dev nD) : Nat :=
  let c0_i32_2962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2954 : BitVec 32 := 1#32
  let v3426 : BitVec 32 := Scalar.xori v5 c1_i32_2954
  let c1_i32_2955 : BitVec 32 := 1#32
  let v3427 : BitVec 32 := Scalar.shrsi v3426 c1_i32_2955
  let c1_i32_2956 : BitVec 32 := 1#32
  let v3428 : BitVec 32 := Scalar.andi v3427 c1_i32_2956
  let v3429 : BitVec 32 := Scalar.xori v3426 v3428
  let c1_i32_2961 : BitVec 32 := 1#32
  let v3430 : BitVec 32 := Scalar.muli v3429 c1_i32_2961
  let v3431 : BitVec 32 := Scalar.addi c0_i32_2962 v3430
  v3431.toNat
def k0_dev71 (d0 : Dev nD) : Nat :=
  let c0_i32_2981 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_2973 : BitVec 32 := 1#32
  let v3450 : BitVec 32 := Scalar.xori v5 c1_i32_2973
  let c1_i32_2974 : BitVec 32 := 1#32
  let v3451 : BitVec 32 := Scalar.shrsi v3450 c1_i32_2974
  let c1_i32_2975 : BitVec 32 := 1#32
  let v3452 : BitVec 32 := Scalar.andi v3451 c1_i32_2975
  let v3453 : BitVec 32 := Scalar.xori v3450 v3452
  let c1_i32_2980 : BitVec 32 := 1#32
  let v3454 : BitVec 32 := Scalar.muli v3453 c1_i32_2980
  let v3455 : BitVec 32 := Scalar.addi c0_i32_2981 v3454
  v3455.toNat
def k0_off37 (d0 : Dev nD) (c0_i32_3018 : BitVec 32) : Fin 3 → Nat :=
  let c2_i32_3032 : BitVec 32 := 2#32
  let c0_i32_3017 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3014 : BitVec 32 := 1#32
  let v3492 : BitVec 32 := Scalar.shrsi v5 c1_i32_3014
  let c1_i32_3015 : BitVec 32 := 1#32
  let v3493 : BitVec 32 := Scalar.andi v3492 c1_i32_3015
  let c2_i32_3016 : BitVec 32 := 2#32
  let v3494 : BitVec 32 := Scalar.shli v3493 c2_i32_3016
  let v3495 : BitVec 32 := Scalar.addi c0_i32_3017 v3494
  let v3496 : BitVec 32 := Scalar.addi v3495 c0_i32_3018
  let c1_i32_3019 : BitVec 32 := 1#32
  let v3497 : BitVec 32 := Scalar.andi v3496 c1_i32_3019
  let c2_i32_3020 : BitVec 32 := 2#32
  let v3498 : BitVec 32 := Scalar.shrsi v3496 c2_i32_3020
  let c1_i32_3021 : BitVec 32 := 1#32
  let v3499 : BitVec 32 := Scalar.andi v3498 c1_i32_3021
  let c1_i32_3022 : BitVec 32 := 1#32
  let v3500 : BitVec 32 := Scalar.shli v3499 c1_i32_3022
  let v3501 : BitVec 32 := Scalar.ori v3497 v3500
  let c1_i32_3023 : BitVec 32 := 1#32
  let v3502 : BitVec 32 := Scalar.shrsi v3496 c1_i32_3023
  let c1_i32_3024 : BitVec 32 := 1#32
  let v3503 : BitVec 32 := Scalar.andi v3502 c1_i32_3024
  let c2_i32_3025 : BitVec 32 := 2#32
  let v3504 : BitVec 32 := Scalar.shli v3503 c2_i32_3025
  let v3505 : BitVec 32 := Scalar.ori v3501 v3504
  let c32_i32_3026 : BitVec 32 := 32#32
  let v3506 : BitVec 32 := Scalar.muli v3505 c32_i32_3026
  let c16_i32_3027 : BitVec 32 := 16#32
  let v3507 : BitVec 32 := Scalar.addi v3506 c16_i32_3027
  let c0_i32_3037 : BitVec 32 := 0#32
  ![2, v3507.toNat, 0]
def k0_dev72 (d0 : Dev nD) : Nat :=
  let c0_i32_3036 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3028 : BitVec 32 := 2#32
  let v3508 : BitVec 32 := Scalar.xori v5 c2_i32_3028
  let c1_i32_3029 : BitVec 32 := 1#32
  let v3509 : BitVec 32 := Scalar.shrsi v3508 c1_i32_3029
  let c1_i32_3030 : BitVec 32 := 1#32
  let v3510 : BitVec 32 := Scalar.andi v3509 c1_i32_3030
  let v3511 : BitVec 32 := Scalar.xori v3508 v3510
  let c1_i32_3035 : BitVec 32 := 1#32
  let v3512 : BitVec 32 := Scalar.muli v3511 c1_i32_3035
  let v3513 : BitVec 32 := Scalar.addi c0_i32_3036 v3512
  v3513.toNat
def k0_dev73 (d0 : Dev nD) : Nat :=
  let c0_i32_3057 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3049 : BitVec 32 := 2#32
  let v3534 : BitVec 32 := Scalar.xori v5 c2_i32_3049
  let c1_i32_3050 : BitVec 32 := 1#32
  let v3535 : BitVec 32 := Scalar.shrsi v3534 c1_i32_3050
  let c1_i32_3051 : BitVec 32 := 1#32
  let v3536 : BitVec 32 := Scalar.andi v3535 c1_i32_3051
  let v3537 : BitVec 32 := Scalar.xori v3534 v3536
  let c1_i32_3056 : BitVec 32 := 1#32
  let v3538 : BitVec 32 := Scalar.muli v3537 c1_i32_3056
  let v3539 : BitVec 32 := Scalar.addi c0_i32_3057 v3538
  v3539.toNat
def k0_dev74 (d0 : Dev nD) : Nat :=
  let c0_i32_3078 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3070 : BitVec 32 := 2#32
  let v3560 : BitVec 32 := Scalar.xori v5 c2_i32_3070
  let c1_i32_3071 : BitVec 32 := 1#32
  let v3561 : BitVec 32 := Scalar.shrsi v3560 c1_i32_3071
  let c1_i32_3072 : BitVec 32 := 1#32
  let v3562 : BitVec 32 := Scalar.andi v3561 c1_i32_3072
  let v3563 : BitVec 32 := Scalar.xori v3560 v3562
  let c1_i32_3077 : BitVec 32 := 1#32
  let v3564 : BitVec 32 := Scalar.muli v3563 c1_i32_3077
  let v3565 : BitVec 32 := Scalar.addi c0_i32_3078 v3564
  v3565.toNat
def k0_dev75 (d0 : Dev nD) : Nat :=
  let c0_i32_3099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3091 : BitVec 32 := 2#32
  let v3586 : BitVec 32 := Scalar.xori v5 c2_i32_3091
  let c1_i32_3092 : BitVec 32 := 1#32
  let v3587 : BitVec 32 := Scalar.shrsi v3586 c1_i32_3092
  let c1_i32_3093 : BitVec 32 := 1#32
  let v3588 : BitVec 32 := Scalar.andi v3587 c1_i32_3093
  let v3589 : BitVec 32 := Scalar.xori v3586 v3588
  let c1_i32_3098 : BitVec 32 := 1#32
  let v3590 : BitVec 32 := Scalar.muli v3589 c1_i32_3098
  let v3591 : BitVec 32 := Scalar.addi c0_i32_3099 v3590
  v3591.toNat
def k0_off38 (d0 : Dev nD) (c0_i32_3136 : BitVec 32) : Fin 3 → Nat :=
  let c3_i32_3148 : BitVec 32 := 3#32
  let c0_i32_3135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c0_i32_3132 : BitVec 32 := 0#32
  let v3628 : BitVec 32 := Scalar.shrsi v5 c0_i32_3132
  let c1_i32_3133 : BitVec 32 := 1#32
  let v3629 : BitVec 32 := Scalar.andi v3628 c1_i32_3133
  let c2_i32_3134 : BitVec 32 := 2#32
  let v3630 : BitVec 32 := Scalar.shli v3629 c2_i32_3134
  let v3631 : BitVec 32 := Scalar.addi c0_i32_3135 v3630
  let v3632 : BitVec 32 := Scalar.addi v3631 c0_i32_3136
  let c2_i32_3137 : BitVec 32 := 2#32
  let v3633 : BitVec 32 := Scalar.shrsi v3632 c2_i32_3137
  let c1_i32_3138 : BitVec 32 := 1#32
  let v3634 : BitVec 32 := Scalar.andi v3633 c1_i32_3138
  let c2_i32_3139 : BitVec 32 := 2#32
  let v3635 : BitVec 32 := Scalar.andi v3632 c2_i32_3139
  let v3636 : BitVec 32 := Scalar.ori v3634 v3635
  let c1_i32_3140 : BitVec 32 := 1#32
  let v3637 : BitVec 32 := Scalar.andi v3632 c1_i32_3140
  let c2_i32_3141 : BitVec 32 := 2#32
  let v3638 : BitVec 32 := Scalar.shli v3637 c2_i32_3141
  let v3639 : BitVec 32 := Scalar.ori v3636 v3638
  let c32_i32_3142 : BitVec 32 := 32#32
  let v3640 : BitVec 32 := Scalar.muli v3639 c32_i32_3142
  let c0_i32_3143 : BitVec 32 := 0#32
  let v3641 : BitVec 32 := Scalar.addi v3640 c0_i32_3143
  let c0_i32_3153 : BitVec 32 := 0#32
  ![3, v3641.toNat, 0]
def k0_dev76 (d0 : Dev nD) : Nat :=
  let c0_i32_3152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3144 : BitVec 32 := 1#32
  let v3642 : BitVec 32 := Scalar.xori v5 c1_i32_3144
  let c1_i32_3145 : BitVec 32 := 1#32
  let v3643 : BitVec 32 := Scalar.shrsi v3642 c1_i32_3145
  let c1_i32_3146 : BitVec 32 := 1#32
  let v3644 : BitVec 32 := Scalar.andi v3643 c1_i32_3146
  let v3645 : BitVec 32 := Scalar.xori v3642 v3644
  let c1_i32_3151 : BitVec 32 := 1#32
  let v3646 : BitVec 32 := Scalar.muli v3645 c1_i32_3151
  let v3647 : BitVec 32 := Scalar.addi c0_i32_3152 v3646
  v3647.toNat
def k0_dev77 (d0 : Dev nD) : Nat :=
  let c0_i32_3171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3163 : BitVec 32 := 1#32
  let v3666 : BitVec 32 := Scalar.xori v5 c1_i32_3163
  let c1_i32_3164 : BitVec 32 := 1#32
  let v3667 : BitVec 32 := Scalar.shrsi v3666 c1_i32_3164
  let c1_i32_3165 : BitVec 32 := 1#32
  let v3668 : BitVec 32 := Scalar.andi v3667 c1_i32_3165
  let v3669 : BitVec 32 := Scalar.xori v3666 v3668
  let c1_i32_3170 : BitVec 32 := 1#32
  let v3670 : BitVec 32 := Scalar.muli v3669 c1_i32_3170
  let v3671 : BitVec 32 := Scalar.addi c0_i32_3171 v3670
  v3671.toNat
def k0_dev78 (d0 : Dev nD) : Nat :=
  let c0_i32_3190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3182 : BitVec 32 := 1#32
  let v3690 : BitVec 32 := Scalar.xori v5 c1_i32_3182
  let c1_i32_3183 : BitVec 32 := 1#32
  let v3691 : BitVec 32 := Scalar.shrsi v3690 c1_i32_3183
  let c1_i32_3184 : BitVec 32 := 1#32
  let v3692 : BitVec 32 := Scalar.andi v3691 c1_i32_3184
  let v3693 : BitVec 32 := Scalar.xori v3690 v3692
  let c1_i32_3189 : BitVec 32 := 1#32
  let v3694 : BitVec 32 := Scalar.muli v3693 c1_i32_3189
  let v3695 : BitVec 32 := Scalar.addi c0_i32_3190 v3694
  v3695.toNat
def k0_dev79 (d0 : Dev nD) : Nat :=
  let c0_i32_3209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3201 : BitVec 32 := 1#32
  let v3714 : BitVec 32 := Scalar.xori v5 c1_i32_3201
  let c1_i32_3202 : BitVec 32 := 1#32
  let v3715 : BitVec 32 := Scalar.shrsi v3714 c1_i32_3202
  let c1_i32_3203 : BitVec 32 := 1#32
  let v3716 : BitVec 32 := Scalar.andi v3715 c1_i32_3203
  let v3717 : BitVec 32 := Scalar.xori v3714 v3716
  let c1_i32_3208 : BitVec 32 := 1#32
  let v3718 : BitVec 32 := Scalar.muli v3717 c1_i32_3208
  let v3719 : BitVec 32 := Scalar.addi c0_i32_3209 v3718
  v3719.toNat
def k0_off39 (d0 : Dev nD) (c0_i32_3246 : BitVec 32) : Fin 3 → Nat :=
  let c3_i32_3260 : BitVec 32 := 3#32
  let c0_i32_3245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c1_i32_3242 : BitVec 32 := 1#32
  let v3756 : BitVec 32 := Scalar.shrsi v5 c1_i32_3242
  let c1_i32_3243 : BitVec 32 := 1#32
  let v3757 : BitVec 32 := Scalar.andi v3756 c1_i32_3243
  let c2_i32_3244 : BitVec 32 := 2#32
  let v3758 : BitVec 32 := Scalar.shli v3757 c2_i32_3244
  let v3759 : BitVec 32 := Scalar.addi c0_i32_3245 v3758
  let v3760 : BitVec 32 := Scalar.addi v3759 c0_i32_3246
  let c1_i32_3247 : BitVec 32 := 1#32
  let v3761 : BitVec 32 := Scalar.andi v3760 c1_i32_3247
  let c2_i32_3248 : BitVec 32 := 2#32
  let v3762 : BitVec 32 := Scalar.shrsi v3760 c2_i32_3248
  let c1_i32_3249 : BitVec 32 := 1#32
  let v3763 : BitVec 32 := Scalar.andi v3762 c1_i32_3249
  let c1_i32_3250 : BitVec 32 := 1#32
  let v3764 : BitVec 32 := Scalar.shli v3763 c1_i32_3250
  let v3765 : BitVec 32 := Scalar.ori v3761 v3764
  let c1_i32_3251 : BitVec 32 := 1#32
  let v3766 : BitVec 32 := Scalar.shrsi v3760 c1_i32_3251
  let c1_i32_3252 : BitVec 32 := 1#32
  let v3767 : BitVec 32 := Scalar.andi v3766 c1_i32_3252
  let c2_i32_3253 : BitVec 32 := 2#32
  let v3768 : BitVec 32 := Scalar.shli v3767 c2_i32_3253
  let v3769 : BitVec 32 := Scalar.ori v3765 v3768
  let c32_i32_3254 : BitVec 32 := 32#32
  let v3770 : BitVec 32 := Scalar.muli v3769 c32_i32_3254
  let c16_i32_3255 : BitVec 32 := 16#32
  let v3771 : BitVec 32 := Scalar.addi v3770 c16_i32_3255
  let c0_i32_3265 : BitVec 32 := 0#32
  ![3, v3771.toNat, 0]
def k0_dev80 (d0 : Dev nD) : Nat :=
  let c0_i32_3264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3256 : BitVec 32 := 2#32
  let v3772 : BitVec 32 := Scalar.xori v5 c2_i32_3256
  let c1_i32_3257 : BitVec 32 := 1#32
  let v3773 : BitVec 32 := Scalar.shrsi v3772 c1_i32_3257
  let c1_i32_3258 : BitVec 32 := 1#32
  let v3774 : BitVec 32 := Scalar.andi v3773 c1_i32_3258
  let v3775 : BitVec 32 := Scalar.xori v3772 v3774
  let c1_i32_3263 : BitVec 32 := 1#32
  let v3776 : BitVec 32 := Scalar.muli v3775 c1_i32_3263
  let v3777 : BitVec 32 := Scalar.addi c0_i32_3264 v3776
  v3777.toNat
def k0_dev81 (d0 : Dev nD) : Nat :=
  let c0_i32_3285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3277 : BitVec 32 := 2#32
  let v3798 : BitVec 32 := Scalar.xori v5 c2_i32_3277
  let c1_i32_3278 : BitVec 32 := 1#32
  let v3799 : BitVec 32 := Scalar.shrsi v3798 c1_i32_3278
  let c1_i32_3279 : BitVec 32 := 1#32
  let v3800 : BitVec 32 := Scalar.andi v3799 c1_i32_3279
  let v3801 : BitVec 32 := Scalar.xori v3798 v3800
  let c1_i32_3284 : BitVec 32 := 1#32
  let v3802 : BitVec 32 := Scalar.muli v3801 c1_i32_3284
  let v3803 : BitVec 32 := Scalar.addi c0_i32_3285 v3802
  v3803.toNat
def k0_dev82 (d0 : Dev nD) : Nat :=
  let c0_i32_3306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3298 : BitVec 32 := 2#32
  let v3824 : BitVec 32 := Scalar.xori v5 c2_i32_3298
  let c1_i32_3299 : BitVec 32 := 1#32
  let v3825 : BitVec 32 := Scalar.shrsi v3824 c1_i32_3299
  let c1_i32_3300 : BitVec 32 := 1#32
  let v3826 : BitVec 32 := Scalar.andi v3825 c1_i32_3300
  let v3827 : BitVec 32 := Scalar.xori v3824 v3826
  let c1_i32_3305 : BitVec 32 := 1#32
  let v3828 : BitVec 32 := Scalar.muli v3827 c1_i32_3305
  let v3829 : BitVec 32 := Scalar.addi c0_i32_3306 v3828
  v3829.toNat
def k0_dev83 (d0 : Dev nD) : Nat :=
  let c0_i32_3327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.shrsi v2 c1_i32_0
  let c1_i32_1 : BitVec 32 := 1#32
  let v4 : BitVec 32 := Scalar.andi v3 c1_i32_1
  let v5 : BitVec 32 := Scalar.xori v2 v4
  let c2_i32_3319 : BitVec 32 := 2#32
  let v3850 : BitVec 32 := Scalar.xori v5 c2_i32_3319
  let c1_i32_3320 : BitVec 32 := 1#32
  let v3851 : BitVec 32 := Scalar.shrsi v3850 c1_i32_3320
  let c1_i32_3321 : BitVec 32 := 1#32
  let v3852 : BitVec 32 := Scalar.andi v3851 c1_i32_3321
  let v3853 : BitVec 32 := Scalar.xori v3850 v3852
  let c1_i32_3326 : BitVec 32 := 1#32
  let v3854 : BitVec 32 := Scalar.muli v3853 c1_i32_3326
  let v3855 : BitVec 32 := Scalar.addi c0_i32_3327 v3854
  v3855.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x256x1024 : Shape := ⟨3, ![4, 256, 1024]⟩
abbrev S1024x8192 : Shape := ⟨2, ![1024, 8192]⟩
abbrev S8192x1024 : Shape := ⟨2, ![8192, 1024]⟩
abbrev S1024x2048 : Shape := ⟨2, ![1024, 2048]⟩
abbrev S4x256x8192 : Shape := ⟨3, ![4, 256, 8192]⟩
abbrev S4x256x64x128 : Shape := ⟨4, ![4, 256, 64, 128]⟩
abbrev S4x256x2048 : Shape := ⟨3, ![4, 256, 2048]⟩
abbrev S4x256x16x128 : Shape := ⟨4, ![4, 256, 16, 128]⟩
abbrev S4x256x16x4x128 : Shape := ⟨5, ![4, 256, 16, 4, 128]⟩
abbrev S_ : Shape := ⟨0, ![]⟩
abbrev S4x64x256x1 : Shape := ⟨4, ![4, 64, 256, 1]⟩
abbrev S4x64x256x256 : Shape := ⟨4, ![4, 64, 256, 256]⟩
abbrev S4x64x256 : Shape := ⟨3, ![4, 64, 256]⟩
abbrev S4x256x64x1 : Shape := ⟨4, ![4, 256, 64, 1]⟩
abbrev S4x64x128x256 : Shape := ⟨4, ![4, 64, 128, 256]⟩

abbrev nBuf : Space → Nat
  | .hbm => 51
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x8192, .f32⟩
  | .hbm, ⟨2, _⟩ => ⟨S8192x1024, .f32⟩
  | .hbm, ⟨3, _⟩ => ⟨S1024x2048, .f32⟩
  | .hbm, ⟨4, _⟩ => ⟨S1024x2048, .f32⟩
  | .hbm, ⟨5, _⟩ => ⟨S4x256x8192, .f32⟩
  | .hbm, ⟨6, _⟩ => ⟨S4x256x64x128, .f32⟩
  | .hbm, ⟨7, _⟩ => ⟨S4x256x2048, .f32⟩
  | .hbm, ⟨8, _⟩ => ⟨S4x256x16x128, .f32⟩
  | .hbm, ⟨9, _⟩ => ⟨S4x256x2048, .f32⟩
  | .hbm, ⟨10, _⟩ => ⟨S4x256x16x128, .f32⟩
  | .hbm, ⟨11, _⟩ => ⟨S4x256x16x4x128, .f32⟩
  | .hbm, ⟨12, _⟩ => ⟨S4x256x64x128, .f32⟩
  | .hbm, ⟨13, _⟩ => ⟨S4x256x16x4x128, .f32⟩
  | .hbm, ⟨14, _⟩ => ⟨S4x256x64x128, .f32⟩
  | .hbm, ⟨15, _⟩ => ⟨S_, .f32⟩
  | .hbm, ⟨16, _⟩ => ⟨S4x256x64x128, .f32⟩
  | .hbm, ⟨17, _⟩ => ⟨S_, .f32⟩
  | .hbm, ⟨18, _⟩ => ⟨S4x64x256x1, .f32⟩
  | .hbm, ⟨19, _⟩ => ⟨S_, .f32⟩
  | .hbm, ⟨20, _⟩ => ⟨S4x64x256x1, .f32⟩
  | .hbm, ⟨21, _⟩ => ⟨S4x64x256x256, .f32⟩
  | .hbm, ⟨22, _⟩ => ⟨S_, .f32⟩
  | .hbm, ⟨23, _⟩ => ⟨S4x64x256x256, .f32⟩
  | .hbm, ⟨24, _⟩ => ⟨S4x64x256x256, .f32⟩
  | .hbm, ⟨25, _⟩ => ⟨S_, .f32⟩
  | .hbm, ⟨26, _⟩ => ⟨S4x64x256, .f32⟩
  | .hbm, ⟨27, _⟩ => ⟨S4x64x256x1, .f32⟩
  | .hbm, ⟨28, _⟩ => ⟨S4x64x256x1, .f32⟩
  | .hbm, ⟨29, _⟩ => ⟨S4x64x256x1, .f32⟩
  | .hbm, ⟨30, _⟩ => ⟨S4x64x256x1, .f32⟩
  | .hbm, ⟨31, _⟩ => ⟨S4x64x256x256, .f32⟩
  | .hbm, ⟨32, _⟩ => ⟨S4x64x256x256, .f32⟩
  | .hbm, ⟨33, _⟩ => ⟨S4x64x256x256, .f32⟩
  | .hbm, ⟨34, _⟩ => ⟨S4x64x256x1, .f32⟩
  | .hbm, ⟨35, _⟩ => ⟨S_, .f32⟩
  | .hbm, ⟨36, _⟩ => ⟨S4x64x256, .f32⟩
  | .hbm, ⟨37, _⟩ => ⟨S4x64x256x1, .f32⟩
  | .hbm, ⟨38, _⟩ => ⟨S4x64x256x1, .f32⟩
  | .hbm, ⟨39, _⟩ => ⟨S4x256x64x1, .f32⟩
  | .hbm, ⟨40, _⟩ => ⟨S4x256x64x128, .f32⟩
  | .hbm, ⟨41, _⟩ => ⟨S4x256x64x128, .f32⟩
  | .hbm, ⟨42, _⟩ => ⟨S4x64x128x256, .f32⟩
  | .hbm, ⟨43, _⟩ => ⟨S4x256x64x128, .f32⟩
  | .hbm, ⟨44, _⟩ => ⟨S4x256x64x128, .f32⟩
  | .hbm, ⟨45, _⟩ => ⟨S4x256x64x1, .f32⟩
  | .hbm, ⟨46, _⟩ => ⟨S4x256x64x128, .f32⟩
  | .hbm, ⟨47, _⟩ => ⟨S4x256x64x128, .f32⟩
  | .hbm, ⟨48, _⟩ => ⟨S4x256x8192, .f32⟩
  | .hbm, ⟨49, _⟩ => ⟨S4x256x1024, .f32⟩
  | .hbm, ⟨50, _⟩ => ⟨S4x256x1024, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Prog.lean ====
/-
The kernel's body written as a program of pieces: one piece per phase of the exchange, each over the lane `(g, a)` (batch
group `g`, row half `a`) and the step `j`, with the offsets and the target devices as words of the device number. The
printed body is this program: the two are the same term up to unfolding.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.Hyper

open Cert.KernelIdeal Cert.KernelIdeal.Gen
open Idealize.ShloMosaic Idealize.ShloMosaic.TcCoe
open Idealize.SL Idealize.SL.Sem

variable {F : FTy → Type} [FloatOps F]

/-! ## Words of the device number -/

/-- The device's corner of the cube, as a word. -/
def cornerW (c : Dev nD) : BitVec 32 :=
  Scalar.xori (Scalar.remsi (Scalar.divsi (Dev.word c) 1#32) 8#32)
    (Scalar.andi (Scalar.shrsi (Scalar.remsi (Scalar.divsi (Dev.word c) 1#32) 8#32) 1#32) 1#32)

/-- The device across the cube's dimension `k`. -/
def partnerN (k : Fin 3) (c : Dev nD) : ℕ :=
  (Scalar.addi 0#32 (Scalar.muli
    (Scalar.xori (Scalar.xori (cornerW c) (BitVec.ofNat 32 (2 ^ k.val)))
      (Scalar.andi (Scalar.shrsi (Scalar.xori (cornerW c) (BitVec.ofNat 32 (2 ^ k.val))) 1#32) 1#32)) 1#32)).toNat

/-- A partner is one of the devices. -/
theorem partnerN_lt : ∀ (k : Fin 3) (c : Dev nD), partnerN k c < nD := by decide +kernel

/-- The dimension a row half crosses at level `t`. -/
def dimOf : Fin 2 → Fin 3 → Fin 3
  | 0, 0 => 0 | 0, 1 => 1 | 0, 2 => 2
  | 1, 0 => 1 | 1, 1 => 2 | 1, 2 => 0

/-- Bit `k` of a device's corner, as a word. -/
def bitW (c : Dev nD) (k : Fin 3) : BitVec 32 := Scalar.andi (Scalar.shrsi (cornerW c) (BitVec.ofNat 32 k.val)) 1#32

/-- The first slot of what a device still holds after the first `j` halvings. -/
def winW (a : Fin 2) (c : Dev nD) : ℕ → BitVec 32
  | 0 => 0#32
  | 1 => Scalar.addi 0#32 (Scalar.shli (bitW c (dimOf a 0)) 2#32)
  | 2 => Scalar.addi (Scalar.addi 0#32 (Scalar.shli (bitW c (dimOf a 0)) 2#32)) (Scalar.shli (bitW c (dimOf a 1)) 1#32)
  | _ => Scalar.addi (Scalar.addi (Scalar.addi 0#32 (Scalar.shli (bitW c (dimOf a 0)) 2#32))
      (Scalar.shli (bitW c (dimOf a 1)) 1#32)) (Scalar.shli (bitW c (dimOf a 2)) 0#32)

/-- How many slots step `j` of the halving moves. -/
def rsN : Fin 3 → ℕ | 0 => 4 | 1 => 2 | 2 => 1
/-- Where step `j` of the halving lands in the landing buffer. -/
def rsAt : Fin 3 → ℕ | 0 => 0 | 1 => 4 | 2 => 6
/-- The shape step `j` of the halving moves. -/
abbrev Srs (j : Fin 3) : Shape := ⟨3, ![rsN j, 16, 1024]⟩

/-- Where the half a device sends at step `j` starts. -/
def sendOff (a : Fin 2) (j : Fin 3) (c : Dev nD) : Fin 3 → ℕ :=
  ![(Scalar.addi (winW a c j.val) (Scalar.muli (BitVec.ofNat 32 (rsN j)) (Scalar.subi 1#32 (bitW c (dimOf a j))))).toNat, 0, 0]
/-- Where the half a device keeps at step `j` starts. -/
def keepOff (a : Fin 2) (j : Fin 3) (c : Dev nD) : Fin 3 → ℕ :=
  ![(Scalar.indexCast (winW a c (j.val + 1))).toNat, 0, 0]
/-- Where step `j`'s landing starts. -/
def commOff (j : Fin 3) : Fin 3 → ℕ := ![rsAt j, 0, 0]

/-- The row block a slot holds, as a word. -/
def chunkW : Fin 2 → BitVec 32 → BitVec 32
  | 0, s => Scalar.ori (Scalar.ori (Scalar.andi (Scalar.shrsi s 2#32) 1#32) (Scalar.andi s 2#32)) (Scalar.shli (Scalar.andi s 1#32) 2#32)
  | 1, s => Scalar.ori (Scalar.ori (Scalar.andi s 1#32) (Scalar.shli (Scalar.andi (Scalar.shrsi s 2#32) 1#32) 1#32))
      (Scalar.shli (Scalar.andi (Scalar.shrsi s 1#32) 1#32) 2#32)
/-- The first row of a slot's block, as a word. -/
def rowW (a : Fin 2) (s : BitVec 32) : BitVec 32 := Scalar.addi (Scalar.muli (chunkW a s) 32#32) (BitVec.ofNat 32 (16 * a.val))

/-- Where the block a device owns goes in the result. -/
def outOff (g : Fin 4) (a : Fin 2) (c : Dev nD) : Fin 3 → ℕ := ![g.val, (Scalar.indexCast (rowW a (winW a c 3))).toNat, 0]
/-- Where the `i`-th block a device sends on at step `j` of the gathering lies in the result. -/
def agOff (g : Fin 4) (a : Fin 2) (j : Fin 3) (i : ℕ) (c : Dev nD) : Fin 3 → ℕ :=
  ![g.val, (rowW a (Scalar.addi (winW a c (3 - j.val)) (BitVec.ofNat 32 i))).toNat, 0]

/-- How many blocks step `j` of the gathering moves. -/
def agN : Fin 3 → ℕ | 0 => 1 | 1 => 2 | 2 => 4
/-- The level step `j` of the gathering crosses. -/
def agLvl : Fin 3 → Fin 3 | 0 => 2 | 1 => 1 | 2 => 0

/-- The slot of row block `ch` in a lane's buffer. -/
def slotN : Fin 2 → Fin 8 → ℕ
  | 0, 0 => 0 | 0, 1 => 4 | 0, 2 => 2 | 0, 3 => 6 | 0, 4 => 1 | 0, 5 => 5 | 0, 6 => 3 | 0, 7 => 7
  | 1, 0 => 0 | 1, 1 => 1 | 1, 2 => 4 | 1, 3 => 5 | 1, 4 => 2 | 1, 5 => 3 | 1, 6 => 6 | 1, 7 => 7
/-- Where a row block's slot starts in a lane's buffer. -/
def slotOff (a : Fin 2) (ch : Fin 8) : Fin 3 → ℕ := ![slotN a ch, 0, 0]

/-- The half a step sends lies in the accumulator. -/
theorem sendOff_inb : ∀ (a : Fin 2) (j : Fin 3) (c : Dev nD) (i : Fin 3), sendOff a j c i + (Srs j).size i ≤ S8x16x1024.size i := by decide +kernel
/-- The half a step keeps lies in the accumulator. -/
theorem keepOff_inb : ∀ (a : Fin 2) (j : Fin 3) (c : Dev nD) (i : Fin 3), keepOff a j c i + (Srs j).size i ≤ S8x16x1024.size i := by decide +kernel
/-- A step's landing place lies in the communication buffer. -/
theorem commOff_inb : ∀ (j : Fin 3) (i : Fin 3), commOff j i + (Srs j).size i ≤ S7x16x1024.size i := by decide +kernel
/-- The finished block lies in the result. -/
theorem outOff_inb : ∀ (g : Fin 4) (a : Fin 2) (c : Dev nD) (i : Fin 3), outOff g a c i + S1x16x1024.size i ≤ S4x256x1024.size i := by decide +kernel
/-- The blocks a gathering step sends lie in the result. -/
theorem agOff_inb : ∀ (g : Fin 4) (a : Fin 2) (j : Fin 3) (c : Dev nD) (k : Fin 4) (i : Fin 3), k.val < agN j →
    agOff g a j k.val c i + S1x16x1024.size i ≤ S4x256x1024.size i := by decide +kernel
/-- A row block's slot lies in the accumulator. -/
theorem slotOff_inb : ∀ (a : Fin 2) (ch : Fin 8) (i : Fin 3), slotOff a ch i + S1x16x1024.size i ≤ S8x16x1024.size i := by decide +kernel

/-- The half a step sends is made of whole words. -/
theorem sendOff_words : ∀ (a : Fin 2) (j : Fin 3) (c : Dev nD),
    (Rect.unit (s := S8x16x1024) (sendOff a j c) (Srs j).size (sendOff_inb a j c)).WholeWords (EltTy.packing .bf16) := by decide +kernel
/-- The half a step keeps is made of whole packed rows. -/
theorem keepOff_packed : ∀ (a : Fin 2) (j : Fin 3) (c : Dev nD),
    (Rect.unit (s := S8x16x1024) (keepOff a j c) (Srs j).size (keepOff_inb a j c)).PackedRows (EltTy.packing .bf16) := by decide +kernel
/-- A step's landing place is made of whole words. -/
theorem commOff_words : ∀ (j : Fin 3),
    (Rect.unit (s := S7x16x1024) (commOff j) (Srs j).size (commOff_inb j)).WholeWords (EltTy.packing .bf16) := by decide +kernel
/-- The finished block is made of whole packed rows. -/
theorem outOff_packed : ∀ (g : Fin 4) (a : Fin 2) (c : Dev nD),
    (Rect.unit (s := S4x256x1024) (outOff g a c) S1x16x1024.size (outOff_inb g a c)).PackedRows (EltTy.packing .bf16) := by decide +kernel
/-- The blocks a gathering step sends are made of whole words. -/
theorem agOff_words : ∀ (g : Fin 4) (a : Fin 2) (j : Fin 3) (c : Dev nD) (k : Fin 4) (h : k.val < agN j),
    (Rect.unit (s := S4x256x1024) (agOff g a j k.val c) S1x16x1024.size (fun i => agOff_inb g a j c k i h)).WholeWords (EltTy.packing .bf16) := by decide +kernel
/-- A row block's slot is made of whole packed rows. -/
theorem slotOff_packed : ∀ (a : Fin 2) (ch : Fin 8),
    (Rect.unit (s := S8x16x1024) (slotOff a ch) S1x16x1024.size (slotOff_inb a ch)).PackedRows (EltTy.packing .bf16) := by decide +kernel

/-! ## Buffers and semaphores by lane -/

/-- A lane's accumulator. -/
def accM : Fin 4 → Fin 2 → Memref sig .tc .vmem S8x16x1024 .bf16
  | 0, 0 => Memref.whole cc0_scratch0 | 0, 1 => Memref.whole cc0_scratch1
  | 1, 0 => Memref.whole cc0_scratch2 | 1, 1 => Memref.whole cc0_scratch3
  | 2, 0 => Memref.whole cc0_scratch4 | 2, 1 => Memref.whole cc0_scratch5
  | 3, 0 => Memref.whole cc0_scratch6 | 3, 1 => Memref.whole cc0_scratch7
/-- A lane's landing buffer. -/
def commM : Fin 4 → Fin 2 → Memref sig .tc .vmem S7x16x1024 .bf16
  | 0, 0 => Memref.whole cc0_scratch8 | 0, 1 => Memref.whole cc0_scratch9
  | 1, 0 => Memref.whole cc0_scratch10 | 1, 1 => Memref.whole cc0_scratch11
  | 2, 0 => Memref.whole cc0_scratch12 | 2, 1 => Memref.whole cc0_scratch13
  | 3, 0 => Memref.whole cc0_scratch14 | 3, 1 => Memref.whole cc0_scratch15
/-- Each accumulator is a whole buffer. -/
theorem accM_whole : ∀ g a, (accM g a).IsWhole
  | 0, 0 => Memref.isWhole_whole _ | 0, 1 => Memref.isWhole_whole _
  | 1, 0 => Memref.isWhole_whole _ | 1, 1 => Memref.isWhole_whole _
  | 2, 0 => Memref.isWhole_whole _ | 2, 1 => Memref.isWhole_whole _
  | 3, 0 => Memref.isWhole_whole _ | 3, 1 => Memref.isWhole_whole _
/-- Each communication buffer is a whole buffer. -/
theorem commM_whole : ∀ g a, (commM g a).IsWhole
  | 0, 0 => Memref.isWhole_whole _ | 0, 1 => Memref.isWhole_whole _
  | 1, 0 => Memref.isWhole_whole _ | 1, 1 => Memref.isWhole_whole _
  | 2, 0 => Memref.isWhole_whole _ | 2, 1 => Memref.isWhole_whole _
  | 3, 0 => Memref.isWhole_whole _ | 3, 1 => Memref.isWhole_whole _

/-- A group's twelve send semaphores. -/
def ssArr : Fin 4 → DmaSems sig S12
  | 0 => cc0_scratch19 | 1 => cc0_scratch20 | 2 => cc0_scratch21 | 3 => cc0_scratch22
/-- A group's twelve receive semaphores. -/
def rsArr : Fin 4 → DmaSems sig S12
  | 0 => cc0_scratch23 | 1 => cc0_scratch24 | 2 => cc0_scratch25 | 3 => cc0_scratch26

/-- Where phase `p` of row half `a` lies in a group's twelve semaphores. -/
def semIx (a : Fin 2) (p : Fin 6) : Fin 1 → ℕ := ![6 * a.val + p.val]
/-- A phase's semaphore is one of its group's twelve. -/
theorem semIx_inb : ∀ (a : Fin 2) (p : Fin 6) (i : Fin 1), semIx a p i + S1.size i ≤ S12.size i := by decide
/-- A phase's send semaphore. -/
def ssem (g : Fin 4) (a : Fin 2) (p : Fin 6) : DmaSem sig :=
  (((ssArr g).slice (Rect.unit (s := S12) (semIx a p) S1.size (semIx_inb a p))).squeeze S_ squeezes_S1_S_).sem
/-- A phase's receive semaphore. -/
def rsem (g : Fin 4) (a : Fin 2) (p : Fin 6) : DmaSem sig :=
  (((rsArr g).slice (Rect.unit (s := S12) (semIx a p) S1.size (semIx_inb a p))).squeeze S_ squeezes_S1_S_).sem
/-- Where a fetch's semaphore lies among the three. -/
def csIx (k : Fin 3) : Fin 1 → ℕ := ![k.val]
/-- A fetch's semaphore is one of the three. -/
theorem csIx_inb : ∀ (k : Fin 3) (i : Fin 1), csIx k i + S1.size i ≤ S3.size i := by decide
/-- A fetch's semaphore. -/
def csem (k : Fin 3) : DmaSem sig :=
  ((cc0_scratch27.slice (Rect.unit (s := S3) (csIx k) S1.size (csIx_inb k))).squeeze S_ squeezes_S1_S_).sem
/-- The barrier semaphore. -/
def bsem := (SemArray.scalar (sig.barrier 0 rfl) : Sems sig S_).sem

/-- A halving step's place among the six phases. -/
def rsPh : Fin 3 → Fin 6 | 0 => 0 | 1 => 1 | 2 => 2
/-- A gathering step's place among the six phases. -/
def agPh : Fin 3 → Fin 6 | 0 => 3 | 1 => 4 | 2 => 5

/-- The staged input, projection weights and result. -/
abbrev xM : Memref sig .tc .vmem S4x256x1024 .f32 := win0_0.stage (cfg0.slots t0_0 0)
abbrev wqM : Memref sig .tc .vmem S1024x1024 .f32 := win0_1.stage (cfg0.slots t0_0 1)
abbrev outM : Memref sig .tc .vmem S4x256x1024 .bf16 := win0_2.stage (cfg0.slots t0_0 2)
/-- The staged result is a whole buffer. -/
theorem outM_whole : outM.IsWhole := hstage0_2 0

/-! ## Views by lane and step -/

/-- The half a step sends. -/
def sendV (g : Fin 4) (a : Fin 2) (j : Fin 3) (c : Dev nD) : Memref sig .tc .vmem (Srs j) .bf16 :=
  (accM g a).slice (Rect.unit (s := S8x16x1024) (sendOff a j c) (Srs j).size (sendOff_inb a j c)) (fun _ => rfl)
/-- Where a step's half lands. -/
def commV (g : Fin 4) (a : Fin 2) (j : Fin 3) : Memref sig .tc .vmem (Srs j) .bf16 :=
  (commM g a).slice (Rect.unit (s := S7x16x1024) (commOff j) (Srs j).size (commOff_inb j)) (fun _ => rfl)
/-- The half a step sends can be copied word by word. -/
theorem sendV_words (g a j c) : (sendV g a j c).view.WordExact := (accM_whole g a).wordExact_slice rfl _ (sendOff_words a j c)
/-- Where it lands can be copied to word by word. -/
theorem commV_words (g a j) : (commV g a j).view.WordExact := (commM_whole g a).wordExact_slice rfl _ (commOff_words j)
/-- A block that a gathering step sends. -/
def agV (g : Fin 4) (a : Fin 2) (j : Fin 3) (k : Fin 4) (h : k.val < agN j) (c : Dev nD) : Memref sig .tc .vmem S16x1024 .bf16 :=
  (outM.slice (Rect.unit (s := S4x256x1024) (agOff g a j k.val c) S1x16x1024.size (fun i => agOff_inb g a j c k i h)) (fun _ => rfl)).squeeze
    S16x1024 squeezes_S1x16x1024_S16x1024
/-- A block that a gathering step sends can be copied word by word. -/
theorem agV_words (g a j k h c) : (agV g a j k h c).view.WordExact :=
  (outM_whole.wordExact_slice rfl _ (agOff_words g a j c k h)).reshape _ _

/-! ## The pieces -/

abbrev TcProg (F : FTy → Type) (α : Type) := Prog (TpuEff nD τ sig (Elt F) Λ₀ .tc) α

/-- The device across a dimension. -/
def partner (k : Fin 3) (c : Dev nD) : Dev nD := ⟨partnerN k c, partnerN_lt k c⟩

/-- Tell the neighbour across dimension `k` that this device is here. -/
def announce (k : Fin 3) (c : Dev nD) : TcProg F PUnit := semSignalWord (partner k c) bsem 1#32

/-- Send a lane's half of step `j`. -/
def rsIssue (g : Fin 4) (a : Fin 2) (j : Fin 3) (c : Dev nD) : TcProg F PUnit :=
  Prog.lift (.enqueueDma (sendV g a j c) (.remote (Dev.tc (partner (dimOf a j) c)) (commV g a j) (.dma (ssem g a (rsPh j)))) (.dma (rsem g a (rsPh j)))
    (sendV_words g a j c) (commV_words g a j) ⟨⟨rfl, Or.inl rfl⟩, trivial⟩)

/-- Send the `i`-th block of step `j` of the gathering. -/
def agSend (g : Fin 4) (a : Fin 2) (j : Fin 3) (k : Fin 4) (h : k.val < agN j) (c : Dev nD) : TcProg F PUnit :=
  Prog.lift (.enqueueDma (agV g a j k h c) (.remote (Dev.tc (partner (dimOf a (agLvl j)) c)) (agV g a j k h c) (.dma (ssem g a (agPh j)))) (.dma (rsem g a (agPh j)))
    (agV_words g a j k h c) (agV_words g a j k h c) ⟨⟨rfl, Or.inl rfl⟩, trivial⟩)
/-- Wait for one block to be sent and one to arrive. -/
def agAwait (g : Fin 4) (a : Fin 2) (j : Fin 3) (k : Fin 4) (h : k.val < agN j) (c : Dev nD) : TcProg F PUnit := do
  Prog.lift (.waitDma2 (ssem g a (agPh j)) (agV g a j k h c) (agV g a j k h c) (agV_words g a j k h c) (agV_words g a j k h c))
  Prog.lift (.waitDma2 (rsem g a (agPh j)) (agV g a j k h c) (agV g a j k h c) (agV_words g a j k h c) (agV_words g a j k h c))

/-- All the blocks of one step of the gathering. -/
def agIssue (g : Fin 4) (a : Fin 2) (c : Dev nD) : Fin 3 → TcProg F PUnit
  | 0 => agSend g a 0 0 (by decide) c
  | 1 => do agSend g a 1 0 (by decide) c; agSend g a 1 1 (by decide) c
  | 2 => do agSend g a 2 0 (by decide) c; agSend g a 2 1 (by decide) c; agSend g a 2 2 (by decide) c; agSend g a 2 3 (by decide) c
/-- Wait for all blocks of a gathering step. -/
def agWaits (g : Fin 4) (a : Fin 2) (c : Dev nD) : Fin 3 → TcProg F PUnit
  | 0 => agAwait g a 0 0 (by decide) c
  | 1 => do agAwait g a 1 0 (by decide) c; agAwait g a 1 1 (by decide) c
  | 2 => do agAwait g a 2 0 (by decide) c; agAwait g a 2 1 (by decide) c; agAwait g a 2 2 (by decide) c; agAwait g a 2 3 (by decide) c

/-- A halving step's block isn't empty. -/
theorem hSrs : ∀ j : Fin 3, 0 < (Srs j).numel := by decide
/-- A halving step's block can be reshaped to its own shape. -/
theorem Srs_casts (j : Fin 3) : (Srs j).ShapeCasts (Srs j) := rfl

/-- The sum a device keeps at a step. -/
def rsAdd (j : Fin 3) (u v : Vec F (Srs j) .bf16) : FVec F (Srs j) .bf16 := shapeCast (Srs j) (addf u v) (Srs_casts j)

abbrev keepR (a : Fin 2) (j : Fin 3) (c : Dev nD) : Rect S8x16x1024 := Rect.unit (s := S8x16x1024) (keepOff a j c) (Srs j).size (keepOff_inb a j c)
abbrev commR (j : Fin 3) : Rect S7x16x1024 := Rect.unit (s := S7x16x1024) (commOff j) (Srs j).size (commOff_inb j)
abbrev outR (g : Fin 4) (a : Fin 2) (c : Dev nD) : Rect S4x256x1024 := Rect.unit (s := S4x256x1024) (outOff g a c) S1x16x1024.size (outOff_inb g a c)
abbrev slotR (a : Fin 2) (ch : Fin 8) : Rect S8x16x1024 := Rect.unit (s := S8x16x1024) (slotOff a ch) S1x16x1024.size (slotOff_inb a ch)

/-- Take in a lane's half of step `j`: wait, then add what landed to what was kept. -/
def rsTake (g : Fin 4) (a : Fin 2) (j : Fin 3) (c : Dev nD) : TcProg F PUnit := do
  Prog.lift (.waitDma2 (ssem g a (rsPh j)) (commV g a j) (sendV g a j c) (commV_words g a j) (sendV_words g a j c))
  Prog.lift (.waitDma2 (rsem g a (rsPh j)) (sendV g a j c) (commV g a j) (sendV_words g a j c) (commV_words g a j))
  let u : Vec F (Srs j) .bf16 ← Prog.lift (.load (accM g a) (keepR a j c).toLoadRect (View.loadsAt_vmem (hSrs j)))
  let v : Vec F (Srs j) .bf16 ← Prog.lift (.load (commM g a) (commR j).toLoadRect (View.loadsAt_vmem (hSrs j)))
  let _w : Vec F (Srs j) .bf16 ← Prog.lift (.load (accM g a) (keepR a j c).toLoadRect (View.loadsAt_vmem (hSrs j)))
  Prog.lift (.store (accM g a) (keepR a j c) (rsAdd j u v) Finset.univ
    (View.stores_vmem (hSrs j) ((accM_whole g a).storeExact_slice rfl _ (keepOff_packed a j c)) (fun _ => rfl)) (.inl rfl))

/-- Put the block a device owns in the result. -/
def ownStore (g : Fin 4) (a : Fin 2) (c : Dev nD) : TcProg F PUnit := do
  let u : Vec F S1x16x1024 .bf16 ← Prog.lift (.load (accM g a) (keepR a 2 c).toLoadRect (View.loadsAt_vmem (hSrs 2)))
  let _w : Vec F S1x16x1024 .bf16 ← Prog.lift (.load outM (outR g a c).toLoadRect (View.loadsAt_vmem h_S1x16x1024))
  Prog.lift (.store outM (outR g a c) (k0_pay145 u) Finset.univ
    (View.stores_vmem h_S1x16x1024 (outM_whole.storeExact_slice rfl _ (outOff_packed g a c)) (fun _ => rfl)) (.inl rfl))

/-- A halving step of a lane: take in what arrives, then issue the next phase. -/
def rsStep (j : Fin 3) (g : Fin 4) (a : Fin 2) (c : Dev nD) : TcProg F PUnit := do
  rsTake g a j c
  match j with
  | 0 => rsIssue g a 1 c
  | 1 => rsIssue g a 2 c
  | 2 => do ownStore g a c; agIssue g a c 0

/-- A gathering step of a lane: take in what arrives, then issue the next phase if there is one. -/
def agStep (j : Fin 3) (g : Fin 4) (a : Fin 2) (c : Dev nD) : TcProg F PUnit := do
  agWaits g a c j
  match j with
  | 0 => agIssue g a c 1
  | 1 => agIssue g a c 2
  | 2 => pure ⟨⟩

/-- Where row block `ch` of half `a` starts in a group's partial product. -/
def slabOff (a : Fin 2) (ch : Fin 8) : Fin 2 → ℕ := ![32 * ch.val + 16 * a.val, 0]
/-- Sixteen rows of a row half lie in the partial product. -/
theorem slab_slices : ∀ (a : Fin 2) (ch : Fin 8), S256x1024.Slices (slabOff a ch) S16x1024 := by decide
/-- Sixteen rows of a group's partial product. -/
def slab (pb : FVec F S256x1024 .bf16) (a : Fin 2) (ch : Fin 8) : FVec F S1x16x1024 .bf16 :=
  shapeCast S1x16x1024 (extractStridedSlice S16x1024 (slabOff a ch) pb (slab_slices a ch)) shapeCasts_S16x1024_S1x16x1024

/-- Store sixteen rows of a partial product to their slot. -/
def slabStore (g : Fin 4) (a : Fin 2) (pb : FVec F S256x1024 .bf16) (ch : Fin 8) : TcProg F PUnit := do
  let _w : Vec F S1x16x1024 .bf16 ← Prog.lift (.load (accM g a) (slotR a ch).toLoadRect (View.loadsAt_vmem h_S1x16x1024))
  Prog.lift (.store (accM g a) (slotR a ch) (slab pb a ch) Finset.univ
    (View.stores_vmem h_S1x16x1024 ((accM_whole g a).storeExact_slice rfl _ (slotOff_packed a ch)) (fun _ => rfl)) (.inl rfl))

/-- Lay a group's partial product out in its two accumulators. -/
def layOut (g : Fin 4) (pb : FVec F S256x1024 .bf16) : TcProg F PUnit :=
  [0, 1, 2, 3, 4, 5, 6, 7].forM fun ch => do slabStore g 0 pb ch; slabStore g 1 pb ch

/-- A group's partial product, of the group's rows and the device's weights. -/
def part (wq : Vec F S1024x1024 .f32) (wk wv : Vec F S1024x256 .f32) (wo : Vec F S1024x1024 .f32) : Fin 4 → Vec F S1x256x1024 .f32 → FVec F S256x1024 .bf16
  | 0, x => k0_pay17 (k0_pay6 wo) (k0_pay10 (k0_pay2 x) (k0_pay3 wq x) (k0_pay4 wk) (k0_pay5 wv)) (k0_pay11 (k0_pay2 x) (k0_pay3 wq x) (k0_pay4 wk) (k0_pay5 wv))
      (k0_pay12 (k0_pay2 x) (k0_pay3 wq x) (k0_pay4 wk) (k0_pay5 wv)) (k0_pay13 (k0_pay2 x) (k0_pay3 wq x) (k0_pay4 wk) (k0_pay5 wv))
      (k0_pay15 (k0_pay2 x) (k0_pay3 wq x) (k0_pay4 wk)) (k0_pay16 (k0_pay2 x) (k0_pay3 wq x) (k0_pay4 wk) (k0_pay5 wv))
  | 1, x => k0_pay42 (k0_pay6 wo) (k0_pay37 (k0_pay1 wq) x) (k0_pay38 (k0_pay4 wk) x) (k0_pay39 (k0_pay5 wv) x) (k0_pay40 (k0_pay5 wv) x)
      (k0_pay41 (k0_pay1 wq) (k0_pay4 wk) x)
  | 2, x => k0_pay68 (k0_pay6 wo) (k0_pay63 (k0_pay1 wq) x) (k0_pay64 (k0_pay4 wk) x) (k0_pay65 (k0_pay5 wv) x)
      (k0_pay66 (k0_pay1 wq) (k0_pay4 wk) (k0_pay5 wv) x) (k0_pay67 (k0_pay1 wq) (k0_pay4 wk) (k0_pay5 wv) x)
  | 3, x => k0_pay98 (k0_pay6 wo) (k0_pay92 (k0_pay1 wq) (k0_pay4 wk) (k0_pay5 wv) x) (k0_pay93 (k0_pay1 wq) (k0_pay4 wk) (k0_pay5 wv) x)
      (k0_pay94 (k0_pay1 wq) (k0_pay4 wk) (k0_pay5 wv) x) (k0_pay95 (k0_pay1 wq) (k0_pay4 wk) (k0_pay5 wv) x) (k0_pay96 (k0_pay5 wv) x)
      (k0_pay97 (k0_pay1 wq) (k0_pay4 wk) x)

/-- Where a group's rows start in the input. -/
def xOff (g : Fin 4) : Fin 3 → ℕ := ![g.val, 0, 0]
/-- A group's rows lie in the input. -/
theorem xOff_inb : ∀ (g : Fin 4) (i : Fin 3), xOff g i + S1x256x1024.size i ≤ S4x256x1024.size i := by decide
abbrev xR (g : Fin 4) : Rect S4x256x1024 := Rect.unit (s := S4x256x1024) (xOff g) S1x256x1024.size (xOff_inb g)

/-- A device's columns of the key weights, and of the value weights. -/
def wkSrc (c : Dev nD) : Memref sig .tc .hbm S1024x256 .f32 :=
  (Memref.whole main_arg3).slice (Rect.unit (s := S1024x2048) (k0_off1 c) S1024x256.size (k0_off1_inb c)) (fun _ => rfl)
/-- The columns of the value weights to fetch. -/
def wvSrc (c : Dev nD) : Memref sig .tc .hbm S1024x256 .f32 :=
  (Memref.whole main_arg4).slice (Rect.unit (s := S1024x2048) (k0_off1 c) S1024x256.size (k0_off1_inb c)) (fun _ => rfl)
abbrev woSrc : Memref sig .tc .hbm S1024x1024 .f32 := Memref.whole main_arg2
abbrev wkM : Memref sig .tc .vmem S1024x256 .f32 := Memref.whole cc0_scratch16
abbrev wvM : Memref sig .tc .vmem S1024x256 .f32 := Memref.whole cc0_scratch17
abbrev woM : Memref sig .tc .vmem S1024x1024 .f32 := Memref.whole cc0_scratch18

/-- Start fetching the three weights. -/
def fetch (c : Dev nD) : TcProg F PUnit := do
  Prog.lift (.enqueueDma (wkSrc c) (.here wkM) (.dma (csem 0)) (View.wordExact_bits rfl) (Memref.isWhole_whole _).wordExact ⟨Or.inl rfl, trivial⟩)
  Prog.lift (.enqueueDma (wvSrc c) (.here wvM) (.dma (csem 1)) (View.wordExact_bits rfl) (Memref.isWhole_whole _).wordExact ⟨Or.inl rfl, trivial⟩)
  Prog.lift (.enqueueDma woSrc (.here woM) (.dma (csem 2)) (Memref.isWhole_whole _).wordExact (Memref.isWhole_whole _).wordExact ⟨Or.inl rfl, trivial⟩)
/-- Wait for them. -/
def fetched (c : Dev nD) : TcProg F PUnit := do
  Prog.lift (.waitDma2 (csem 0) (wkSrc c) wkM (View.wordExact_bits rfl) (Memref.isWhole_whole _).wordExact)
  Prog.lift (.waitDma2 (csem 1) (wvSrc c) wvM (View.wordExact_bits rfl) (Memref.isWhole_whole _).wordExact)
  Prog.lift (.waitDma2 (csem 2) woSrc woM (Memref.isWhole_whole _).wordExact (Memref.isWhole_whole _).wordExact)

/-- One group: read its rows, compute, lay out, and start its two halvings. -/
def groupTail (g : Fin 4) (c : Dev nD) (pb : FVec F S256x1024 .bf16) : TcProg F PUnit := do
  layOut g pb
  rsIssue g 0 0 c
  rsIssue g 1 0 c
/-- One group, from reading its rows to starting its two halvings. -/
def group (g : Fin 4) (c : Dev nD) (wq : Vec F S1024x1024 .f32) (wk wv : Vec F S1024x256 .f32) (wo : Vec F S1024x1024 .f32) : TcProg F PUnit := do
  let x : Vec F S1x256x1024 .f32 ← Prog.lift (.load xM (xR g).toLoadRect (View.loadsAt_vmem h_S1x256x1024))
  groupTail g c (part wq wk wv wo g x)

/-- The halving loop, and the gathering loop. -/
def rsLoop (c : Dev nD) : TcProg F PUnit :=
  [0, 1, 2].forM fun j => [0, 1, 2, 3].forM fun g => do rsStep j g 0 c; rsStep j g 1 c
/-- The gathering steps, over all groups and row halves. -/
def agLoop (c : Dev nD) : TcProg F PUnit :=
  [0, 1, 2].forM fun j => [0, 1, 2, 3].forM fun g => do agStep j g 0 c; agStep j g 1 c

abbrev fullR : Rect S1024x1024 := Rect.unit (s := S1024x1024) ![0, 0] S1024x1024.size inb_S1024x1024_S1024x1024_0_0
abbrev kvR : Rect S1024x256 := Rect.unit (s := S1024x256) ![0, 0] S1024x256.size inb_S1024x256_S1024x256_0_0

/-- The body at device `c`. -/
def bodyProg (c : Dev nD) : TcProg F PUnit := do
  announce 0 c
  announce 1 c
  announce 2 c
  fetch c
  let wq : Vec F S1024x1024 .f32 ← Prog.lift (.load wqM fullR.toLoadRect (View.loadsAt_vmem h_S1024x1024))
  let x : Vec F S1x256x1024 .f32 ← Prog.lift (.load xM (xR 0).toLoadRect (View.loadsAt_vmem h_S1x256x1024))
  fetched c
  let wk : Vec F S1024x256 .f32 ← Prog.lift (.load wkM kvR.toLoadRect (View.loadsAt_vmem h_S1024x256))
  let wv : Vec F S1024x256 .f32 ← Prog.lift (.load wvM kvR.toLoadRect (View.loadsAt_vmem h_S1024x256))
  let wo : Vec F S1024x1024 .f32 ← Prog.lift (.load woM fullR.toLoadRect (View.loadsAt_vmem h_S1024x1024))
  layOut 0 (part wq wk wv wo 0 x)
  semWaitWord bsem 3#32
  rsIssue 0 0 0 c
  rsIssue 0 1 0 c
  group 1 c wq wk wv wo
  group 2 c wq wk wv wo
  group 3 c wq wk wv wo
  rsLoop c
  agLoop c

end Cert.Hyper

end
-- ==== Proof.Held.lean ====
/-
Owning some of a memref's elements at known contents, and the rules of the program's effects in those terms: splitting and
joining along disjoint sets of indices, a slice owned whole, a load, a store.
-/
module

public import Idealize.ShloMosaic.Lib.Memref
public import Idealize.ShloMosaic.Lib.Tactic
public import Idealize.ShloMosaic.Lib.Rounds

@[expose] public section

noncomputable section

namespace Cert.Hyper

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- A rectangle's element is one of its indices; -/
theorem rect_emb_mem {s : Shape} (r : Rect s) (y : r.shape.Idx) : r.emb y ∈ r.set :=
  r.map_emb_univ ▸ Finset.mem_map_of_mem _ (Finset.mem_univ y)
/-- and each of its indices is an element. -/
theorem rect_exists_emb {s : Shape} {r : Rect s} {i : s.Idx} (h : i ∈ r.set) : ∃ y, r.emb y = i := by
  rw [← r.map_emb_univ] at h
  obtain ⟨y, -, hy⟩ := Finset.mem_map.mp h
  exact ⟨y, hy⟩

/-- Two assertions that entail each other are equal. -/
theorem eq_of_entails {M : Type} [URA M] {P Q : sProp M} (h₁ : P ⊢ Q) (h₂ : Q ⊢ P) : P = Q := BI.equiv_iff.mp ⟨h₁, h₂⟩

section Held

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {sh : Shape} {e : EltTy} (m : Memref sig c.2.kind sp sh e)

/-- Core `c` owns the elements of the memref at the indices `K`, and reads `X` there. -/
def heldOn (K : Finset sh.Idx) (X : sh.Idx → Val e) : sProp 𝕄 :=
  iprop(∃ f, ⌜∀ i ∈ K, m.view.read Val f i = X i⌝ ∗ (m.view.loc c ↦[m.view.setOn K]{fullShare} f))

instance heldOn_storable (K : Finset sh.Idx) (X : sh.Idx → Val e) : BI.Storable (upEmb : UEmb _ 𝕄) (heldOn c m K X) := by
  unfold heldOn; infer_instance

/-- The same at some contents. -/
def anyOn (K : Finset sh.Idx) : sProp 𝕄 := iprop(∃ X, heldOn c m K X)

instance anyOn_storable (K : Finset sh.Idx) : BI.Storable (upEmb : UEmb _ 𝕄) (anyOn c m K) := by
  unfold anyOn; infer_instance

variable {c m}

/-- What is read matters at the indices only. -/
theorem heldOn_mono {K : Finset sh.Idx} {X Y : sh.Idx → Val e} (h : ∀ i ∈ K, X i = Y i) :
    (heldOn c m K X : sProp 𝕄) ⊢ heldOn c m K Y := by
  unfold heldOn
  iintro ⟨%f, %hf, H⟩
  iexists f
  isplitr; · ipureintro; exact fun i hi => (hf i hi).trans (h i hi)
  iexact H

/-- Elements owned at known contents are owned at some contents. -/
theorem heldOn_any {K : Finset sh.Idx} {X : sh.Idx → Val e} : (heldOn c m K X : sProp 𝕄) ⊢ anyOn c m K := by
  unfold anyOn; iintro H; iexists X; iexact H

/-- The elements of a memref at a union of index sets are the union of the elements. -/
theorem setOn_union (K J : Finset sh.Idx) : m.view.setOn (K ∪ J) = m.view.setOn K ∪ m.view.setOn J := Finset.map_union _ _

/-- Disjoint index sets of a memref have disjoint elements. -/
theorem setOn_disjoint {K J : Finset sh.Idx} (h : Disjoint K J) : Disjoint (m.view.setOn K) (m.view.setOn J) :=
  (Finset.disjoint_map _).mpr h

/-- Disjoint sets of indices together are the two apart. -/
theorem heldOn_union {K J : Finset sh.Idx} (h : Disjoint K J) (X : sh.Idx → Val e) :
    (heldOn c m (K ∪ J) X : sProp 𝕄) = iprop(heldOn c m K X ∗ heldOn c m J X) := by
  refine eq_of_entails ?_ ?_
  · unfold heldOn
    iintro ⟨%f, %hf, H⟩
    rw [setOn_union]
    ihave H' := (pointsTo_union (setOn_disjoint h)).1 $$ H
    icases H' with ⟨H1, H2⟩
    isplitl [H1]
    · iexists f; isplitr; · ipureintro; exact fun i hi => hf i (Finset.mem_union_left _ hi)
      iexact H1
    · iexists f; isplitr; · ipureintro; exact fun i hi => hf i (Finset.mem_union_right _ hi)
      iexact H2
  · unfold heldOn
    iintro ⟨⟨%f, %hf, H1⟩, ⟨%g, %hg, H2⟩⟩
    iexists ((m.view.setOn J).piecewise g f)
    isplitr
    · ipureintro
      intro i hi
      rw [View.read_apply]
      by_cases hJ : i ∈ J
      · rw [Finset.piecewise_eq_of_mem (m.view.setOn J) _ _ (Finset.mem_map_of_mem _ hJ), ← View.read_apply]; exact hg i hJ
      · rw [Finset.piecewise_eq_of_notMem (m.view.setOn J) _ _ (fun hm => hJ ((Finset.mem_map' _).mp hm)), ← View.read_apply]
        exact hf i ((Finset.mem_union.mp hi).resolve_right hJ)
    rw [setOn_union]
    iapply (pointsTo_join (setOn_disjoint h))
    isplitl [H1] <;> iassumption

/-- Joining disjoint sets held at different contents. -/
theorem anyOn_union {K J : Finset sh.Idx} (h : Disjoint K J) :
    (anyOn c m (K ∪ J) : sProp 𝕄) = iprop(anyOn c m K ∗ anyOn c m J) := by
  refine eq_of_entails ?_ ?_
  · unfold anyOn
    iintro ⟨%X, H⟩
    ihave H' := (Entails.of_eq (heldOn_union h X)) $$ H
    icases H' with ⟨H1, H2⟩
    isplitl [H1]
    · iexists X; iexact H1
    · iexists X; iexact H2
  · unfold anyOn
    iintro ⟨⟨%X, H1⟩, ⟨%Y, H2⟩⟩
    iexists (J.piecewise Y X)
    iapply (Entails.of_eq (heldOn_union h (J.piecewise Y X)).symm)
    isplitl [H1]
    · iapply (heldOn_mono (c := c) (m := m) (X := X) fun i hi => by rw [Finset.piecewise_eq_of_notMem _ _ _ (Finset.disjoint_left.mp h hi)])
      iexact H1
    · iapply (heldOn_mono (c := c) (m := m) (X := Y) fun i hi => by rw [Finset.piecewise_eq_of_mem _ _ _ hi])
      iexact H2

/-- Along a finite family of pairwise disjoint sets, not empty. -/
theorem heldOn_biUnion {T : Type} [DecidableEq T] {S : Finset T} (hS : S.Nonempty) (K : T → Finset sh.Idx) (X : sh.Idx → Val e)
    (h : ∀ t ∈ S, ∀ t' ∈ S, t ≠ t' → Disjoint (K t) (K t')) :
    (heldOn c m (S.biUnion K) X : sProp 𝕄) = bigSep S fun t => heldOn c m (K t) X := by
  induction hS using Finset.Nonempty.cons_induction with
  | singleton t => rw [Finset.singleton_biUnion, bigSep_singleton]
  | cons t S ht hS ih =>
    rw [Finset.cons_eq_insert, Finset.biUnion_insert, bigSep_insert ht, heldOn_union, ih]
    · rfl
    · exact fun t' h' u hu => h t' (Finset.mem_cons_of_mem h') u (Finset.mem_cons_of_mem hu)
    · refine (Finset.disjoint_biUnion_right _ _ _).mpr fun u hu => h t (Finset.mem_cons_self _ _) u (Finset.mem_cons_of_mem hu) ?_
      rintro rfl; exact ht hu

/-- Owning every index is owning the memref. -/
theorem heldOn_univ (X : sh.Idx → Val e) : (heldOn c m Finset.univ X : sProp 𝕄) = owns c m fullShare X := by
  refine eq_of_entails ?_ ?_
  · unfold heldOn owns
    iintro ⟨%f, %hf, H⟩
    iexists f
    isplitr; · ipureintro; exact funext fun i => hf i (Finset.mem_univ _)
    iexact H
  · unfold heldOn owns
    iintro ⟨%f, %hf, H⟩
    iexists f
    isplitr; · ipureintro; exact fun i _ => congrFun hf i
    iexact H

/-- Owning a rectangle's indices is owning the slice of the memref there. -/
theorem heldOn_slice (r : Rect sh) (hr) (X : sh.Idx → Val e) :
    (heldOn c m r.set X : sProp 𝕄) = owns c (m.slice r hr) fullShare (fun y => X (r.emb y)) := by
  refine eq_of_entails ?_ ?_
  · unfold heldOn owns
    iintro ⟨%f, %hf, H⟩
    iexists f
    isplitr; · ipureintro; exact funext fun y => hf _ (rect_emb_mem r y)
    iapply (Entails.of_eq (congrArg (fun S => (m.view.loc c ↦[S]{fullShare} f : sProp 𝕄)) (View.set_slice m.view r).symm))
    iexact H
  · unfold heldOn owns
    iintro ⟨%f, %hf, H⟩
    iexists f
    isplitr
    · ipureintro
      intro i hi
      obtain ⟨y, rfl⟩ := rect_exists_emb hi
      exact congrFun hf y
    iapply (Entails.of_eq (congrArg (fun S => (m.view.loc c ↦[S]{fullShare} f : sProp 𝕄)) (View.set_slice m.view r)))
    iexact H

end Held

section Effects

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (Es : Set Name)
variable {s : Shape} {e : EltTy} {α : Type} {Q : α → sProp (MT nD τ sig Ix Val Name U Lvl)}

local notation "𝕄" => MT nD τ sig Ix Val Name U Lvl

/-- A load within what is held reads what is held. -/
theorem wp_load_held {cs : CoreSpace} {m : Memref sig c.2.kind cs s e} {r : Rect s} {hl : m.view.LoadsAt r.toLoadRect}
    {k : (r.shape.Idx → Val e) → Prog (TpuEff nD τ sig Val Λ c.2) α} {K : Finset s.Idx} {X : s.Idx → Val e} (hr : r.set ⊆ K) :
    (heldOn c m K X : sProp 𝕄)
      ⊢ iprop((heldOn c m K X -∗ wp frame (wpE defs 𝒱 c bd) Es (k fun y => X (r.emb y)) Q)
        -∗ wp frame (wpE defs 𝒱 c bd) Es (.op (.load m r.toLoadRect hl) k) Q) := by
  iintro H Hk
  unfold heldOn
  icases H with ⟨%f, %hf, H⟩
  iapply (wp_load_rect 𝒱 c bd Es (m := m) (r := r) (S := m.view.setOn K) (f := f)
    (by rw [View.set_slice]; exact Finset.map_subset_map.mpr hr)) $$ [H]
  · iexact H
  iintro H
  rw [show (m.access r).read Val f = fun y => X (r.emb y) from funext fun y => hf _ (hr (rect_emb_mem r y))]
  iapply Hk
  iexists f
  isplitr; · ipureintro; exact hf
  iexact H

/-- A store within what is held leaves the rest of it and the stored values. -/
theorem wp_store_held {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {K : Finset s.Idx} {X : s.Idx → Val e} (Y : s.Idx → Val e) (hr : r.set ⊆ K)
    (hw : ∀ y, Y (r.emb y) = w y) (ho : ∀ i ∈ K, i ∉ r.set → Y i = X i) :
    (heldOn c m K X : sProp 𝕄)
      ⊢ iprop((heldOn c m K Y -∗ wp frame (wpE defs 𝒱 c bd) Es (k ⟨⟩) Q)
        -∗ wp frame (wpE defs 𝒱 c bd) Es (.op (.store m r w Finset.univ hx hm) k) Q) := by
  iintro H Hk
  unfold heldOn
  icases H with ⟨%f, %hf, H⟩
  iapply (wp_store 𝒱 c bd Es (Q := Q) (m := m) (r := r) (w := w) (hx := hx) (hm := hm) (k := k) (Mk := Finset.univ) (S := m.view.setOn K) (f := f)
    (by rw [View.setOn_univ, View.set_slice]; exact Finset.map_subset_map.mpr hr)) $$ [H]
  · iexact H
  iintro H
  iapply Hk
  iexists ((m.access r).write Val f w Finset.univ)
  isplitr
  · ipureintro
    intro i hi
    by_cases h : i ∈ r.set
    · obtain ⟨y, rfl⟩ := rect_exists_emb h
      rw [hw]
      exact View.read_slice_write_emb (v := m.view) r f w (Finset.mem_univ y)
    · rw [ho i hi h, ← hf i hi]
      exact View.read_slice_write_of_not_mem (v := m.view) r f w Finset.univ (by rw [r.map_emb_univ]; exact h)
  iexact H

variable {D : Type} [DecidableEq D]
variable {sp sp' : Space}

/-- An addressed transfer from what the issuer owns at `X` into what it owns of the target's at any contents: the source
    comes back as the first payload, the target's elements at `X` as the second. -/
theorem wp_send_owns (E : Emb (Rounds.URounds (GSem nD τ sig) D) (MT nD τ sig Ix Val Name U Lvl)) (Rd : Rounds.Schedule (GSem nD τ sig) D (MT nD τ sig Ix Val Name U Lvl))
    {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {X : s.Idx → Val e} {r₁ r₂ : ℕ} {d₁ d₂ : D} {κ₁ κ₂ : Name}
    (hd₁ : d₁ ∈ (Rd.duties ((c, sS) : GSem nD τ sig) r₁ : Finset D)) (hd₂ : d₂ ∈ (Rd.duties ((c', sem) : GSem nD τ sig) r₂ : Finset D))
    (ι ι' : Ix) (N : ℕ) (hN : dst.view.amount sem = N)
    (hk₁ : Rd.amount ((c, sS) : GSem nD τ sig) r₁ d₁ = N) (hk₂ : Rd.amount ((c', sem) : GSem nD τ sig) r₂ d₂ = N)
    {O₀ : CellTallies nD τ sig Ix} (O : CellTallies nD τ sig Ix) (hO : O₀ = O + tallyAt (c', sem) ι N) {W : Waits sig Ix}
    (hpay₁ : (owns c src fullShare X : sProp 𝕄) ⊢ Rd.payload ((c, sS) : GSem nD τ sig) r₁ d₁) (hpay₂ : (owns c' dst fullShare X : sProp 𝕄) ⊢ Rd.payload ((c', sem) : GSem nD τ sig) r₂ d₂)
    (hr : τ.routes c c' = true := by routes) :
    iprop(Rounds.cellInv (D := D) E Rd κ₁ ((c, sS) : GSem nD τ sig) ∗ Rounds.cellInv (D := D) E Rd κ₂ ((c', sem) : GSem nD τ sig)
        ∗ owns c src fullShare X ∗ (∃ Y, owns c' dst fullShare Y)
        ∗ owes c O₀ W
        ∗ Rounds.dutyTok (D := D) E ((c, sS) : GSem nD τ sig) r₁ d₁ ∗ Rounds.reached (D := D) E ((c, sS) : GSem nD τ sig) r₁
        ∗ Rounds.dutyTok (D := D) E ((c', sem) : GSem nD τ sig) r₂ d₂ ∗ Rounds.reached (D := D) E ((c', sem) : GSem nD τ sig) r₂)
      ⊢ iprop(((cred (tallyAt (c, sS) ι' N) ∗ owes c O W) -∗ wp frame (wpE defs 𝒱 c bd) Es (k ⟨⟩) Q)
          -∗ wp frame (wpE defs 𝒱 c bd) Es (.op (.enqueueDma src (.remote c' dst sS hsc) sem hsrc hdst hsem) k) Q) := by
  iintro ⟨HI1, HI2, Hs, ⟨%Y, Hd⟩, Ho, Ht1, Hr1, Ht2, Hr2⟩ Hk
  have h1 : ∀ f, src.view.read Val f = X → ((src.view.loc c ↦[src.view.set]{fullShare} f : sProp 𝕄) ⊢ Rd.payload ((c, sS) : GSem nD τ sig) r₁ d₁) := by
    intro f hf; subst hf; exact (owns_intro c src fullShare f).trans hpay₁
  have h2 : ∀ f g, src.view.read Val f = X →
      ((dst.view.loc c' ↦[dst.view.set]{fullShare} (dst.view.write Val g (src.view.read Val f) Finset.univ) : sProp 𝕄) ⊢ Rd.payload ((c', sem) : GSem nD τ sig) r₂ d₂) := by
    intro f g hf
    refine (owns_intro c' dst fullShare _).trans ?_
    rw [View.read_write_univ, hf]; exact hpay₂
  unfold owns
  icases Hs with ⟨%f, %hf, Hs⟩
  icases Hd with ⟨%g, -, Hd⟩
  iapply (Rounds.wp_send_pointsTo 𝒱 E Rd c bd (Q := Q) (fs := f) (fd := g) (hsc := hsc) (hsem := hsem) (hsrc := hsrc) (hdst := hdst) (k := k) hd₁ hd₂ ι ι' N hN hk₁ hk₂ O hO (W := W) (h1 f hf) (h2 f g hf) hr)
    $$ [HI1 HI2 Hs Hd Ho Ht1 Hr1 Ht2 Hr2]
  · isplitl [HI1]; · iexact HI1
    isplitl [HI2]; · iexact HI2
    isplitl [Hs]; · iexact Hs
    isplitl [Hd]; · iexact Hd
    isplitl [Ho]; · iexact Ho
    isplitl [Ht1]; · iexact Ht1
    isplitl [Hr1]; · iexact Hr1
    isplitl [Ht2] <;> iassumption
  iexact Hk

/-- A copy on the device from what it owns at `X` into what it owns at any contents. -/
theorem wp_copy_owns (E : Emb (Rounds.URounds (GSem nD τ sig) D) (MT nD τ sig Ix Val Name U Lvl)) (Rd : Rounds.Schedule (GSem nD τ sig) D (MT nD τ sig Ix Val Name U Lvl))
    {src : Memref sig c.2.kind sp s e} {dst : Memref sig c.2.kind sp' s e} {sem : SemLoc sig}
    {hsrc : src.view.WordExact} {hdst : dst.view.WordExact} {hsem : DmaTarget.Typed (nD := nD) sp sem (.here dst)}
    {k : PUnit → Prog (TpuEff nD τ sig Val Λ c.2) α} {X : s.Idx → Val e} {r : ℕ} {d : D} {κ : Name}
    (hd : d ∈ (Rd.duties ((c, sem) : GSem nD τ sig) r : Finset D)) (ι : Ix) (N : ℕ) (hN : dst.view.amount sem = N) (hk : Rd.amount ((c, sem) : GSem nD τ sig) r d = N)
    (hpay : (iprop(owns c dst fullShare X ∗ owns c src fullShare X) : sProp 𝕄) ⊢ Rd.payload ((c, sem) : GSem nD τ sig) r d) :
    iprop(Rounds.cellInv (D := D) E Rd κ ((c, sem) : GSem nD τ sig) ∗ owns c src fullShare X ∗ (∃ Y, owns c dst fullShare Y)
        ∗ Rounds.dutyTok (D := D) E ((c, sem) : GSem nD τ sig) r d ∗ Rounds.reached (D := D) E ((c, sem) : GSem nD τ sig) r)
      ⊢ iprop((cred (tallyAt (c, sem) ι N) -∗ wp frame (wpE defs 𝒱 c bd) Es (k ⟨⟩) Q)
          -∗ wp frame (wpE defs 𝒱 c bd) Es (.op (.enqueueDma src (.here dst) sem hsrc hdst hsem) k) Q) := by
  iintro ⟨HI, Hs, ⟨%Y, Hd⟩, Ht, Hr⟩ Hk
  have h : ∀ f g, src.view.read Val f = X →
      ((iprop((dst.view.loc c ↦[dst.view.set]{fullShare} (dst.view.write Val g (src.view.read Val f) Finset.univ))
        ∗ (src.view.loc c ↦[src.view.set]{fullShare} f)) : sProp 𝕄) ⊢ Rd.payload ((c, sem) : GSem nD τ sig) r d) := by
    intro f g hf
    refine (BIClass.sep_mono (owns_intro c dst fullShare _) (owns_intro c src fullShare f)).trans ?_
    rw [View.read_write_univ, hf]; exact hpay
  unfold owns
  icases Hs with ⟨%f, %hf, Hs⟩
  icases Hd with ⟨%g, -, Hd⟩
  iapply (Rounds.wp_copy_pointsTo 𝒱 E Rd c bd (Q := Q) (fs := f) (fd := g) (hsem := hsem) (hsrc := hsrc) (hdst := hdst) (k := k) hd ι N hN hk (h f g hf))
    $$ [HI Hs Hd Ht Hr]
  · isplitl [HI]; · iexact HI
    isplitl [Hs]; · iexact Hs
    isplitl [Hd]; · iexact Hd
    isplitl [Ht] <;> iassumption
  iexact Hk

end Effects

end Cert.Hyper

end
-- ==== Proof.Mesh.lean ====
/-
Facts of the mesh: who crosses to whom, which slots a device holds at each level, and where a slot's rows lie in the
result; each decided over the eight devices.
-/
module

public import proofs.«01_k».proof.Proof.Prog
public import proofs.«01_k».proof.Proof.Held

@[expose] public section

noncomputable section

namespace Cert.Hyper

open Cert.KernelIdeal Cert.KernelIdeal.Gen
open Idealize.ShloMosaic Idealize.ShloMosaic.TcCoe
open Idealize.SL Idealize.SL.Sem

/-! ## The levels -/

/-- Crossing a dimension twice comes back. -/
theorem partner_partner : ∀ (k : Fin 3) (c : Dev nD), partner k (partner k c) = c := by decide +kernel

/-- Crossing a dimension of the cube, both ways. -/
def crossing (k : Fin 3) : Dev nD ≃ Dev nD := ⟨partner k, partner k, partner_partner k, partner_partner k⟩

/-- How many slots a device holds after `t` halvings. -/
def holdN : ℕ → ℕ | 0 => 8 | 1 => 4 | 2 => 2 | _ => 1

/-- The first of them. -/
def lo (a : Fin 2) (t : ℕ) (c : Dev nD) : ℕ := (winW a c t).toNat

/-- The device a row half crosses to at level `t`. -/
abbrev across (a : Fin 2) (t : Fin 3) (c : Dev nD) : Dev nD := partner (dimOf a t) c

/-- A halving step moves half of the slots held, and leaves the other half. -/
theorem holdN_half : ∀ j : Fin 3, holdN j.val = 2 * rsN j ∧ holdN (j.val + 1) = rsN j := by decide
/-- At level zero the slots held start at zero. -/
theorem lo_zero : ∀ (a : Fin 2) (c : Dev nD), lo a 0 c = 0 := by decide +kernel
/-- Where the kept half of a step starts, coordinate by coordinate. -/
theorem keepOff_eq : ∀ (a : Fin 2) (j : Fin 3) (c : Dev nD) (i : Fin 3), keepOff a j c i = ![lo a (j.val + 1) c, 0, 0] i := by decide +kernel
/-- Where the sent half of a step starts, coordinate by coordinate: at the slots its peer keeps. -/
theorem sendOff_eq : ∀ (a : Fin 2) (j : Fin 3) (c : Dev nD) (i : Fin 3), sendOff a j c i = ![lo a (j.val + 1) (across a j c), 0, 0] i := by decide +kernel
/-- The two sides of a crossing hold the same slots before it, and a half each after it. -/
theorem halves : ∀ (a : Fin 2) (j : Fin 3) (c : Dev nD), lo a j.val (across a j c) = lo a j.val c ∧
    ((lo a (j.val + 1) c = lo a j.val c ∧ lo a (j.val + 1) (across a j c) = lo a j.val c + rsN j)
      ∨ (lo a (j.val + 1) c = lo a j.val c + rsN j ∧ lo a (j.val + 1) (across a j c) = lo a j.val c)) := by decide +kernel
/-- The slots held after a step lie among the eight. -/
theorem lo_le : ∀ (a : Fin 2) (j : Fin 3) (c : Dev nD), lo a (j.val + 1) c + rsN j ≤ 8 := by decide +kernel

/-- Where the kept half of a step starts. -/
theorem keepOff_vec (a : Fin 2) (j : Fin 3) (c : Dev nD) : keepOff a j c = ![lo a (j.val + 1) c, 0, 0] := funext (keepOff_eq a j c)
/-- Where the sent half of a step starts. -/
theorem sendOff_vec (a : Fin 2) (j : Fin 3) (c : Dev nD) : sendOff a j c = ![lo a (j.val + 1) (across a j c), 0, 0] := funext (sendOff_eq a j c)

abbrev sendR (a : Fin 2) (j : Fin 3) (c : Dev nD) : Rect S8x16x1024 := Rect.unit (s := S8x16x1024) (sendOff a j c) (Srs j).size (sendOff_inb a j c)

/-- What a device sends lies where the other side keeps it. -/
theorem sendR_emb (a : Fin 2) (j : Fin 3) (c : Dev nD) (y : (Srs j).Idx) : (sendR a j (across a j c)).emb y = (keepR a j c).emb y := by
  have h : sendOff a j (across a j c) = keepOff a j c := by rw [sendOff_vec, keepOff_vec, across, across, partner_partner]
  refine funext fun b => Fin.ext ?_
  show sendOff a j (across a j c) b + 1 * (y b).val = keepOff a j c b + 1 * (y b).val
  rw [h]

/-- A lane's accumulator at the slots a device holds at level `t`. -/
def accS (a : Fin 2) (t : ℕ) (c : Dev nD) : Finset S8x16x1024.Idx := Finset.univ.filter fun i => lo a t c ≤ (i 0).val ∧ (i 0).val < lo a t c + holdN t

/-- At level zero a device holds the whole accumulator. -/
theorem accS_zero (a : Fin 2) (c : Dev nD) : accS a 0 c = Finset.univ := by
  refine Finset.filter_true_of_mem fun i _ => ?_
  rw [lo_zero]; exact ⟨Nat.zero_le _, by have : (i 0).val < 8 := (i 0).isLt; simpa [holdN] using this⟩

/-- An index lies in a rectangle of slots just when its slot does. -/
theorem mem_slots_rect {o : ℕ} (off : Fin 3 → ℕ) (j : Fin 3) (inb : ∀ a : Fin 3, off a + (Srs j).size a ≤ S8x16x1024.size a)
    (i : S8x16x1024.Idx) (ho : off = ![o, 0, 0]) :
    i ∈ (Rect.unit (s := S8x16x1024) off (Srs j).size inb).set ↔ o ≤ (i 0).val ∧ (i 0).val < o + rsN j := by
  subst ho
  rw [Rect.mem_set_unit]
  have h1 : (i 1).val < 16 := (i 1).isLt
  have h2 : (i 2).val < 1024 := (i 2).isLt
  constructor
  · intro h; exact h 0
  · intro h a
    fin_cases a
    · exact h
    · exact ⟨Nat.zero_le _, by show (i 1).val < 0 + 16; omega⟩
    · exact ⟨Nat.zero_le _, by show (i 2).val < 0 + 1024; omega⟩

/-- The half a step keeps is what the device holds at the next level. -/
theorem keepR_set (a : Fin 2) (j : Fin 3) (c : Dev nD) : (keepR a j c).set = accS a (j.val + 1) c := by
  ext i
  unfold accS
  rw [mem_slots_rect (keepOff a j c) j (keepOff_inb a j c) i (keepOff_vec a j c), Finset.mem_filter, (holdN_half j).2]
  exact ⟨fun h => ⟨Finset.mem_univ _, h⟩, fun h => h.2⟩
/-- The half a step sends is what its peer holds at the next level. -/
theorem sendR_set (a : Fin 2) (j : Fin 3) (c : Dev nD) : (sendR a j c).set = accS a (j.val + 1) (across a j c) := by
  ext i
  unfold accS
  rw [mem_slots_rect (sendOff a j c) j (sendOff_inb a j c) i (sendOff_vec a j c), Finset.mem_filter, (holdN_half j).2]
  exact ⟨fun h => ⟨Finset.mem_univ _, h⟩, fun h => h.2⟩

/-- What a device holds at a level is the half it keeps and the half it sends. -/
theorem accS_split (a : Fin 2) (j : Fin 3) (c : Dev nD) : accS a j.val c = (keepR a j c).set ∪ (sendR a j c).set := by
  rw [keepR_set, sendR_set]
  ext i
  have h := (halves a j c).2; have hn := holdN_half j
  unfold accS
  simp only [Finset.mem_union, Finset.mem_filter, Finset.mem_univ, true_and, hn.1, hn.2]
  rcases h with ⟨h1, h2⟩ | ⟨h1, h2⟩ <;> rw [h1, h2] <;> omega
/-- The two halves are disjoint. -/
theorem accS_disj (a : Fin 2) (j : Fin 3) (c : Dev nD) : Disjoint (keepR a j c).set (sendR a j c).set := by
  rw [keepR_set, sendR_set]
  refine Finset.disjoint_left.mpr fun i => ?_
  have h := (halves a j c).2; have hn := holdN_half j
  unfold accS
  simp only [Finset.mem_filter, Finset.mem_univ, true_and, hn.1, hn.2]
  rcases h with ⟨h1, h2⟩ | ⟨h1, h2⟩ <;> rw [h1, h2] <;> omega

/-! ## The landing buffer's three windows -/

/-- An index lies in a step's part of the communication buffer just when its slot does. -/
theorem mem_commR (j : Fin 3) (i : S7x16x1024.Idx) : i ∈ (commR j).set ↔ rsAt j ≤ (i 0).val ∧ (i 0).val < rsAt j + rsN j := by
  rw [Rect.mem_set_unit]
  have h1 : (i 1).val < 16 := (i 1).isLt
  have h2 : (i 2).val < 1024 := (i 2).isLt
  constructor
  · intro h; exact h 0
  · intro h a
    fin_cases a
    · exact h
    · exact ⟨Nat.zero_le _, by show (i 1).val < 0 + 16; omega⟩
    · exact ⟨Nat.zero_le _, by show (i 2).val < 0 + 1024; omega⟩

/-- The three steps' parts make up the communication buffer. -/
theorem comm_univ : (Finset.univ : Finset S7x16x1024.Idx) = (commR 0).set ∪ ((commR 1).set ∪ (commR 2).set) := by
  ext i
  have h0 : (i 0).val < 7 := (i 0).isLt
  simp only [Finset.mem_union, mem_commR, Finset.mem_univ, true_iff, rsAt, rsN]
  omega
/-- The first step's part is disjoint from the other two. -/
theorem comm_disj₀ : Disjoint (commR 0).set ((commR 1).set ∪ (commR 2).set) := by
  refine Finset.disjoint_left.mpr fun i => ?_
  simp only [Finset.mem_union, mem_commR, rsAt, rsN]
  omega
/-- The second step's part is disjoint from the third's. -/
theorem comm_disj₁ : Disjoint (commR 1).set (commR 2).set := by
  refine Finset.disjoint_left.mpr fun i => ?_
  simp only [mem_commR, rsAt, rsN]
  omega

/-! ## Slots in the result -/

/-- The row block in a slot. -/
def chunkOf : Fin 2 → Fin 8 → Fin 8
  | 0, 0 => 0 | 0, 1 => 4 | 0, 2 => 2 | 0, 3 => 6 | 0, 4 => 1 | 0, 5 => 5 | 0, 6 => 3 | 0, 7 => 7
  | 1, 0 => 0 | 1, 1 => 1 | 1, 2 => 4 | 1, 3 => 5 | 1, 4 => 2 | 1, 5 => 3 | 1, 6 => 6 | 1, 7 => 7
/-- Every row block's slot is one of the eight. -/
theorem slotN_lt : ∀ a ch, slotN a ch < 8 := by decide
/-- The slot of a row block. -/
def slotOf (a : Fin 2) (ch : Fin 8) : Fin 8 := ⟨slotN a ch, slotN_lt a ch⟩
/-- The row block in a row block's slot is that row block. -/
theorem chunk_slot : ∀ a ch, chunkOf a (slotOf a ch) = ch := by decide
/-- The slot of the row block in a slot is that slot. -/
theorem slot_chunk : ∀ a s, slotOf a (chunkOf a s) = s := by decide

/-- Where a slot's rows start in the result. -/
def rowOf (a : Fin 2) (s : Fin 8) : ℕ := 32 * (chunkOf a s).val + 16 * a.val
/-- Where a slot's rows start in the result, by coordinates. -/
def regOff (g : Fin 4) (a : Fin 2) (s : Fin 8) : Fin 3 → ℕ := ![g.val, rowOf a s, 0]
/-- A slot's rows lie in the result. -/
theorem regOff_inb : ∀ (g : Fin 4) (a : Fin 2) (s : Fin 8) (i : Fin 3), regOff g a s i + S1x16x1024.size i ≤ S4x256x1024.size i := by decide +kernel
/-- A slot's rows in the result. -/
abbrev regR (g : Fin 4) (a : Fin 2) (s : Fin 8) : Rect S4x256x1024 := Rect.unit (s := S4x256x1024) (regOff g a s) S1x16x1024.size (regOff_inb g a s)

/-- The `k`-th slot a device sends on at step `j` of the gathering. -/
def agSl (a : Fin 2) (j : Fin 3) (k : Fin 4) (c : Dev nD) : Fin 8 := ⟨(lo a (3 - j.val) c + k.val) % 8, Nat.mod_lt _ (by decide)⟩
/-- The slot a device owns. -/
abbrev ownSl (a : Fin 2) (c : Dev nD) : Fin 8 := agSl a 0 0 c
/-- Which blocks step `j` of the gathering sends. -/
def agIx (j : Fin 3) : Finset (Fin 4) := Finset.univ.filter fun k => k.val < agN j
/-- The slots a device holds at level `t`. -/
def slots (a : Fin 2) (t : ℕ) (c : Dev nD) : Finset (Fin 8) := Finset.univ.filter fun s => lo a t c ≤ s.val ∧ s.val < lo a t c + holdN t

/-- A gathering step sends its blocks from their slots' rows. -/
theorem agOff_eq : ∀ (g : Fin 4) (a : Fin 2) (j : Fin 3) (k : Fin 4) (c : Dev nD) (i : Fin 3), k.val < agN j →
    agOff g a j k.val c i = regOff g a (agSl a j k c) i := by decide +kernel
/-- The finished block is stored to the rows of the slot owned. -/
theorem outOff_eq : ∀ (g : Fin 4) (a : Fin 2) (c : Dev nD) (i : Fin 3), outOff g a c i = regOff g a (ownSl a c) i := by decide +kernel
/-- A gathering step's blocks lie in different slots. -/
theorem agSl_inj : ∀ (a : Fin 2) (j : Fin 3) (c : Dev nD) (k k' : Fin 4), k ∈ agIx j → k' ∈ agIx j → agSl a j k c = agSl a j k' c → k = k' := by decide +kernel
/-- A gathering step's blocks are all slots held at its level. -/
theorem agSl_image : ∀ (a : Fin 2) (j : Fin 3) (c : Dev nD), (agIx j).image (fun k => agSl a j k c) = slots a (3 - j.val) c := by decide +kernel
/-- At level zero a device holds all slots. -/
theorem slots_zero : ∀ (a : Fin 2) (c : Dev nD), slots a 0 c = Finset.univ := by decide +kernel
/-- At level three a device holds only the slot it owns. -/
theorem slots_own : ∀ (a : Fin 2) (c : Dev nD), slots a 3 c = {ownSl a c} := by decide +kernel
/-- The slots held after a gathering step are those held before it and those its peer held, and no slot is both. -/
theorem slots_split : ∀ (a : Fin 2) (j : Fin 3) (c : Dev nD),
    slots a (2 - j.val) c = slots a (3 - j.val) c ∪ slots a (3 - j.val) (across a (agLvl j) c)
    ∧ Disjoint (slots a (3 - j.val) c) (slots a (3 - j.val) (across a (agLvl j) c)) := by decide +kernel

/-- The device that owns a slot. -/
def owner (a : Fin 2) (s : Fin 8) : Dev nD := ((List.finRange nD).find? fun c => decide (ownSl a c = s)).getD 0
/-- The owner of the slot a device owns is that device. -/
theorem owner_own : ∀ (a : Fin 2) (c : Dev nD), owner a (ownSl a c) = c := by decide +kernel
/-- The slot that a slot's owner owns is that slot. -/
theorem own_owner : ∀ (a : Fin 2) (s : Fin 8), ownSl a (owner a s) = s := by decide +kernel

/-- An index of the result lies in a slot's rows just when its batch is the lane's group and its block of sixteen rows is the slot's. -/
theorem mem_regR (g : Fin 4) (a : Fin 2) (s : Fin 8) (i : S4x256x1024.Idx) :
    i ∈ (regR g a s).set ↔ (i 0).val = g.val ∧ (i 1).val / 16 = 2 * (chunkOf a s).val + a.val := by
  rw [Rect.mem_set_unit]
  have h2 : (i 2).val < 1024 := (i 2).isLt
  constructor
  · intro h
    have h0 := h 0; have h1 := h 1
    change g.val ≤ (i 0).val ∧ (i 0).val < g.val + 1 at h0
    change 32 * (chunkOf a s).val + 16 * a.val ≤ (i 1).val ∧ (i 1).val < 32 * (chunkOf a s).val + 16 * a.val + 16 at h1
    omega
  · intro ⟨h0, h1⟩ b
    fin_cases b
    · show g.val ≤ (i 0).val ∧ (i 0).val < g.val + 1; omega
    · show 32 * (chunkOf a s).val + 16 * a.val ≤ (i 1).val ∧ (i 1).val < 32 * (chunkOf a s).val + 16 * a.val + 16; omega
    · show 0 ≤ (i 2).val ∧ (i 2).val < 0 + 1024; omega

/-- A lane: a batch group and a row half. -/
abbrev Lane := Fin 4 × Fin 2

/-- Different slots have disjoint rows. -/
theorem reg_disj (x y : Lane × Fin 8) (h : x ≠ y) : Disjoint (regR x.1.1 x.1.2 x.2).set (regR y.1.1 y.1.2 y.2).set := by
  obtain ⟨⟨g, a⟩, s⟩ := x
  obtain ⟨⟨g', a'⟩, s'⟩ := y
  refine Finset.disjoint_left.mpr fun i hi hj => h ?_
  rw [mem_regR] at hi hj
  have ha := a.isLt; have ha' := a'.isLt
  dsimp only at hi hj
  have eg : g = g' := Fin.ext (by omega)
  have ea : a = a' := Fin.ext (by omega)
  subst eg ea
  have ec : chunkOf a s = chunkOf a s' := Fin.ext (by omega)
  have es : s = s' := by rw [← slot_chunk a s, ec, slot_chunk]
  subst es; rfl

/-- All slots' rows together make up the result. -/
theorem reg_univ : (Finset.univ : Finset S4x256x1024.Idx) = (Finset.univ : Finset (Lane × Fin 8)).biUnion fun x => (regR x.1.1 x.1.2 x.2).set := by
  ext i
  simp only [Finset.mem_univ, Finset.mem_biUnion, true_and, true_iff]
  have h0 : (i 0).val < 4 := (i 0).isLt
  have h1 : (i 1).val < 256 := (i 1).isLt
  refine ⟨((⟨(i 0).val, h0⟩, ⟨(i 1).val / 16 % 2, Nat.mod_lt _ (by decide)⟩), slotOf ⟨(i 1).val / 16 % 2, Nat.mod_lt _ (by decide)⟩ ⟨(i 1).val / 32, by omega⟩), ?_⟩
  rw [mem_regR, chunk_slot]
  exact ⟨rfl, by dsimp only; omega⟩

end Cert.Hyper

end
-- ==== Proof.Sched.lean ====
/-
The protocol: the cells (a semaphore of a device each), what each phase hands over, the schedule of duties, the levels that
order the waits, and what a device owes.
-/
module

public import proofs.«01_k».proof.Proof.Mesh

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The names of a cell's duties. -/
abbrev Duty := Fin 4
abbrev UB : Type := URounds (GSem nD τ sig) Duty
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Contents -/

/-- What the run is about on each device: its four partial products and its three fetched weights. -/
structure Data (F : FTy → Type) where
  b : Dev nD → Fin 4 → FVec F S256x1024 .bf16
  wk : Dev nD → S1024x256.Idx → Elt F .f32
  wv : Dev nD → S1024x256.Idx → Elt F .f32
  wo : Dev nD → S1024x1024.Idx → Elt F .f32

variable (D : Data F)

/-- An index of one slot, by its row and column. -/
def slotIx (r : Fin 16) (q : Fin 1024) : S1x16x1024.Idx := fun | 0 => (0 : Fin 1) | 1 => r | 2 => q
/-- An index of an accumulator, by its slot, row and column. -/
def accIx (s : Fin 8) (r : Fin 16) (q : Fin 1024) : S8x16x1024.Idx := fun | 0 => s | 1 => r | 2 => q

/-- A lane's accumulator after the first `t` steps of the halving: at a slot, the partial products of the devices crossed
    so far, added up. -/
def accF (c : Dev nD) (g : Fin 4) (a : Fin 2) (t : ℕ) : S8x16x1024.Idx → Elt F .bf16 :=
  match t with
  | 0 => fun i => slab (D.b c g) a (chunkOf a (i 0)) (slotIx (i 1) (i 2))
  | t + 1 => addf (s := S8x16x1024) (φ := .bf16) (accF c g a t) (accF (across a (Fin.ofNat 3 t) c) g a t)

/-- The result: a slot's rows as its owner has them. -/
def outF (i : S4x256x1024.Idx) : Elt F .bf16 :=
  let a : Fin 2 := ⟨(i 1).val / 16 % 2, Nat.mod_lt _ (by decide)⟩
  let s : Fin 8 := slotOf a ⟨(i 1).val / 32, by have h : (i 1).val < 256 := (i 1).isLt; omega⟩
  accF D (owner a s) (i 0) a 3 (accIx s ⟨(i 1).val % 16, Nat.mod_lt _ (by decide)⟩ (i 2))

/-! ## The cells -/

/-- A phase of a lane: a step of the halving or of the gathering. -/
abbrev Ph := Fin 3 ⊕ Fin 3
/-- Its place in the order of the phases. -/
def ord : Ph → ℕ | .inl j => j.val | .inr j => j.val + 3
/-- The dimension it crosses. -/
def dimPh (l : Lane) : Ph → Fin 3 | .inl j => dimOf l.2 j | .inr j => dimOf l.2 (agLvl j)
/-- A phase's place among the six. -/
def phIx : Ph → Fin 6 | .inl j => rsPh j | .inr j => agPh j
/-- The device it sends to. -/
abbrev peer (c : Dev nD) (l : Lane) (p : Ph) : Dev nD := partner (dimPh l p) c

/-- A device's semaphores: the barrier's, the three fetches', each lane's and phase's for sending, and for receiving. -/
abbrev CK := Unit ⊕ (Fin 3 ⊕ ((Lane × Ph) ⊕ (Lane × Ph)))
/-- The semaphore of a kind of cell. -/
def sm : CK → SemLoc sig
  | .inl _ => .reg bsem
  | .inr (.inl k) => .dma (csem k)
  | .inr (.inr (.inl (l, p))) => .dma (ssem l.1 l.2 (phIx p))
  | .inr (.inr (.inr (l, p))) => .dma (rsem l.1 l.2 (phIx p))

abbrev kB : CK := .inl ()
abbrev kC (k : Fin 3) : CK := .inr (.inl k)
abbrev kS (l : Lane) (p : Ph) : CK := .inr (.inr (.inl (l, p)))
abbrev kR (l : Lane) (p : Ph) : CK := .inr (.inr (.inr (l, p)))

instance : DecidableEq ((Lane × Ph) ⊕ (Lane × Ph)) := inferInstance
instance : DecidableEq (Fin 3 ⊕ ((Lane × Ph) ⊕ (Lane × Ph))) := inferInstance
instance : DecidableEq CK := inferInstance
instance (k k' : CK) : Decidable (sm k = sm k' → k = k') := inferInstance
/-- Different kinds of cell have different semaphores. -/
theorem sm_inj : ∀ k k' : CK, sm k = sm k' → k = k' := by decide +kernel

open Classical in
/-- Which of a device's semaphores a location is. -/
def keyOf (s : SemLoc sig) : Option CK := if h : ∃ k, sm k = s then some h.choose else none
/-- The kind of cell that a cell's semaphore belongs to is that cell's. -/
theorem keyOf_sm (k : CK) : keyOf (sm k) = some k := by
  have h : ∃ k', sm k' = sm k := ⟨k, rfl⟩
  unfold keyOf
  rw [dif_pos h, sm_inj _ _ h.choose_spec]

abbrev cell (c : Dev nD) (k : CK) : GSem nD τ sig := ((c : Thread nD τ), sm k)

/-! ## Amounts -/

/-- The credit of one copy of a phase. -/
def amtP : Ph → ℕ
  | .inl j => (commV 0 0 j).view.dmaCredit
  | .inr _ => (agV 0 0 0 0 (by decide) 0).view.dmaCredit
/-- How many copies a phase makes. -/
def cntP : Ph → ℕ | .inl _ => 1 | .inr j => agN j
/-- The credit of a fetch. -/
def amtC : Fin 3 → ℕ | 0 => wkM.view.dmaCredit | 1 => wvM.view.dmaCredit | 2 => woM.view.dmaCredit
/-- The credit of one payment to a cell. -/
def amt : CK → ℕ
  | .inl _ => 1 | .inr (.inl k) => amtC k | .inr (.inr (.inl (_, p))) => amtP p | .inr (.inr (.inr (_, p))) => amtP p
/-- How many payments a cell gets. -/
def cntK : CK → ℕ
  | .inl _ => 3 | .inr (.inl _) => 1 | .inr (.inr (.inl (_, p))) => cntP p | .inr (.inr (.inr (_, p))) => cntP p
/-- A cell's duties. -/
def dutyK (k : CK) : Finset Duty := Finset.univ.filter fun d => d.val < cntK k

/-- A cell has as many duties as it gets payments. -/
theorem dutyK_card : ∀ k, (dutyK k).card = cntK k := by decide +kernel
/-- A halving step's block isn't empty. -/
theorem hSrs' : ∀ j : Fin 3, 0 < (Srs j).numel := by decide
/-- A phase's copies carry credit. -/
theorem amtP_pos : ∀ p, 0 < amtP p
  | .inl j => View.dmaCredit_pos _ (hSrs' j)
  | .inr _ => View.dmaCredit_pos _ (by decide)
/-- A fetch carries credit. -/
theorem amtC_pos : ∀ k, 0 < amtC k
  | 0 => View.dmaCredit_pos _ (by decide) | 1 => View.dmaCredit_pos _ (by decide) | 2 => View.dmaCredit_pos _ (by decide)
/-- Every payment carries credit. -/
theorem amt_pos : ∀ k, 0 < amt k
  | .inl _ => Nat.one_pos | .inr (.inl k) => amtC_pos k | .inr (.inr (.inl (_, p))) => amtP_pos p | .inr (.inr (.inr (_, p))) => amtP_pos p

/-- A halving step's landing place has the credit of its phase, in every lane. -/
theorem commV_credit : ∀ (g : Fin 4) (a : Fin 2) (j : Fin 3), (commV g a j).view.dmaCredit = amtP (.inl j) := by
  intro g a j; fin_cases g <;> fin_cases a <;> rfl
/-- The half a step sends has the credit of its phase, in every lane. -/
theorem sendV_credit : ∀ (g : Fin 4) (a : Fin 2) (j : Fin 3) (c : Dev nD), (sendV g a j c).view.dmaCredit = amtP (.inl j) := by
  intro g a j c; fin_cases g <;> fin_cases a <;> rfl
/-- A block of a gathering step has the credit of its phase, in every lane. -/
theorem agV_credit (g : Fin 4) (a : Fin 2) (j : Fin 3) (k : Fin 4) (h : k.val < agN j) (c : Dev nD) (j' : Fin 3) :
    (agV g a j k h c).view.dmaCredit = amtP (.inr j') := rfl

/-! ## What the phases hand over -/

/-- Where a phase of `c` lands on its peer: the peer's elements, at any contents. -/
def Dst (c : Dev nD) (l : Lane) : Ph → sProp 𝕄
  | .inl j => anyOn ((peer c l (.inl j) : Dev nD) : Thread nD τ) (commM l.1 l.2) (commR j).set
  | .inr j => bigSep (agIx j) fun k => anyOn ((peer c l (.inr j) : Dev nD) : Thread nD τ) outM (regR l.1 l.2 (agSl l.2 j k c)).set

/-- What the device across dimension `d` hands `c` at the barrier: where `c`'s phases across `d` land. -/
def barPay (c : Dev nD) (d : ℕ) : sProp 𝕄 := bigSep Finset.univ fun x : Lane × Ph => if (dimPh x.1 x.2).val = d then Dst (F := F) c x.1 x.2 else iprop(emp)

/-- A fetch's: the fetched weights and their source, back. -/
def fetchPay (c : Dev nD) : Fin 3 → sProp 𝕄
  | 0 => iprop(owns (c : Thread nD τ) wkM fullShare (D.wk c) ∗ owns (c : Thread nD τ) (wkSrc c) fullShare (D.wk c))
  | 1 => iprop(owns (c : Thread nD τ) wvM fullShare (D.wv c) ∗ owns (c : Thread nD τ) (wvSrc c) fullShare (D.wv c))
  | 2 => iprop(owns (c : Thread nD τ) woM fullShare (D.wo c) ∗ owns (c : Thread nD τ) woSrc fullShare (D.wo c))

/-- A send's: its source, back. -/
def sendPay (c : Dev nD) (l : Lane) (d : Duty) : Ph → sProp 𝕄
  | .inl j => anyOn (c : Thread nD τ) (accM l.1 l.2) (sendR l.2 j c).set
  | .inr j => heldOn (c : Thread nD τ) outM (regR l.1 l.2 (agSl l.2 j d c)).set (outF D)

/-- A receive's: what the peer had, landed. -/
def recvPay (c : Dev nD) (l : Lane) (d : Duty) : Ph → sProp 𝕄
  | .inl j => owns (c : Thread nD τ) (commV l.1 l.2 j) fullShare fun y => accF D (peer c l (.inl j)) l.1 l.2 j.val ((keepR l.2 j c).emb y)
  | .inr j => heldOn (c : Thread nD τ) outM (regR l.1 l.2 (agSl l.2 j d (peer c l (.inr j)))).set (outF D)

instance Dst_storable (c : Dev nD) (l : Lane) (p : Ph) : BI.Storable (upEmb : UEmb _ 𝕄) (Dst (F := F) c l p) := by
  cases p <;> unfold Dst <;> infer_instance
instance barPay_storable (c : Dev nD) (d : ℕ) : BI.Storable (upEmb : UEmb _ 𝕄) (barPay (F := F) c d) := by
  unfold barPay
  have : ∀ x : Lane × Ph, BI.Storable (upEmb : UEmb _ 𝕄) (if (dimPh x.1 x.2).val = d then Dst (F := F) c x.1 x.2 else iprop(emp)) := fun x => by
    split <;> infer_instance
  infer_instance
instance fetchPay_storable (c : Dev nD) (k : Fin 3) : BI.Storable (upEmb : UEmb _ 𝕄) (fetchPay D c k) := by
  fin_cases k <;> unfold fetchPay <;> infer_instance
instance sendPay_storable (c : Dev nD) (l : Lane) (d : Duty) (p : Ph) : BI.Storable (upEmb : UEmb _ 𝕄) (sendPay D c l d p) := by
  cases p <;> unfold sendPay <;> infer_instance
instance recvPay_storable (c : Dev nD) (l : Lane) (d : Duty) (p : Ph) : BI.Storable (upEmb : UEmb _ 𝕄) (recvPay D c l d p) := by
  cases p <;> unfold recvPay <;> infer_instance

/-! ## The schedule -/

/-- What a duty pays to a cell of device `c`. -/
def payK (c : Dev nD) (d : Duty) : CK → sProp 𝕄
  | .inl _ => barPay (F := F) c d.val
  | .inr (.inl k) => fetchPay D c k
  | .inr (.inr (.inl (l, p))) => sendPay D c l d p
  | .inr (.inr (.inr (l, p))) => recvPay D c l d p

instance payK_storable (c : Dev nD) (d : Duty) (k : CK) : BI.Storable (upEmb : UEmb _ 𝕄) (payK D c d k) := by
  rcases k with _ | k | ⟨l, p⟩ | ⟨l, p⟩ <;> unfold payK <;> infer_instance

/-- One round: each cell with its duties, amount and payloads. -/
def Rd : Rounds.Schedule (GSem nD τ sig) Duty 𝕄 where
  duties g r := if r = 0 ∧ g.1.2 = .tc then (keyOf g.2).elim ∅ dutyK else ∅
  unitless _ := False
  amount g _ _ := (keyOf g.2).elim 1 amt
  payload g _ d := (keyOf g.2).elim iprop(emp) (payK D g.1.1 d)
  amount_pos g _ _ _ := by
    cases keyOf g.2 with
    | none => exact Nat.one_pos
    | some k => exact amt_pos k

instance Rd_storable (g : GSem nD τ sig) (r : ℕ) (d : Duty) : BI.Storable (upEmb : UEmb _ 𝕄) ((Rd D).payload g r d) := by
  show BI.Storable upEmb ((keyOf g.2).elim iprop(emp) (payK D g.1.1 d))
  cases keyOf g.2 with
  | none => exact (inferInstance : BI.Storable upEmb (iprop(emp) : sProp 𝕄))
  | some k => exact payK_storable D g.1.1 d k

/-- The duties of a cell's round. -/
theorem Rd_duties (c : Dev nD) (k : CK) : (Rd D).duties (cell c k) 0 = dutyK k := by
  show (if 0 = 0 ∧ (cell c k).1.2 = .tc then (keyOf (sm k)).elim ∅ dutyK else ∅) = _
  rw [if_pos ⟨rfl, rfl⟩, keyOf_sm]; rfl
/-- There are no duties past the first round. -/
theorem Rd_later (g : GSem nD τ sig) : ∀ r, 1 ≤ r → (Rd D).duties g r = ∅ := fun r hr => if_neg fun h => by omega
/-- The credit of a duty. -/
theorem Rd_amount (c : Dev nD) (k : CK) (r : ℕ) (d : Duty) : (Rd D).amount (cell c k) r d = amt k := by
  show (keyOf (sm k)).elim 1 amt = _
  rw [keyOf_sm]; rfl
/-- What a duty pays. -/
theorem Rd_payload (c : Dev nD) (k : CK) (r : ℕ) (d : Duty) : (Rd D).payload (cell c k) r d = payK D c d k := by
  show (keyOf (sm k)).elim iprop(emp) (payK D c d) = _
  rw [keyOf_sm]; rfl
/-- The credit a cell's round expects in all. -/
theorem Rd_expect (c : Dev nD) (k : CK) : (Rd D).expect (cell c k) 0 = cntK k * amt k := by
  unfold Schedule.expect Schedule.amountOf
  rw [Rd_duties, Finset.sum_congr rfl fun d _ => Rd_amount D c k 0 d, Finset.sum_const, dutyK_card, smul_eq_mul]

/-! ## The levels -/

/-- The obligations of a semaphore: one on a device's core, none elsewhere. -/
def L (g : GSem nD τ sig) : Finset Unit := if g.1.2 = .tc then {()} else ∅
/-- The barrier at 1, a phase's receive cell by its place in the order, everything else at 0. -/
def lvK : CK → ℕ | .inl _ => 1 | .inr (.inr (.inr (_, p))) => ord p + 2 | _ => 0
/-- The level of a semaphore's obligation. -/
def lv (g : GSem nD τ sig) (_ : Unit) : ℕ := (keyOf g.2).elim 0 lvK

/-- A semaphore not on a device's core has no obligation. -/
theorem L_of_ne (g : GSem nD τ sig) (h : g.1.2 ≠ .tc) : L g = ∅ := if_neg h
/-- A semaphore on a device's core has one obligation. -/
theorem L_tc (c : Dev nD) (s : SemLoc sig) : L ((c : Thread nD τ), s) = {()} := if_pos rfl
/-- A cell's obligation is at the level of its kind. -/
theorem lv_cell (c : Dev nD) (k : CK) (u : Unit) : lv (cell c k) u = lvK k := by
  show (keyOf (sm k)).elim 0 lvK = _
  rw [keyOf_sm]; rfl

/-! ## What a device owes -/

/-- A phase's whole credit. -/
def totP (p : Ph) : ℕ := cntP p * amtP p
/-- What a device still owes its peers' receive cells when lane `l` has issued its first `f l` phases. -/
def owed (c : Dev nD) (f : Lane → ℕ) : CellTallies nD τ sig Unit :=
  ∑ x : Lane × Ph, if f x.1 ≤ ord x.2 then tallyAt (cell (peer c x.1 x.2) (kR x.1 x.2)) () (totP x.2) else 0
/-- What it owes its neighbours' barrier cells. -/
def owedB (c : Dev nD) (k : Fin 3) : CellTallies nD τ sig Unit := tallyAt (cell (partner k c) kB) () 1
/-- What a device owes at launch: all phases, and its three neighbours' barriers. -/
def O₀ (c : Dev nD) : CellTallies nD τ sig Unit := owed c (fun _ => 0) + owedB c 2 + owedB c 1 + owedB c 0

/-- Different phases have different places in the order. -/
theorem ord_inj : ∀ p q : Ph, ord p = ord q → p = q := by decide

/-- Issuing a lane's next phase pays its credit. -/
theorem owed_step (c : Dev nD) (f f' : Lane → ℕ) (l : Lane) (p : Ph) (hl : f l = ord p) (hl' : f' l = ord p + 1) (ho : ∀ l', l' ≠ l → f' l' = f l') :
    owed c f = owed c f' + tallyAt (cell (peer c l p) (kR l p)) () (totP p) := by
  classical
  unfold owed
  rw [← Finset.add_sum_erase _ _ (Finset.mem_univ (l, p)), ← Finset.add_sum_erase _ (fun x : Lane × Ph => if f' x.1 ≤ ord x.2 then _ else _) (Finset.mem_univ (l, p))]
  dsimp only
  rw [if_pos (le_of_eq hl), if_neg (by omega), zero_add, add_comm]
  congr 1
  refine Finset.sum_congr rfl fun x hx => ?_
  have hne := Finset.ne_of_mem_erase hx
  refine if_congr ?_ rfl rfl
  by_cases h : x.1 = l
  · rw [h, hl, hl']
    have : ord x.2 ≠ ord p := fun e => hne (Prod.ext h (ord_inj _ _ e))
    omega
  · rw [ho _ h]

/-- A single tally counts only at its own cell. -/
theorem tally_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

/-- Whatever a device owes belongs to the receive cell of a phase not yet issued. -/
theorem owed_pos {c : Dev nD} {f : Lane → ℕ} {g : GSem nD τ sig} {u : Unit} (h : 0 < owed c f g u) :
    ∃ l p, f l ≤ ord p ∧ g = cell (peer c l p) (kR l p) := by
  unfold owed at h
  rw [Finset.sum_apply, Finsupp.finsetSum_apply] at h
  obtain ⟨x, -, hx⟩ := Finset.exists_ne_zero_of_sum_ne_zero (Nat.pos_iff_ne_zero.mp h)
  refine ⟨x.1, x.2, ?_⟩
  by_cases hf : f x.1 ≤ ord x.2
  · rw [if_pos hf] at hx
    exact ⟨hf, tally_pos (Nat.pos_of_ne_zero hx)⟩
  · rw [if_neg hf] at hx
    exact absurd rfl hx

/-- A wait below the level of everything owed is allowed. -/
theorem mayWait_owed (c : Dev nD) (k : CK) (f : Lane → ℕ) (hf : ∀ l, lvK k < f l + 2) :
    (levAts L lv : sProp 𝕄) ⊢ MayWait (c : Thread nD τ) (sm k) () (owed c f) := by
  refine MayOwe.of_cut (L := L) (lev := lv) (lvK k) (fun p hp => by rw [Finset.mem_singleton.mp hp, L_tc]; exact Finset.mem_singleton_self _)
    (fun g u hg => by obtain ⟨l, p, -, rfl⟩ := owed_pos hg; rw [L_tc]; exact Finset.mem_singleton_self _)
    (fun p hp => by rw [Finset.mem_singleton.mp hp]; exact le_of_eq (lv_cell c k ()))
    (fun g u hg => by
      obtain ⟨l, p, hp, rfl⟩ := owed_pos hg
      have := hf l
      rw [lv_cell]; show lvK k < ord p + 2; omega)

end Cert.Hyper

end
-- ==== Proof.Steps.lean ====
/-
The steps of the protocol: a wait that takes part of a cell's round or the rest of it, a signal at the barrier, a fetch, and the
transfers of the halving and of the gathering.
-/
module

public import proofs.«01_k».proof.Proof.Sched

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Two more facts of owning -/

section Owns

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {c : Thread nD τ} {sp : Space} {sh : Shape} {e : EltTy} {m : Memref sig c.2.kind sp sh e}

/-- A slice owned is its indices held at contents that read there what the slice reads. -/
theorem owns_slice_held (r : Rect sh) (hr) (V : r.shape.Idx → Val e) :
    (owns c (m.slice r hr) fullShare V : sProp 𝕄) ⊢ iprop(∃ X, ⌜∀ y, X (r.emb y) = V y⌝ ∗ heldOn c m r.set X) := by
  iintro H
  unfold owns
  icases H with ⟨%f, %hf, H⟩
  iexists (m.view.read Val f)
  isplitr; · ipureintro; exact fun y => congrFun hf y
  unfold heldOn
  iexists f
  isplitr; · ipureintro; exact fun i _ => rfl
  iapply (Entails.of_eq (congrArg (fun S => (m.view.loc c ↦[S]{fullShare} f : sProp 𝕄)) (View.set_slice m.view r)))
  iexact H

/-- Owning a memref is owning it with its axes of extent one dropped. -/
theorem owns_squeeze (s' : Shape) (h : sh.Squeezes s') (X : sh.Idx → Val e) :
    (owns c (m.squeeze s' h) fullShare (fun y => X (Shape.reshapeEquiv h.numel_eq y)) : sProp 𝕄) = owns c m fullShare X := by
  refine eq_of_entails ?_ ?_
  · unfold owns
    iintro ⟨%f, %hf, H⟩
    iexists f
    isplitr
    · ipureintro
      funext i
      have := congrFun hf ((Shape.reshapeEquiv h.numel_eq).symm i)
      rw [Equiv.apply_symm_apply] at this
      rw [← this]
      show m.view.read Val f i = m.view.read Val f (Shape.reshapeEquiv h.numel_eq ((Shape.reshapeEquiv h.numel_eq).symm i))
      rw [Equiv.apply_symm_apply]
    iapply (Entails.of_eq (congrArg (fun S => (m.view.loc c ↦[S]{fullShare} f : sProp 𝕄)) (View.set_reshape (s' := s') m.view h.numel_eq)))
    iexact H
  · unfold owns
    iintro ⟨%f, %hf, H⟩
    iexists f
    isplitr; · ipureintro; exact funext fun y => congrFun hf (Shape.reshapeEquiv h.numel_eq y)
    iapply (Entails.of_eq (congrArg (fun S => (m.view.loc c ↦[S]{fullShare} f : sProp 𝕄)) (View.set_reshape (s' := s') m.view h.numel_eq).symm))
    iexact H

end Owns

variable {F : FTy → Type} [FloatOps F]

local notation "𝕄" => MT nD τ sig Unit (Elt F) ℕ UU ℕ

variable (D : Data F) (K : Dev nD × CK → ℕ)

abbrev 𝒱₀ : Variants := Variants.none

/-- Device `c` runs `p` to `Q`. -/
abbrev run (c : Dev nD) {α : Type} (p : TcProg F α) (Q : α → sProp 𝕄) : sProp 𝕄 :=
  wp frame (wpE (defs₀ (F := F)) 𝒱₀ (c : Thread nD τ) none) Set.univ p Q

/-- Running one program after another. -/
theorem run_seq {c : Dev nD} {α : Type} {p : TcProg F PUnit} {k : PUnit → TcProg F α} {P Q : sProp 𝕄} {R : α → sProp 𝕄}
    (h : P ⊢ run c p fun _ => Q) : P ⊢ iprop((Q -∗ run c (k ⟨⟩) R) -∗ run c (p >>= k) R) := by
  iintro HP Hk
  iapply (Entails.of_eq (wp_bind frame (wpE (defs₀ (F := F)) 𝒱₀ (c : Thread nD τ) none) Set.univ p k R).symm)
  iapply (wp_wand frame (wpE (defs₀ (F := F)) 𝒱₀ (c : Thread nD τ) none) Set.univ (Q := fun _ => Q)) $$ [HP]
  · iapply h; iexact HP
  iintro %u HQ
  iapply Hk; iexact HQ

/-! ## The cells' records -/

/-- Every cell's invariant, that it has reached its round, and the levels. -/
def records : sProp 𝕄 :=
  iprop((bigSep Finset.univ fun x : Dev nD × CK => cellInv ER (Rd D) (K x) (cell x.1 x.2))
    ∗ (bigSep Finset.univ fun x : Dev nD × CK => reached ER (cell x.1 x.2) 0) ∗ levAts L lv)

instance records_persistent : BI.Persistent (records D K) := by unfold records; infer_instance

/-- The records hold every cell's invariant. -/
theorem rec_inv (c : Dev nD) (k : CK) : records D K ⊢ cellInv ER (Rd D) (K (c, k)) (cell c k) := by
  unfold records
  iintro ⟨H, -, -⟩
  iapply (show (bigSep Finset.univ fun x : Dev nD × CK => (cellInv ER (Rd D) (K x) (cell x.1 x.2) : sProp 𝕄)) ⊢ cellInv ER (Rd D) (K (c, k)) (cell c k) from
    bigSep_elim (Finset.mem_univ (c, k)))
  iexact H
/-- The records say that every cell has reached its first round. -/
theorem rec_reached (c : Dev nD) (k : CK) : records D K ⊢ reached ER (cell c k) 0 := by
  unfold records
  iintro ⟨-, H, -⟩
  iapply (show (bigSep Finset.univ fun x : Dev nD × CK => (reached ER (cell x.1 x.2) 0 : sProp 𝕄)) ⊢ reached ER (cell c k) 0 from
    bigSep_elim (Finset.mem_univ (c, k)))
  iexact H
/-- The records hold the levels. -/
theorem rec_lev : records D K ⊢ levAts L lv := by
  unfold records; iintro ⟨-, -, H⟩; iexact H

/-- What device `c` owes, whatever it has waited on. -/
def owing (c : Dev nD) (O : CellTallies nD τ sig Unit) : sProp 𝕄 := iprop(∃ W, owes (c : Thread nD τ) O W)

/-! ## Waits -/

/-- The owner's place in a cell's round after taking in `i` copies' credit: some of the payloads are out. -/
def part_ (c : Dev nD) (k : CK) (i : ℕ) : sProp 𝕄 :=
  iprop(∃ S : Finset Duty, ⌜S ⊆ dutyK k⌝ ∗ atPos ER (cell c k) 0 S (i * amt k) ∗ bigSep S fun d => payK D c d k)

/-- A closed round: its payloads are out. -/
abbrev doneK (c : Dev nD) (k : CK) : sProp 𝕄 := atPos ER (cell c k) (0 + 1) ∅ 0

/-- A cell's owner at the start has taken in no credit. -/
theorem part_zero (c : Dev nD) (k : CK) : (atPos ER (cell c k) 0 ∅ 0 : sProp 𝕄) ⊢ part_ D c k 0 := by
  unfold part_
  iintro H
  iexists (∅ : Finset Duty)
  isplitr; · ipureintro; exact Finset.empty_subset _
  rw [Nat.zero_mul]
  isplitl [H]; · iexact H
  iapply (Entails.of_eq (bigSep_empty (Φ := fun d => payK D c d k)).symm)
  iempintro

/-- A separating conjunction over part of a set and over the rest is one over the set. -/
theorem join_sdiff {S T : Finset Duty} (h : S ⊆ T) (Φ : Duty → sProp 𝕄) : iprop(bigSep S Φ ∗ bigSep (T \ S) Φ) = bigSep T Φ :=
  (bigSep_union Finset.disjoint_sdiff).symm.trans (by rw [Finset.union_sdiff_of_subset h])

/-- The last wait on a cell: all its payloads. -/
theorem wait_last {c : Dev nD} {α : Type} {Q : α → sProp 𝕄} {w : TpuEff nD τ sig (Elt F) Λ₀ .tc PUnit} {kont : PUnit → TcProg F α} (k : CK) {n : ℕ}
    (hw : ∀ R : PUnit → sProp 𝕄, wpE (defs₀ (F := F)) 𝒱₀ (c : Thread nD τ) none Set.univ w R = waitSpec (c : Thread nD τ) Set.univ (sm k) n R)
    (i : ℕ) (hn : i * amt k + n = cntK k * amt k) (f : Lane → ℕ) (hf : ∀ l, lvK k < f l + 2) :
    iprop(records D K ∗ cred (tallyAt (cell c k) () n) ∗ owing c (owed c f) ∗ part_ D c k i)
      ⊢ iprop(((owing c (owed c f) ∗ doneK c k ∗ bigSep (dutyK k) fun d => payK D c d k) -∗ run c (kont ⟨⟩) Q) -∗ run c (.op w kont) Q) := by
  unfold owing part_
  iintro ⟨#HR, Hc, ⟨%W, HO⟩, %S, %hS, Hat, Hp⟩ Hk
  iapply (Rounds.wp_wait_rest_token 𝒱₀ ER (Rd D) (c : Thread nD τ) none (κ := K (c, k)) hw (Set.mem_univ _) () (O := owed c f) (W := W) (R := 0) (m := i * amt k) (T := S)
      (hn.trans (Rd_expect D c k).symm)) $$ [Hc HO Hat]
  · isplitr; · iapply (rec_inv D K c k); iexact HR
    isplitl [Hc]; · iexact Hc
    isplitl [HO]; · iexact HO
    isplitr; · iapply (mayWait_owed c k f hf); iapply (rec_lev D K); iexact HR
    iexact Hat
  iintro ⟨HO, Hat, -, Hq⟩
  iapply Hk
  isplitl [HO]; · iexists _; iexact HO
  isplitl [Hat]; · iexact Hat
  iapply (Entails.of_eq (join_sdiff hS fun d => payK D c d k))
  isplitl [Hp]; · iexact Hp
  iapply (Entails.of_eq (show bigSep ((Rd D).duties (cell c k) 0 \ S) (fun d => (Rd D).payload (cell c k) 0 d) = bigSep (dutyK k \ S) fun d => payK D c d k by
    rw [Rd_duties]; exact bigSep_congr fun d _ => Rd_payload D c k 0 d))
  iexact Hq

/-- A wait before the last. -/
theorem wait_more {c : Dev nD} {α : Type} {Q : α → sProp 𝕄} {w : TpuEff nD τ sig (Elt F) Λ₀ .tc PUnit} {kont : PUnit → TcProg F α} (k : CK)
    (hw : ∀ R : PUnit → sProp 𝕄, wpE (defs₀ (F := F)) 𝒱₀ (c : Thread nD τ) none Set.univ w R = waitSpec (c : Thread nD τ) Set.univ (sm k) (amt k) R)
    (i : ℕ) (f : Lane → ℕ) (hf : ∀ l, lvK k < f l + 2) :
    iprop(records D K ∗ cred (tallyAt (cell c k) () (amt k)) ∗ owing c (owed c f) ∗ part_ D c k i)
      ⊢ iprop(((owing c (owed c f) ∗ part_ D c k (i + 1)) -∗ run c (kont ⟨⟩) Q) -∗ run c (.op w kont) Q) := by
  unfold owing part_
  iintro ⟨#HR, Hc, ⟨%W, HO⟩, %S, %hS, Hat, Hp⟩ Hk
  iapply (Rounds.wp_wait 𝒱₀ ER (Rd D) (c : Thread nD τ) none (κ := K (c, k)) hw (Set.mem_univ _) (cr := Finsupp.single () (amt k)) (O := owed c f) (W := W) {(sm k, ())} (R := 0) (m := i * amt k) (T := S)
      (by rw [Util.total_single]) (image_single_subset (sm k) () (amt k))) $$ [Hc HO Hat]
  · isplitr; · iapply (rec_inv D K c k); iexact HR
    isplitl [Hc]; · iexact Hc
    isplitl [HO]; · iexact HO
    isplitr; · iapply (mayWait_owed c k f hf); iapply (rec_lev D K); iexact HR
    iexact Hat
  iintro %S' ⟨%hS', HO, Hat, Hq⟩
  iapply Hk
  isplitl [HO]; · iexists _; iexact HO
  iexists S'
  isplitr; · ipureintro; rw [← Rd_duties D c k]; exact hS'.2.1
  isplitl [Hat]; · rw [Nat.succ_mul]; iexact Hat
  iapply (Entails.of_eq (join_sdiff hS'.1 fun d => payK D c d k))
  isplitl [Hp]; · iexact Hp
  iapply (Entails.of_eq (show bigSep (S' \ S) (fun d => (Rd D).payload (cell c k) 0 d) = bigSep (S' \ S) fun d => payK D c d k from
    bigSep_congr fun d _ => Rd_payload D c k 0 d))
  iexact Hq

/-! ## The barrier -/

/-- Each dimension is a duty of the barrier's cell. -/
theorem mem_bar (k : Fin 3) : (Fin.castSucc k : Duty) ∈ dutyK kB := by revert k; decide

/-- A signal at the barrier of the neighbour across `k`: it hands over where that neighbour's phases land here. -/
theorem announce_spec (c : Dev nD) (k : Fin 3) (O : CellTallies nD τ sig Unit) :
    iprop(records D K ∗ owing c (O + owedB c k) ∗ dutyTok ER (cell (partner k c) kB) 0 (Fin.castSucc k) ∗ barPay (F := F) (partner k c) k.val)
      ⊢ run c (announce (F := F) k c) fun _ => owing c O := by
  unfold owing announce semSignalWord
  iintro ⟨#HR, ⟨%W, HO⟩, Ht, Hp⟩
  iapply (Rounds.wp_signal 𝒱₀ ER (Rd D) (c : Thread nD τ) none (dst := ((partner k c : Dev nD) : Thread nD τ)) (κ := K (partner k c, kB))
      (d := Fin.castSucc k) (r := 0) (k' := 1) (by rw [show (((partner k c : Dev nD) : Thread nD τ), SemLoc.reg bsem) = cell (partner k c) kB from rfl, Rd_duties]; exact mem_bar k)
      (Rd_amount D (partner k c) kB 0 _) () O rfl) $$ [HO Ht Hp]
  · isplitr; · iapply (rec_inv D K (partner k c) kB); iexact HR
    isplitl [HO]; · iexact HO
    isplitl [Ht]; · iexact Ht
    isplitl [Hp]
    · iapply (show barPay (F := F) (partner k c) k.val ⊢ (Rd D).payload (((partner k c : Dev nD) : Thread nD τ), SemLoc.reg bsem) 0 (Fin.castSucc k) from
        Entails.of_eq (Rd_payload D (partner k c) kB 0 (Fin.castSucc k)).symm); iexact Hp
    iapply (rec_reached D K (partner k c) kB); iexact HR
  iintro HO
  rw [wp_ret]; imodintro
  iexists W; iexact HO

end Cert.Hyper

end
-- ==== Proof.Lane.lean ====
/-
The steps of a lane: issuing a phase of the halving, taking it in, putting the owned block in the result, issuing a phase of the
gathering and waiting for it.
-/
module

public import proofs.«01_k».proof.Proof.Steps
public import Idealize.ShloMosaic.Lib.Pipeline.Value

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CK → ℕ)

/-! ## A phase's ghost state -/

/-- The tokens of the duties a device pays in a phase: its own send's, its peer's receive's. -/
def toksP (c : Dev nD) (l : Lane) (p : Ph) : sProp 𝕄 :=
  bigSep (dutyK (kS l p)) fun d => iprop(dutyTok ER (cell c (kS l p)) 0 d ∗ dutyTok ER (cell (peer c l p) (kR l p)) 0 d)
/-- The owner's places in the phase's two cells, at the start. -/
def atP (c : Dev nD) (l : Lane) (p : Ph) : sProp 𝕄 := iprop(atPos ER (cell c (kS l p)) 0 ∅ 0 ∗ atPos ER (cell c (kR l p)) 0 ∅ 0)
/-- A phase not issued: the tokens, where it lands, the credit of what will arrive. -/
def Un (c : Dev nD) (l : Lane) (p : Ph) : sProp 𝕄 :=
  iprop(toksP (F := F) c l p ∗ Dst (F := F) c l p ∗ cred (tallyAt (cell c (kR l p)) () (totP p)) ∗ atP (F := F) c l p)
/-- A phase in flight. -/
def Fl (c : Dev nD) (l : Lane) (p : Ph) : sProp 𝕄 :=
  iprop(cred (tallyAt (cell c (kS l p)) () (totP p)) ∗ cred (tallyAt (cell c (kR l p)) () (totP p)) ∗ atP (F := F) c l p)
/-- A phase done. -/
def Dn (c : Dev nD) (l : Lane) (p : Ph) : sProp 𝕄 := iprop(doneK (F := F) c (kS l p) ∗ doneK (F := F) c (kR l p))

abbrev accL (l : Lane) := accM l.1 l.2
abbrev commL (l : Lane) := commM l.1 l.2

/-- A lane's accumulator at level `t`. -/
def accHeld (c : Dev nD) (l : Lane) (t s : ℕ) : sProp 𝕄 := heldOn (c : Thread nD τ) (accL l) (accS l.2 t c) (accF D c l.1 l.2 s)

/-- A halving step has one duty. -/
theorem duty_rs : ∀ (l : Lane) (j : Fin 3), dutyK (kS l (.inl j)) = {0} := by decide
/-- A halving step's peer is the device across the step's level. -/
theorem across_peer (c : Dev nD) (l : Lane) (j : Fin 3) : peer c l (.inl j) = across l.2 j c := rfl

/-- A halving step's whole credit is that of its single copy. -/
theorem tot_rs (j : Fin 3) : totP (.inl j) = amtP (.inl j) := Nat.one_mul _

/-! ## The halving -/

/-- What `c` sends at step `j` is what its peer's schedule says it gets. -/
theorem recv_rs (c c' : Dev nD) (l : Lane) (j : Fin 3) (h : c = peer c' l (.inl j)) :
    (owns ((c' : Dev nD) : Thread nD τ) (commV l.1 l.2 j) fullShare (fun y => accF D c l.1 l.2 j.val ((sendR l.2 j c).emb y)) : sProp 𝕄)
      ⊢ (Rd D).payload ((c' : Thread nD τ), SemLoc.dma (rsem l.1 l.2 (rsPh j))) 0 0 := by
  subst h
  refine (Entails.of_eq ?_).trans (Entails.of_eq (Rd_payload D c' (kR l (.inl j)) 0 0).symm)
  show _ = owns ((c' : Dev nD) : Thread nD τ) (commV l.1 l.2 j) fullShare _
  congr 1
  exact funext fun y => congrArg _ (sendR_emb l.2 j c' y)

/-- Issuing step `j`: the half sent leaves the accumulator. -/
theorem rsIssue_spec (c : Dev nD) (l : Lane) (j : Fin 3) (O : CellTallies nD τ sig Unit) :
    iprop(records D K ∗ Un (F := F) c l (.inl j) ∗ accHeld D c l j.val j.val ∗ owing c (O + tallyAt (cell (peer c l (.inl j)) (kR l (.inl j))) () (totP (.inl j))))
      ⊢ run c (rsIssue (F := F) l.1 l.2 j c) fun _ => iprop(Fl (F := F) c l (.inl j) ∗ accHeld D c l (j.val + 1) j.val ∗ owing c O) := by
  unfold owing Un accHeld toksP Fl Dst
  rw [duty_rs, bigSep_singleton, tot_rs]
  iintro ⟨#HR, ⟨⟨Ht1, Ht2⟩, Hd, Hc, Hat⟩, Ha, %W, HO⟩
  rw [accS_split]
  ihave Ha := (Entails.of_eq (heldOn_union (accS_disj l.2 j c) _)) $$ Ha
  icases Ha with ⟨Hkeep, Hsend⟩
  ihave Hsend := (Entails.of_eq (heldOn_slice (c := (c : Thread nD τ)) (m := accL l) (sendR l.2 j c) (fun _ => rfl) (accF D c l.1 l.2 j.val))) $$ Hsend
  unfold rsIssue Prog.lift
  iapply (wp_send_owns (D := Duty) 𝒱₀ (c : Thread nD τ) none Set.univ (E := ER) (Rd := Rd D) (c' := ((peer c l (.inl j) : Dev nD) : Thread nD τ))
      (src := sendV l.1 l.2 j c) (dst := commV l.1 l.2 j) (sS := .dma (ssem l.1 l.2 (rsPh j))) (sem := .dma (rsem l.1 l.2 (rsPh j)))
      (κ₁ := K (c, kS l (.inl j))) (κ₂ := K (peer c l (.inl j), kR l (.inl j))) (r₁ := 0) (r₂ := 0) (d₁ := 0) (d₂ := 0)
      (X := fun y => accF D c l.1 l.2 j.val ((sendR l.2 j c).emb y))
      (by rw [show ((c : Thread nD τ), SemLoc.dma (ssem l.1 l.2 (rsPh j))) = cell c (kS l (.inl j)) from rfl, Rd_duties, duty_rs]; exact Finset.mem_singleton_self _)
      (by rw [show (((peer c l (.inl j) : Dev nD) : Thread nD τ), SemLoc.dma (rsem l.1 l.2 (rsPh j))) = cell (peer c l (.inl j)) (kR l (.inl j)) from rfl, Rd_duties]
          exact (duty_rs l j).symm ▸ Finset.mem_singleton_self _)
      () () (amtP (.inl j)) (commV_credit l.1 l.2 j) (Rd_amount D c (kS l (.inl j)) 0 0) (Rd_amount D (peer c l (.inl j)) (kR l (.inl j)) 0 0)
      O rfl (W := W)
      (((Entails.of_eq (heldOn_slice (c := (c : Thread nD τ)) (m := accL l) (sendR l.2 j c) (fun _ => rfl) (accF D c l.1 l.2 j.val)).symm).trans heldOn_any).trans
        (Entails.of_eq (Rd_payload D c (kS l (.inl j)) 0 0).symm))
      (recv_rs D c (peer c l (.inl j)) l j (partner_partner _ _).symm)) $$ [Hsend Hd HO Ht1 Ht2]
  · isplitr; · iapply (rec_inv D K c (kS l (.inl j))); iexact HR
    isplitr; · iapply (rec_inv D K (peer c l (.inl j)) (kR l (.inl j))); iexact HR
    isplitl [Hsend]; · iexact Hsend
    isplitl [Hd]
    · unfold anyOn
      icases Hd with ⟨%X, Hd⟩
      ihave Hd := (Entails.of_eq (heldOn_slice (c := ((peer c l (.inl j) : Dev nD) : Thread nD τ)) (m := commL l) (commR j) (fun _ => rfl) X)) $$ Hd
      iexists _; iexact Hd
    isplitl [HO]; · iexact HO
    isplitl [Ht1]; · iexact Ht1
    isplitr; · iapply (rec_reached D K c (kS l (.inl j))); iexact HR
    isplitl [Ht2]; · iexact Ht2
    iapply (rec_reached D K (peer c l (.inl j)) (kR l (.inl j))); iexact HR
  iintro ⟨Hcs, HO⟩
  rw [wp_ret]; imodintro
  isplitl [Hcs Hc Hat]
  · isplitl [Hcs]; · iexact Hcs
    isplitl [Hc] <;> iassumption
  isplitl [Hkeep]; · rw [← keepR_set]; iexact Hkeep
  iexists W; iexact HO

/-- A halving step adds elementwise. -/
theorem rsAdd_eq (j : Fin 3) (u v : Vec F (Srs j) .bf16) : rsAdd j u v = addf u v := shapeCast_self _ _

/-- What a step keeps: the sum of the two sides. -/
theorem accF_succ (c : Dev nD) (g : Fin 4) (a : Fin 2) (j : Fin 3) (i : S8x16x1024.Idx) :
    accF D c g a (j.val + 1) i = FloatOps.addf (accF D c g a j.val i) (accF D (across a j c) g a j.val i) := by
  have h : Fin.ofNat 3 j.val = j := by revert j; decide
  show FloatOps.addf (accF D c g a j.val i) (accF D (across a (Fin.ofNat 3 j.val) c) g a j.val i) = _
  rw [h]

/-- What a device gets back from a step: the half it sent, and the landing window, both free. -/
def junk (c : Dev nD) (l : Lane) (j : Fin 3) : sProp 𝕄 :=
  iprop(anyOn (c : Thread nD τ) (accL l) (sendR l.2 j c).set ∗ anyOn (c : Thread nD τ) (commL l) (commR j).set)

/-- What a halving step's send cell pays back: the half it sent, at any contents. -/
theorem dutyS_one (c : Dev nD) (l : Lane) (j : Fin 3) :
    (bigSep (dutyK (kS l (.inl j))) fun d => payK D c d (kS l (.inl j))) = anyOn (c : Thread nD τ) (accL l) (sendR l.2 j c).set := by
  rw [duty_rs, bigSep_singleton]; rfl
/-- What a halving step's receive cell pays: the communication slots, holding the peer's half of the partial sums. -/
theorem dutyR_one (c : Dev nD) (l : Lane) (j : Fin 3) :
    (bigSep (dutyK (kR l (.inl j))) fun d => payK D c d (kR l (.inl j)))
      = owns (c : Thread nD τ) ((commL l).slice (commR j) (fun _ => rfl)) fullShare fun y => accF D (peer c l (.inl j)) l.1 l.2 j.val ((keepR l.2 j c).emb y) := by
  rw [show dutyK (kR l (.inl j)) = {0} from duty_rs l j, bigSep_singleton]; rfl

/-- A send cell's level lies below that of every receive cell. -/
theorem lvS (l : Lane) (p : Ph) (f : Lane → ℕ) : ∀ l', lvK (kS l p) < f l' + 2 := fun l' => Nat.lt_of_lt_of_le (by decide : 0 < 2) (Nat.le_add_left _ _)

/-- Taking in step `j`. -/
theorem rsTake_spec (c : Dev nD) (l : Lane) (j : Fin 3) (f : Lane → ℕ) (hf : ∀ l', ord (.inl j) < f l') :
    iprop(records D K ∗ Fl (F := F) c l (.inl j) ∗ accHeld D c l (j.val + 1) j.val ∗ owing c (owed c f))
      ⊢ run c (rsTake (F := F) l.1 l.2 j c) fun _ =>
        iprop(Dn (F := F) c l (.inl j) ∗ accHeld D c l (j.val + 1) (j.val + 1) ∗ junk (F := F) c l j ∗ owing c (owed c f)) := by
  unfold accHeld Fl atP
  iintro ⟨#HR, ⟨Hcs, Hcr, Has, Har⟩, Ha, HO⟩
  unfold rsTake
  simp only [Prog.lift, Prog.bind_op, Prog.bind_ret, Prog.pure_eq_ret]
  ihave Has := (part_zero D c (kS l (.inl j))) $$ Has
  ihave Har := (part_zero D c (kR l (.inl j))) $$ Har
  iapply (wait_last D K (c := c) (kS l (.inl j)) (n := totP (.inl j))
      (fun R => (wpE_waitDma2_eq 𝒱₀ (c : Thread nD τ) none Set.univ R).trans (by rw [sendV_credit, tot_rs]; rfl)) 0 (by rw [Nat.zero_mul, Nat.zero_add]; rfl) f (lvS l _ f)) $$ [Hcs HO Has]
  · isplitr; · iexact HR
    isplitl [Hcs]; · iexact Hcs
    isplitl [HO] <;> iassumption
  iintro ⟨HO, HdS, Hps⟩
  iapply (wait_last D K (c := c) (kR l (.inl j)) (n := totP (.inl j))
      (fun R => (wpE_waitDma2_eq 𝒱₀ (c : Thread nD τ) none Set.univ R).trans (by rw [commV_credit, tot_rs]; rfl)) 0 (by rw [Nat.zero_mul, Nat.zero_add]; rfl) f
      (fun l' => Nat.add_lt_add_right (hf l') 2)) $$ [Hcr HO Har]
  · isplitr; · iexact HR
    isplitl [Hcr]; · iexact Hcr
    isplitl [HO] <;> iassumption
  iintro ⟨HO, HdR, Hpr⟩
  ihave Hps := (Entails.of_eq (dutyS_one D c l j)) $$ Hps
  ihave Hpr := (Entails.of_eq (dutyR_one D c l j)) $$ Hpr
  ihave Hpr := (owns_slice_held (c := (c : Thread nD τ)) (m := commL l) (commR j) (fun _ => rfl)
      (fun y => accF D (peer c l (.inl j)) l.1 l.2 j.val ((keepR l.2 j c).emb y))) $$ Hpr
  icases Hpr with ⟨%X, %hX, Hcm⟩
  iapply (wp_load_held 𝒱₀ (c : Thread nD τ) none Set.univ (m := accL l) (r := keepR l.2 j c) (by rw [keepR_set])) $$ Ha
  iintro Ha
  iapply (wp_load_held 𝒱₀ (c : Thread nD τ) none Set.univ (m := commL l) (r := commR j) (Finset.Subset.refl _)) $$ Hcm
  iintro Hcm
  iapply (wp_load_held 𝒱₀ (c : Thread nD τ) none Set.univ (m := accL l) (r := keepR l.2 j c) (by rw [keepR_set])) $$ Ha
  iintro Ha
  iapply (wp_store_held 𝒱₀ (c : Thread nD τ) none Set.univ (m := accL l) (r := keepR l.2 j c) (accF D c l.1 l.2 (j.val + 1)) (by rw [keepR_set])
      (fun y => by
        rw [rsAdd_eq, accF_succ]
        show _ = FloatOps.addf (accF D c l.1 l.2 j.val ((keepR l.2 j c).emb y)) (X ((commR j).emb y))
        rw [hX]; rfl)
      (fun i hi hn => absurd hi (by rw [← keepR_set]; exact hn))) $$ Ha
  iintro Ha
  rw [wp_ret]; imodintro
  isplitl [HdS HdR]
  · unfold Dn; isplitl [HdS] <;> iassumption
  isplitl [Ha]; · iexact Ha
  isplitl [Hps Hcm]
  · unfold junk
    isplitl [Hps]; · iexact Hps
    iapply heldOn_any; iexact Hcm
  iexact HO

/-! ## The owned block -/

/-- Unit rectangles with equal offsets are equal. -/
theorem unit_congr {s : Shape} {off off' : Fin s.rank → ℕ} (size : Fin s.rank → ℕ) (h : off = off') (i : ∀ a, off a + size a ≤ s.size a) (i' : ∀ a, off' a + size a ≤ s.size a) :
    Rect.unit (s := s) off size i = Rect.unit (s := s) off' size i' := by subst h; rfl

/-- The rows a device stores its finished block to are those of the slot it owns. -/
theorem outR_eq (g : Fin 4) (a : Fin 2) (c : Dev nD) : outR g a c = regR g a (ownSl a c) :=
  unit_congr (s := S4x256x1024) _ (funext fun i => outOff_eq g a c i) _ _

/-- The same, index by index. -/
theorem outR_emb (g : Fin 4) (a : Fin 2) (c : Dev nD) (y : S1x16x1024.Idx) : (outR g a c).emb y = (regR g a (ownSl a c)).emb y := by
  refine funext fun b => Fin.ext ?_
  show outOff g a c b + 1 * (y b).val = regOff g a (ownSl a c) b + 1 * (y b).val
  rw [outOff_eq]

/-- The result in a slot's rows is what the slot's owner has. -/
theorem outF_reg (g : Fin 4) (a : Fin 2) (s : Fin 8) (y : S1x16x1024.Idx) :
    outF D ((regR g a s).emb y) = accF D (owner a s) g a 3 (accIx s (y 1) (y 2)) := by
  have h0 : (y 0).val < 1 := (y 0).isLt
  have h1 : (y 1).val < 16 := (y 1).isLt
  have ha := a.isLt
  have e0 : (((regR g a s).emb y) 0 : Fin 4) = g := Fin.ext (by show g.val + 1 * (y 0).val = g.val; omega)
  have e1 : (((regR g a s).emb y) 1 : Fin 256).val = 32 * (chunkOf a s).val + 16 * a.val + (y 1).val := by
    show rowOf a s + 1 * (y 1).val = _; rw [rowOf]; omega
  have e2 : (((regR g a s).emb y) 2 : Fin 1024) = y 2 := Fin.ext (by show 0 + 1 * (y 2).val = (y 2).val; omega)
  have hA : (⟨(((regR g a s).emb y) 1 : Fin 256).val / 16 % 2, Nat.mod_lt _ (by decide)⟩ : Fin 2) = a := Fin.ext (by dsimp only; rw [e1]; omega)
  have hC : ∀ h, (⟨(((regR g a s).emb y) 1 : Fin 256).val / 32, h⟩ : Fin 8) = chunkOf a s := fun h => Fin.ext (by dsimp only; rw [e1]; omega)
  have hR : (⟨(((regR g a s).emb y) 1 : Fin 256).val % 16, Nat.mod_lt _ (by decide)⟩ : Fin 16) = y 1 := Fin.ext (by dsimp only; rw [e1]; omega)
  unfold outF
  dsimp only
  erw [hA, hC, hR, e0, e2, slot_chunk]

/-- The two reshapes applied to the finished block undo each other. -/
theorem pay145_eq (u : Vec F S1x16x1024 .bf16) : k0_pay145 u = u := shapeCast_shapeCast u _ _

/-- After the last halving, a device keeps just the slot it owns. -/
theorem own_emb (a : Fin 2) (c : Dev nD) (y : S1x16x1024.Idx) : (keepR a 2 c).emb y = accIx (ownSl a c) (y 1) (y 2) := by
  have h0 : (y 0).val < 1 := (y 0).isLt
  have hl : ∀ (a : Fin 2) (c : Dev nD), (ownSl a c).val = lo a 3 c := by decide +kernel
  funext b
  fin_cases b
  · refine Fin.ext ?_
    show keepOff a 2 c 0 + 1 * (y 0).val = (ownSl a c).val
    rw [hl, keepOff_vec]
    show lo a 3 c + 1 * (y 0).val = lo a 3 c
    omega
  · refine Fin.ext ?_
    show 0 + 1 * (y 1).val = (y 1).val
    omega
  · refine Fin.ext ?_
    show 0 + 1 * (y 2).val = (y 2).val
    omega

/-- A slot's rows of the result, held there. -/
def outHeld (c : Dev nD) (l : Lane) (s : Fin 8) : sProp 𝕄 := heldOn (c : Thread nD τ) outM (regR l.1 l.2 s).set (outF D)
/-- The same, free. -/
def outFree (c : Dev nD) (l : Lane) (s : Fin 8) : sProp 𝕄 := anyOn (c : Thread nD τ) outM (regR l.1 l.2 s).set

/-- Storing the finished block: the accumulator is kept, and the owned slot of the result holds the final values. -/
theorem ownStore_spec (c : Dev nD) (l : Lane) :
    iprop(accHeld D c l 3 3 ∗ outFree (F := F) c l (ownSl l.2 c))
      ⊢ run c (ownStore (F := F) l.1 l.2 c) fun _ => iprop(accHeld D c l 3 3 ∗ outHeld D c l (ownSl l.2 c)) := by
  unfold accHeld outFree anyOn outHeld
  iintro ⟨Ha, %X, Ho⟩
  rw [← outR_eq]
  unfold ownStore
  simp only [Prog.lift, Prog.bind_op, Prog.bind_ret, Prog.pure_eq_ret]
  iapply (wp_load_held 𝒱₀ (c : Thread nD τ) none Set.univ (m := accL l) (r := keepR l.2 2 c) (by rw [keepR_set]; exact Finset.Subset.refl _)) $$ Ha
  iintro Ha
  iapply (wp_load_held 𝒱₀ (c : Thread nD τ) none Set.univ (m := outM) (r := outR l.1 l.2 c) (Finset.Subset.refl _)) $$ Ho
  iintro Ho
  iapply (wp_store_held 𝒱₀ (c : Thread nD τ) none Set.univ (m := outM) (r := outR l.1 l.2 c) (outF D) (Finset.Subset.refl _)
      (fun y => by
        refine Eq.trans ?_ (congrFun (pay145_eq _) y).symm
        show outF D ((outR l.1 l.2 c).emb y) = accF D c l.1 l.2 3 ((keepR l.2 2 c).emb y)
        rw [own_emb, outR_emb, outF_reg, owner_own])
      (fun i hi hn => absurd hi hn)) $$ Ho
  iintro Ho
  rw [wp_ret]; imodintro
  isplitl [Ha] <;> iassumption

end Cert.Hyper

end
-- ==== Proof.Gather.lean ====
/-
The gathering's steps of a lane: sending the blocks a device holds to the device across, and waiting for as many.
-/
module

public import proofs.«01_k».proof.Proof.Lane

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CK → ℕ)

abbrev agR (g : Fin 4) (a : Fin 2) (j : Fin 3) (k : Fin 4) (h : k.val < agN j) (c : Dev nD) : Rect S4x256x1024 :=
  Rect.unit (s := S4x256x1024) (agOff g a j k.val c) S1x16x1024.size (fun i => agOff_inb g a j c k i h)

/-- The block sent by a gathering step is the rows of its slot in the result. -/
theorem agR_eq (g a j k h c) : agR g a j k h c = regR g a (agSl a j k c) :=
  unit_congr (s := S4x256x1024) _ (funext fun i => agOff_eq g a j k c i h) _ _

/-- What a block's view reads of contents of the result. -/
def agX (g : Fin 4) (a : Fin 2) (j : Fin 3) (k : Fin 4) (h : k.val < agN j) (c : Dev nD) (X : S4x256x1024.Idx → Elt F .bf16) : S16x1024.Idx → Elt F .bf16 :=
  fun y => X ((agR g a j k h c).emb (Shape.reshapeEquiv (Shape.Squeezes.numel_eq squeezes_S1x16x1024_S16x1024) y))

/-- A block's view owned is its slot's rows held. -/
theorem agV_owns (c' : Dev nD) (g a j k h) (c : Dev nD) (X : S4x256x1024.Idx → Elt F .bf16) :
    (owns (c' : Thread nD τ) (agV g a j k h c) fullShare (agX g a j k h c X) : sProp 𝕄) = heldOn (c' : Thread nD τ) outM (regR g a (agSl a j k c)).set X := by
  rw [← agR_eq g a j k h c, heldOn_slice (c := (c' : Thread nD τ)) (m := outM) (agR g a j k h c) (fun _ => rfl) X]
  exact owns_squeeze (c := (c' : Thread nD τ)) (m := outM.slice (agR g a j k h c) (fun _ => rfl)) S16x1024 squeezes_S1x16x1024_S16x1024 (fun y => X ((agR g a j k h c).emb y))

/-- A block that a gathering step sends is a duty of the step's send cell. -/
theorem mem_duty (l : Lane) (j : Fin 3) (k : Fin 4) (h : k.val < agN j) : k ∈ dutyK (kS l (.inr j)) := Finset.mem_filter.mpr ⟨Finset.mem_univ _, h⟩
/-- A gathering step's duties are the blocks it sends. -/
theorem duty_ag (l : Lane) (j : Fin 3) : dutyK (kS l (.inr j)) = agIx j := rfl

/-- What sending one block takes: the two tokens, where it lands, and the block. -/
def blockP (c : Dev nD) (l : Lane) (j : Fin 3) (k : Fin 4) : sProp 𝕄 :=
  iprop((dutyTok ER (cell c (kS l (.inr j))) 0 k ∗ dutyTok ER (cell (peer c l (.inr j)) (kR l (.inr j))) 0 k)
    ∗ outFree (F := F) (peer c l (.inr j)) l (agSl l.2 j k c) ∗ outHeld D c l (agSl l.2 j k c))

/-- A block that has landed, with the final values in it, is what the receiver's cell is to be paid. -/
theorem recv_ag (c c' : Dev nD) (l : Lane) (j : Fin 3) (k : Fin 4) (h : k.val < agN j) (hc : c = peer c' l (.inr j)) :
    (owns ((c' : Dev nD) : Thread nD τ) (agV l.1 l.2 j k h c) fullShare (agX l.1 l.2 j k h c (outF D)) : sProp 𝕄)
      ⊢ (Rd D).payload ((c' : Thread nD τ), SemLoc.dma (rsem l.1 l.2 (agPh j))) 0 k := by
  subst hc
  exact (Entails.of_eq (agV_owns c' _ _ _ _ _ _ _)).trans (Entails.of_eq (Rd_payload D c' (kR l (.inr j)) 0 k).symm)

/-- Sending one block, with `i` sent before and `r` to send after. -/
theorem agSend_spec (c : Dev nD) (l : Lane) (j : Fin 3) (k : Fin 4) (h : k.val < agN j) (i r : ℕ) (O : CellTallies nD τ sig Unit) :
    iprop(records D K ∗ blockP D c l j k ∗ cred (tallyAt (cell c (kS l (.inr j))) () (i * amtP (.inr j)))
        ∗ owing c (O + tallyAt (cell (peer c l (.inr j)) (kR l (.inr j))) () ((r + 1) * amtP (.inr j))))
      ⊢ run c (agSend (F := F) l.1 l.2 j k h c) fun _ => iprop(cred (tallyAt (cell c (kS l (.inr j))) () ((i + 1) * amtP (.inr j)))
        ∗ owing c (O + tallyAt (cell (peer c l (.inr j)) (kR l (.inr j))) () (r * amtP (.inr j)))) := by
  unfold owing blockP outFree outHeld
  iintro ⟨#HR, ⟨⟨Ht1, Ht2⟩, Hd, Hs⟩, Hc, %W, HO⟩
  ihave Hs := (Entails.of_eq (agV_owns c l.1 l.2 j k h c (outF D)).symm) $$ Hs
  have hO : O + tallyAt (cell (peer c l (.inr j)) (kR l (.inr j))) () ((r + 1) * amtP (.inr j))
      = O + tallyAt (cell (peer c l (.inr j)) (kR l (.inr j))) () (r * amtP (.inr j)) + tallyAt (cell (peer c l (.inr j)) (kR l (.inr j))) () (amtP (.inr j)) := by
    rw [add_assoc, tallyAt_add, Nat.succ_mul]
  unfold agSend Prog.lift
  iapply (wp_send_owns (D := Duty) 𝒱₀ (c : Thread nD τ) none Set.univ (E := ER) (Rd := Rd D) (c' := ((peer c l (.inr j) : Dev nD) : Thread nD τ))
      (src := agV l.1 l.2 j k h c) (dst := agV l.1 l.2 j k h c) (sS := .dma (ssem l.1 l.2 (agPh j))) (sem := .dma (rsem l.1 l.2 (agPh j)))
      (κ₁ := K (c, kS l (.inr j))) (κ₂ := K (peer c l (.inr j), kR l (.inr j))) (r₁ := 0) (r₂ := 0) (d₁ := k) (d₂ := k)
      (X := agX l.1 l.2 j k h c (outF D))
      (by rw [show ((c : Thread nD τ), SemLoc.dma (ssem l.1 l.2 (agPh j))) = cell c (kS l (.inr j)) from rfl, Rd_duties]; exact mem_duty l j k h)
      (by rw [show (((peer c l (.inr j) : Dev nD) : Thread nD τ), SemLoc.dma (rsem l.1 l.2 (agPh j))) = cell (peer c l (.inr j)) (kR l (.inr j)) from rfl, Rd_duties]
          exact mem_duty l j k h)
      () () (amtP (.inr j)) (agV_credit l.1 l.2 j k h c j) (Rd_amount D c (kS l (.inr j)) 0 k) (Rd_amount D (peer c l (.inr j)) (kR l (.inr j)) 0 k)
      (O + tallyAt (cell (peer c l (.inr j)) (kR l (.inr j))) () (r * amtP (.inr j)))
      hO (W := W)
      ((Entails.of_eq (agV_owns c _ _ _ _ _ _ _)).trans (Entails.of_eq (Rd_payload D c (kS l (.inr j)) 0 k).symm))
      (recv_ag D c (peer c l (.inr j)) l j k h (partner_partner _ _).symm)) $$ [Hs Hd HO Ht1 Ht2]
  · isplitr; · iapply (rec_inv D K c (kS l (.inr j))); iexact HR
    isplitr; · iapply (rec_inv D K (peer c l (.inr j)) (kR l (.inr j))); iexact HR
    isplitl [Hs]; · iexact Hs
    isplitl [Hd]
    · unfold anyOn
      icases Hd with ⟨%X, Hd⟩
      ihave Hd := (Entails.of_eq (agV_owns (peer c l (.inr j)) l.1 l.2 j k h c X).symm) $$ Hd
      iexists _; iexact Hd
    isplitl [HO]; · iexact HO
    isplitl [Ht1]; · iexact Ht1
    isplitr; · iapply (rec_reached D K c (kS l (.inr j))); iexact HR
    isplitl [Ht2]; · iexact Ht2
    iapply (rec_reached D K (peer c l (.inr j)) (kR l (.inr j))); iexact HR
  iintro ⟨Hcs, HO⟩
  rw [wp_ret]; imodintro
  isplitl [Hcs Hc]
  · rw [Nat.succ_mul, ← tallyAt_add]
    iapply (cred_add _ _).2
    isplitl [Hc]; · iexact Hc
    iexact Hcs
  iexists W; iexact HO

/-- The same, when more follows. -/
theorem agSend_seq {c : Dev nD} (l : Lane) (j : Fin 3) (k : Fin 4) (h : k.val < agN j) (i r : ℕ) (O : CellTallies nD τ sig Unit) {α : Type} {kt : PUnit → TcProg F α} {R : α → sProp 𝕄} :
    iprop(records D K ∗ blockP D c l j k ∗ cred (tallyAt (cell c (kS l (.inr j))) () (i * amtP (.inr j)))
        ∗ owing c (O + tallyAt (cell (peer c l (.inr j)) (kR l (.inr j))) () ((r + 1) * amtP (.inr j))))
      ⊢ iprop((iprop(cred (tallyAt (cell c (kS l (.inr j))) () ((i + 1) * amtP (.inr j)))
        ∗ owing c (O + tallyAt (cell (peer c l (.inr j)) (kR l (.inr j))) () (r * amtP (.inr j)))) -∗ run c (kt ⟨⟩) R)
        -∗ run c (agSend (F := F) l.1 l.2 j k h c >>= kt) R) :=
  run_seq (agSend_spec D K c l j k h i r O)

/-- All the blocks of a step. -/
theorem agBlocks_spec (c : Dev nD) (l : Lane) (j : Fin 3) (O : CellTallies nD τ sig Unit) :
    iprop(records D K ∗ (bigSep (agIx j) fun k => blockP D c l j k) ∗ cred (tallyAt (cell c (kS l (.inr j))) () (0 * amtP (.inr j)))
        ∗ owing c (O + tallyAt (cell (peer c l (.inr j)) (kR l (.inr j))) () (agN j * amtP (.inr j))))
      ⊢ run c (agIssue (F := F) l.1 l.2 c j) fun _ => iprop(cred (tallyAt (cell c (kS l (.inr j))) () (agN j * amtP (.inr j)))
        ∗ owing c (O + tallyAt (cell (peer c l (.inr j)) (kR l (.inr j))) () (0 * amtP (.inr j)))) := by
  fin_cases j
  · show iprop(records D K ∗ (bigSep (agIx 0) fun k => blockP D c l 0 k) ∗ cred (tallyAt (cell c (kS l (.inr 0))) () (0 * amtP (.inr 0)))
        ∗ owing c (O + tallyAt (cell (peer c l (.inr 0)) (kR l (.inr 0))) () (1 * amtP (.inr 0)))) ⊢ run c (agSend (F := F) l.1 l.2 0 0 (by decide) c) _
    rw [bigSep_eq_bigSepL_of_eq [(0 : Fin 4)] (by decide) (by decide), bigSepL_singleton]
    exact agSend_spec D K c l 0 0 _ 0 0 O
  · show iprop(records D K ∗ (bigSep (agIx 1) fun k => blockP D c l 1 k) ∗ cred (tallyAt (cell c (kS l (.inr 1))) () (0 * amtP (.inr 1)))
        ∗ owing c (O + tallyAt (cell (peer c l (.inr 1)) (kR l (.inr 1))) () (2 * amtP (.inr 1))))
      ⊢ run c (agSend (F := F) l.1 l.2 1 0 (by decide) c >>= fun _ => agSend (F := F) l.1 l.2 1 1 (by decide) c) _
    rw [bigSep_eq_bigSepL_of_eq [(0 : Fin 4), 1] (by decide) (by decide), bigSepL_cons_cons, bigSepL_singleton]
    simp only [show ∀ A B : sProp 𝕄, BI.sep A B = iprop(A ∗ B) from fun _ _ => rfl]
    iintro ⟨#HR, ⟨H0, H1⟩, Hc, HO⟩
    iapply (agSend_seq D K l 1 0 _ 0 1 O) $$ [H0 Hc HO]
    · isplitr; · iexact HR
      isplitl [H0]; · iexact H0
      isplitl [Hc] <;> iassumption
    iintro ⟨Hc, HO⟩
    iapply (agSend_spec D K c l 1 1 (by decide) 1 0 O)
    isplitr; · iexact HR
    isplitl [H1]; · iexact H1
    isplitl [Hc] <;> iassumption
  · show iprop(records D K ∗ (bigSep (agIx 2) fun k => blockP D c l 2 k) ∗ cred (tallyAt (cell c (kS l (.inr 2))) () (0 * amtP (.inr 2)))
        ∗ owing c (O + tallyAt (cell (peer c l (.inr 2)) (kR l (.inr 2))) () (4 * amtP (.inr 2))))
      ⊢ run c (agSend (F := F) l.1 l.2 2 0 (by decide) c >>= fun _ => agSend (F := F) l.1 l.2 2 1 (by decide) c >>= fun _ =>
          agSend (F := F) l.1 l.2 2 2 (by decide) c >>= fun _ => agSend (F := F) l.1 l.2 2 3 (by decide) c) _
    rw [bigSep_eq_bigSepL_of_eq [(0 : Fin 4), 1, 2, 3] (by decide) (by decide), bigSepL_cons_cons, bigSepL_cons_cons, bigSepL_cons_cons, bigSepL_singleton]
    simp only [show ∀ A B : sProp 𝕄, BI.sep A B = iprop(A ∗ B) from fun _ _ => rfl]
    iintro ⟨#HR, ⟨H0, H1, H2, H3⟩, Hc, HO⟩
    iapply (agSend_seq D K l 2 0 _ 0 3 O) $$ [H0 Hc HO]
    · isplitr; · iexact HR
      isplitl [H0]; · iexact H0
      isplitl [Hc] <;> iassumption
    iintro ⟨Hc, HO⟩
    iapply (agSend_seq D K l 2 1 _ 1 2 O) $$ [H1 Hc HO]
    · isplitr; · iexact HR
      isplitl [H1]; · iexact H1
      isplitl [Hc] <;> iassumption
    iintro ⟨Hc, HO⟩
    iapply (agSend_seq D K l 2 2 _ 2 1 O) $$ [H2 Hc HO]
    · isplitr; · iexact HR
      isplitl [H2]; · iexact H2
      isplitl [Hc] <;> iassumption
    iintro ⟨Hc, HO⟩
    iapply (agSend_spec D K c l 2 3 (by decide) 3 0 O)
    isplitr; · iexact HR
    isplitl [H3]; · iexact H3
    isplitl [Hc] <;> iassumption

/-- The rows of the slots a device holds at level `t`. -/
def outSlots (c : Dev nD) (l : Lane) (t : ℕ) : sProp 𝕄 := bigSep (slots l.2 t c) fun s => outHeld D c l s

/-- A separating conjunction over the slots held at a level is one over the blocks the next gathering step sends. -/
theorem slots_blocks (c : Dev nD) (a : Fin 2) (j : Fin 3) (Φ : Fin 8 → sProp 𝕄) :
    bigSep (slots a (3 - j.val) c) Φ = bigSep (agIx j) fun k => Φ (agSl a j k c) := by
  rw [← agSl_image]
  exact bigSep_image_of_injOn (fun k hk k' hk' h => agSl_inj a j c k k' hk hk' h) Φ

/-- What sending all blocks of a step takes, sorted into tokens, landing places and blocks. -/
theorem blocks_eq (c : Dev nD) (l : Lane) (j : Fin 3) :
    (bigSep (agIx j) fun k => blockP D c l j k)
      = iprop((bigSep (agIx j) fun k => iprop(dutyTok ER (cell c (kS l (.inr j))) 0 k ∗ dutyTok ER (cell (peer c l (.inr j)) (kR l (.inr j))) 0 k))
        ∗ (bigSep (agIx j) fun k => outFree (F := F) (peer c l (.inr j)) l (agSl l.2 j k c)) ∗ bigSep (agIx j) fun k => outHeld D c l (agSl l.2 j k c)) := by
  rw [← bigSep_sep' (agIx j) (fun k => outFree (F := F) (peer c l (.inr j)) l (agSl l.2 j k c)), ← bigSep_sep']
  rfl

/-- Issuing a step of the gathering. -/
theorem agIssue_spec (c : Dev nD) (l : Lane) (j : Fin 3) (O : CellTallies nD τ sig Unit) :
    iprop(records D K ∗ Un (F := F) c l (.inr j) ∗ outSlots D c l (3 - j.val) ∗ owing c (O + tallyAt (cell (peer c l (.inr j)) (kR l (.inr j))) () (totP (.inr j))))
      ⊢ run c (agIssue (F := F) l.1 l.2 c j) fun _ => iprop(Fl (F := F) c l (.inr j) ∗ owing c O) := by
  unfold Un toksP Dst outSlots Fl
  rw [slots_blocks, duty_ag]
  iintro ⟨#HR, ⟨Ht, Hd, Hc, Hat⟩, Hs, HO⟩
  iapply (wp_wand frame (wpE (defs₀ (F := F)) 𝒱₀ (c : Thread nD τ) none) Set.univ
    (Q := fun _ => iprop(cred (tallyAt (cell c (kS l (.inr j))) () (agN j * amtP (.inr j)))
        ∗ owing c (O + tallyAt (cell (peer c l (.inr j)) (kR l (.inr j))) () (0 * amtP (.inr j)))))) $$ [Ht Hd Hs HO]
  · iapply (agBlocks_spec D K c l j O)
    isplitr; · iexact HR
    isplitl [Ht Hd Hs]
    · rw [blocks_eq]
      isplitl [Ht]; · iexact Ht
      isplitl [Hd]; · iexact Hd
      iexact Hs
    isplitr
    · rw [Nat.zero_mul, tallyAt_zero, cred_zero]; iempintro
    iexact HO
  iintro %u ⟨Hcs, HO⟩
  isplitl [Hcs Hc Hat]
  · isplitl [Hcs]; · iexact Hcs
    isplitl [Hc] <;> iassumption
  rw [Nat.zero_mul, tallyAt_zero, add_zero]
  iexact HO

/-! ## Waiting -/

/-- In the middle of a step's waits: `i` blocks in, `r` to come. -/
def awaiting (c : Dev nD) (l : Lane) (j : Fin 3) (f : Lane → ℕ) (i r : ℕ) : sProp 𝕄 :=
  iprop(cred (tallyAt (cell c (kS l (.inr j))) () (r * amtP (.inr j))) ∗ cred (tallyAt (cell c (kR l (.inr j))) () (r * amtP (.inr j)))
    ∗ part_ D c (kS l (.inr j)) i ∗ part_ D c (kR l (.inr j)) i ∗ owing c (owed c f))

/-- Credit for `r + 1` equal payments is credit for `r` of them and for one more. -/
theorem cred_succ (g : GSem nD τ sig) (r n : ℕ) : (cred (tallyAt g () ((r + 1) * n)) : sProp 𝕄) ⊢ iprop(cred (tallyAt g () (r * n)) ∗ cred (tallyAt g () n)) := by
  rw [Nat.succ_mul, ← tallyAt_add]; exact (cred_add _ _).1

/-- One block, not the last. -/
theorem agAwait_more (c : Dev nD) (l : Lane) (j : Fin 3) (k : Fin 4) (h : k.val < agN j) (f : Lane → ℕ) (hf : ∀ l', ord (.inr j) < f l') (i r : ℕ) :
    iprop(records D K ∗ awaiting D c l j f i (r + 1)) ⊢ run c (agAwait (F := F) l.1 l.2 j k h c) fun _ => awaiting D c l j f (i + 1) r := by
  unfold awaiting agAwait
  simp only [Prog.lift, Prog.bind_op, Prog.bind_ret, Prog.pure_eq_ret]
  iintro ⟨#HR, Hcs, Hcr, Hps, Hpr, HO⟩
  ihave Hcs := (cred_succ _ r _) $$ Hcs
  icases Hcs with ⟨Hcs, Hcs1⟩
  ihave Hcr := (cred_succ _ r _) $$ Hcr
  icases Hcr with ⟨Hcr, Hcr1⟩
  iapply (wait_more D K (c := c) (kS l (.inr j)) (fun R => (wpE_waitDma2_eq 𝒱₀ (c : Thread nD τ) none Set.univ R).trans (by rw [agV_credit _ _ _ _ _ _ j]; rfl)) i f (lvS l _ f)) $$ [Hcs1 HO Hps]
  · isplitr; · iexact HR
    isplitl [Hcs1]; · iexact Hcs1
    isplitl [HO] <;> iassumption
  iintro ⟨HO, Hps⟩
  iapply (wait_more D K (c := c) (kR l (.inr j)) (fun R => (wpE_waitDma2_eq 𝒱₀ (c : Thread nD τ) none Set.univ R).trans (by rw [agV_credit _ _ _ _ _ _ j]; rfl)) i f
      (fun l' => Nat.add_lt_add_right (hf l') 2)) $$ [Hcr1 HO Hpr]
  · isplitr; · iexact HR
    isplitl [Hcr1]; · iexact Hcr1
    isplitl [HO] <;> iassumption
  iintro ⟨HO, Hpr⟩
  unfold run; rw [wp_ret]; imodintro
  isplitl [Hcs]; · iexact Hcs
  isplitl [Hcr]; · iexact Hcr
  isplitl [Hps]; · iexact Hps
  isplitl [Hpr] <;> iassumption

/-- The rows a device holds after the step: those it sent, back, and those across, landed. -/
theorem slots_join (c : Dev nD) (l : Lane) (j : Fin 3) :
    iprop((bigSep (dutyK (kS l (.inr j))) fun d => payK D c d (kS l (.inr j))) ∗ bigSep (dutyK (kR l (.inr j))) fun d => payK D c d (kR l (.inr j)))
      ⊢ outSlots D c l (2 - j.val) := by
  unfold outSlots
  rw [(slots_split l.2 j c).1]
  refine BI.Entails.trans ?_ (Entails.of_eq (bigSep_union (slots_split l.2 j c).2 (Φ := fun s => outHeld D c l s)).symm)
  rw [slots_blocks, slots_blocks]
  exact BI.Entails.refl _

/-- The last block. -/
theorem agAwait_last (c : Dev nD) (l : Lane) (j : Fin 3) (k : Fin 4) (h : k.val < agN j) (f : Lane → ℕ) (hf : ∀ l', ord (.inr j) < f l') (i : ℕ) (hi : i + 1 = agN j) :
    iprop(records D K ∗ awaiting D c l j f i 1)
      ⊢ run c (agAwait (F := F) l.1 l.2 j k h c) fun _ => iprop(Dn (F := F) c l (.inr j) ∗ outSlots D c l (2 - j.val) ∗ owing c (owed c f)) := by
  unfold awaiting agAwait
  simp only [Prog.lift, Prog.bind_op, Prog.bind_ret, Prog.pure_eq_ret]
  rw [Nat.one_mul]
  iintro ⟨#HR, Hcs, Hcr, Hps, Hpr, HO⟩
  have hn : i * amtP (.inr j) + amtP (.inr j) = agN j * amtP (.inr j) := by rw [← hi, Nat.succ_mul]
  iapply (wait_last D K (c := c) (kS l (.inr j)) (fun R => (wpE_waitDma2_eq 𝒱₀ (c : Thread nD τ) none Set.univ R).trans (by rw [agV_credit _ _ _ _ _ _ j]; rfl)) i hn f (lvS l _ f)) $$ [Hcs HO Hps]
  · isplitr; · iexact HR
    isplitl [Hcs]; · iexact Hcs
    isplitl [HO] <;> iassumption
  iintro ⟨HO, HdS, Hps⟩
  iapply (wait_last D K (c := c) (kR l (.inr j)) (fun R => (wpE_waitDma2_eq 𝒱₀ (c : Thread nD τ) none Set.univ R).trans (by rw [agV_credit _ _ _ _ _ _ j]; rfl)) i hn f
      (fun l' => Nat.add_lt_add_right (hf l') 2)) $$ [Hcr HO Hpr]
  · isplitr; · iexact HR
    isplitl [Hcr]; · iexact Hcr
    isplitl [HO] <;> iassumption
  iintro ⟨HO, HdR, Hpr⟩
  unfold run; rw [wp_ret]; imodintro
  isplitl [HdS HdR]
  · unfold Dn; isplitl [HdS] <;> iassumption
  isplitl [Hps Hpr]
  · iapply (slots_join D c l j)
    isplitl [Hps] <;> iassumption
  iexact HO

/-- Waiting for one block moves a step's waits on by one, and the program after it goes on from there. -/
theorem agAwait_seq {c : Dev nD} (l : Lane) (j : Fin 3) (k : Fin 4) (h : k.val < agN j) (f : Lane → ℕ) (hf : ∀ l', ord (.inr j) < f l') (i r : ℕ)
    {α : Type} {kt : PUnit → TcProg F α} {R : α → sProp 𝕄} :
    iprop(records D K ∗ awaiting D c l j f i (r + 1))
      ⊢ iprop((awaiting D c l j f (i + 1) r -∗ run c (kt ⟨⟩) R) -∗ run c (agAwait (F := F) l.1 l.2 j k h c >>= kt) R) :=
  run_seq (agAwait_more D K c l j k h f hf i r)

/-- All waits of a gathering step together close the step's cells and give the slots of the next level. -/
theorem agWaits_from (c : Dev nD) (l : Lane) (j : Fin 3) (f : Lane → ℕ) (hf : ∀ l', ord (.inr j) < f l') :
    iprop(records D K ∗ awaiting D c l j f 0 (agN j))
      ⊢ run c (agWaits (F := F) l.1 l.2 c j) fun _ => iprop(Dn (F := F) c l (.inr j) ∗ outSlots D c l (2 - j.val) ∗ owing c (owed c f)) := by
  fin_cases j
  · exact agAwait_last D K c l 0 0 (by decide) f hf 0 (by decide)
  · show iprop(records D K ∗ awaiting D c l 1 f 0 2) ⊢ run c (agAwait (F := F) l.1 l.2 1 0 (by decide) c >>= fun _ => agAwait (F := F) l.1 l.2 1 1 (by decide) c) _
    iintro ⟨#HR, H⟩
    iapply (agAwait_seq D K l 1 0 _ f hf 0 1) $$ [H]
    · isplitr; · iexact HR
      iexact H
    iintro H
    iapply (agAwait_last D K c l 1 1 (by decide) f hf 1 (by decide))
    isplitr; · iexact HR
    iexact H
  · show iprop(records D K ∗ awaiting D c l 2 f 0 4) ⊢ run c (agAwait (F := F) l.1 l.2 2 0 (by decide) c >>= fun _ => agAwait (F := F) l.1 l.2 2 1 (by decide) c >>= fun _ =>
      agAwait (F := F) l.1 l.2 2 2 (by decide) c >>= fun _ => agAwait (F := F) l.1 l.2 2 3 (by decide) c) _
    iintro ⟨#HR, H⟩
    iapply (agAwait_seq D K l 2 0 _ f hf 0 3) $$ [H]
    · isplitr; · iexact HR
      iexact H
    iintro H
    iapply (agAwait_seq D K l 2 1 _ f hf 1 2) $$ [H]
    · isplitr; · iexact HR
      iexact H
    iintro H
    iapply (agAwait_seq D K l 2 2 _ f hf 2 1) $$ [H]
    · isplitr; · iexact HR
      iexact H
    iintro H
    iapply (agAwait_last D K c l 2 3 (by decide) f hf 3 (by decide))
    isplitr; · iexact HR
    iexact H

/-- Waiting for a step of the gathering. -/
theorem agWaits_spec (c : Dev nD) (l : Lane) (j : Fin 3) (f : Lane → ℕ) (hf : ∀ l', ord (.inr j) < f l') :
    iprop(records D K ∗ Fl (F := F) c l (.inr j) ∗ owing c (owed c f))
      ⊢ run c (agWaits (F := F) l.1 l.2 c j) fun _ => iprop(Dn (F := F) c l (.inr j) ∗ outSlots D c l (2 - j.val) ∗ owing c (owed c f)) := by
  unfold Fl atP
  iintro ⟨#HR, ⟨Hcs, Hcr, Has, Har⟩, HO⟩
  iapply (agWaits_from D K c l j f hf)
  isplitr; · iexact HR
  unfold awaiting
  isplitl [Hcs]; · iexact Hcs
  isplitl [Hcr]; · iexact Hcr
  isplitl [Has]; · iapply (part_zero D c (kS l (.inr j))); iexact Has
  isplitl [Har]; · iapply (part_zero D c (kR l (.inr j))); iexact Har
  iexact HO

end Cert.Hyper

end
-- ==== Proof.Lanes.lean ====
/-
The lanes of a device together: how far each has come, a step of one lane, a sweep over all eight, and the two loops.
-/
module

public import proofs.«01_k».proof.Proof.Gather

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CK → ℕ)

/-! ## One lane -/

/-- A phase of a lane that has issued `n` phases, the last of them in flight. -/
def phSt (c : Dev nD) (l : Lane) (n : ℕ) (p : Ph) : sProp 𝕄 :=
  if ord p + 1 < n then Dn (F := F) c l p else if ord p + 1 = n then Fl (F := F) c l p else Un (F := F) c l p
/-- The ghost state of a lane that has issued `n` phases. -/
def ghost (c : Dev nD) (l : Lane) (n : ℕ) : sProp 𝕄 := bigSep Finset.univ fun p => phSt (F := F) c l n p

/-- The first phase is issued. -/
theorem ghost_first (c : Dev nD) (l : Lane) : ghost (F := F) c l 0 ⊢ iprop(Un (F := F) c l (.inl 0) ∗ (Fl (F := F) c l (.inl 0) -∗ ghost (F := F) c l 1)) := by
  unfold ghost
  refine bigSep_univ_update (Φ := fun p => phSt (F := F) c l 0 p) (Ψ := fun p => phSt (F := F) c l 1 p) (.inl 0) fun p hp => ?_
  have : ord p ≠ 0 := fun h => hp (ord_inj _ _ h)
  unfold phSt
  rw [if_neg (by omega), if_neg (by omega), if_neg (by omega), if_neg (by omega)]

/-- One phase is done and the next is issued. -/
theorem ghost_next (c : Dev nD) (l : Lane) (p q : Ph) (n n' : ℕ) (hn : n = ord p + 1) (hn' : n' = ord p + 2) (h : ord q = ord p + 1) :
    ghost (F := F) c l n ⊢ iprop(Fl (F := F) c l p ∗ Un (F := F) c l q ∗ (iprop(Dn (F := F) c l p ∗ Fl (F := F) c l q) -∗ ghost (F := F) c l n')) := by
  subst hn hn'
  have hq : q ≠ p := fun e => by subst e; omega
  have e : ∀ n, ghost (F := F) c l n = iprop(phSt (F := F) c l n p ∗ phSt (F := F) c l n q ∗ bigSep ((Finset.univ.erase p).erase q) fun p => phSt (F := F) c l n p) := fun n =>
    (bigSep_erase (Finset.mem_univ p)).trans (congrArg (BI.sep _) (bigSep_erase (Finset.mem_erase.mpr ⟨hq, Finset.mem_univ q⟩)))
  have er : (bigSep ((Finset.univ.erase p).erase q) fun x => phSt (F := F) c l (ord p + 1) x) = bigSep ((Finset.univ.erase p).erase q) fun x => phSt (F := F) c l (ord p + 2) x := by
    refine bigSep_congr fun x hx => ?_
    have hxq : ord x ≠ ord q := fun h => Finset.ne_of_mem_erase hx (ord_inj _ _ h)
    have hxp : ord x ≠ ord p := fun h => Finset.ne_of_mem_erase (Finset.mem_of_mem_erase hx) (ord_inj _ _ h)
    unfold phSt
    by_cases hl : ord x + 1 < ord p + 1
    · rw [if_pos hl, if_pos (by omega)]
    · rw [if_neg hl, if_neg (by omega), if_neg (by omega), if_neg (by omega)]
  rw [e, e, er]
  rw [show phSt (F := F) c l (ord p + 1) p = Fl (F := F) c l p by unfold phSt; rw [if_neg (by omega), if_pos rfl],
    show phSt (F := F) c l (ord p + 1) q = Un (F := F) c l q by unfold phSt; rw [if_neg (by omega), if_neg (by omega)],
    show phSt (F := F) c l (ord p + 2) p = Dn (F := F) c l p by unfold phSt; rw [if_pos (by omega)],
    show phSt (F := F) c l (ord p + 2) q = Fl (F := F) c l q by unfold phSt; rw [if_neg (by omega), if_pos (by omega)]]
  iintro ⟨H1, H2, H3⟩
  isplitl [H1]; · iexact H1
  isplitl [H2]; · iexact H2
  iintro ⟨H1, H2⟩
  isplitl [H1]; · iexact H1
  isplitl [H2] <;> iassumption

/-- The last phase is done. -/
theorem ghost_last (c : Dev nD) (l : Lane) : ghost (F := F) c l 6 ⊢ iprop(Fl (F := F) c l (.inr 2) ∗ (Dn (F := F) c l (.inr 2) -∗ ghost (F := F) c l 7)) := by
  unfold ghost
  refine bigSep_univ_update (Φ := fun p => phSt (F := F) c l 6 p) (Ψ := fun p => phSt (F := F) c l 7 p) (.inr 2) fun p hp => ?_
  have h1 : ord p ≠ 5 := fun h => hp (ord_inj _ _ h)
  have h2 : ord p ≤ 5 := by revert p; decide
  unfold phSt
  rw [if_pos (by omega), if_pos (by omega)]

/-- The memory of a lane that has issued `n` phases. -/
def mems (c : Dev nD) (l : Lane) : ℕ → sProp 𝕄
  | 0 => iprop(anyOn (c : Thread nD τ) (accL l) Finset.univ ∗ outFree (F := F) c l (ownSl l.2 c))
  | 1 => iprop(accHeld D c l 1 0 ∗ outFree (F := F) c l (ownSl l.2 c))
  | 2 => iprop(accHeld D c l 2 1 ∗ junk (F := F) c l 0 ∗ outFree (F := F) c l (ownSl l.2 c))
  | 3 => iprop(accHeld D c l 3 2 ∗ junk (F := F) c l 0 ∗ junk (F := F) c l 1 ∗ outFree (F := F) c l (ownSl l.2 c))
  | 7 => iprop(accHeld D c l 3 3 ∗ junk (F := F) c l 0 ∗ junk (F := F) c l 1 ∗ junk (F := F) c l 2 ∗ outSlots D c l 0)
  | _ => iprop(accHeld D c l 3 3 ∗ junk (F := F) c l 0 ∗ junk (F := F) c l 1 ∗ junk (F := F) c l 2)

/-- A lane that has issued `n` phases; past the sixth, done. -/
def lane (c : Dev nD) (l : Lane) (n : ℕ) : sProp 𝕄 := iprop(ghost (F := F) c l n ∗ mems D c l n)

/-- A phase paid for. -/
theorem owed_upd (c : Dev nD) (f : Lane → ℕ) (l : Lane) (p : Ph) (h : f l = ord p) :
    owed c f = owed c (Function.update f l (ord p + 1)) + tallyAt (cell (peer c l p) (kR l p)) () (totP p) :=
  owed_step c f _ l p h (Function.update_self ..) fun l' hl => Function.update_of_ne hl ..

/-- Marking a lane done changes nothing in what the device owes. -/
theorem owed_last (c : Dev nD) (f : Lane → ℕ) (l : Lane) (h : f l = 6) : owed c f = owed c (Function.update f l 7) := by
  unfold owed
  refine Finset.sum_congr rfl fun x _ => if_congr ?_ rfl rfl
  have h2 : ∀ p : Ph, ord p ≤ 5 := by decide
  have := h2 x.2
  by_cases e : x.1 = l
  · rw [e, Function.update_self, h]; omega
  · rw [Function.update_of_ne e]

/-- A halving step takes a lane from one stage to the next, and what the device owes goes down by the phase issued. -/
theorem rs_spec (c : Dev nD) (l : Lane) (j : Fin 3) (f : Lane → ℕ) (h : f l = j.val + 1) (hf : ∀ l', j.val + 1 ≤ f l') :
    iprop(records D K ∗ lane D c l (j.val + 1) ∗ owing c (owed c f))
      ⊢ run c (rsStep (F := F) j l.1 l.2 c) fun _ => iprop(lane D c l (j.val + 2) ∗ owing c (owed c (Function.update f l (j.val + 2)))) := by
  have hw : ∀ l', ord (.inl j) < f l' := hf
  fin_cases j
  · show iprop(records D K ∗ (ghost (F := F) c l 1 ∗ accHeld D c l 1 0 ∗ outFree (F := F) c l (ownSl l.2 c)) ∗ owing c (owed c f)) ⊢ run c (rsTake (F := F) l.1 l.2 0 c >>= fun _ => rsIssue l.1 l.2 1 c) fun _ => iprop((ghost (F := F) c l 2 ∗ accHeld D c l 2 1 ∗ junk (F := F) c l 0 ∗ outFree (F := F) c l (ownSl l.2 c)) ∗ owing c (owed c (Function.update f l 2)))
    iintro ⟨#HR, ⟨Hg, Ha, Ho⟩, HO⟩
    ihave Hg := (ghost_next c l (.inl 0) (.inl 1) 1 2 rfl rfl rfl) $$ Hg
    icases Hg with ⟨Hf, Hu, Hg⟩
    iapply (run_seq (rsTake_spec D K c l 0 f hw)) $$ [Hf Ha HO]
    · isplitr; · iexact HR
      isplitl [Hf]; · iexact Hf
      isplitl [Ha]; · iexact Ha
      iexact HO
    rw [owed_upd c f l (.inl 1) h]
    iintro ⟨Hd, Ha, Hj, HO⟩
    iapply (wp_wand frame (wpE (defs₀ (F := F)) 𝒱₀ (c : Thread nD τ) none) Set.univ
      (Q := fun _ => iprop(Fl (F := F) c l (.inl 1) ∗ accHeld D c l 2 1 ∗ owing c (owed c (Function.update f l 2))))) $$ [Hu Ha HO]
    · iapply (rsIssue_spec D K c l 1 (owed c (Function.update f l 2)))
      isplitr; · iexact HR
      isplitl [Hu]; · iexact Hu
      isplitl [Ha]; · iexact Ha
      iexact HO
    iintro %u ⟨Hf, Ha, HO⟩
    isplitl [Hg Hd Hf Ha Hj Ho]
    · isplitl [Hg Hd Hf]
      · iapply Hg; isplitl [Hd]; · iexact Hd
        iexact Hf
      isplitl [Ha]; · iexact Ha
      isplitl [Hj]; · iexact Hj
      iexact Ho
    iexact HO
  · show iprop(records D K ∗ (ghost (F := F) c l 2 ∗ accHeld D c l 2 1 ∗ junk (F := F) c l 0 ∗ outFree (F := F) c l (ownSl l.2 c)) ∗ owing c (owed c f)) ⊢ run c (rsTake (F := F) l.1 l.2 1 c >>= fun _ => rsIssue l.1 l.2 2 c) fun _ => iprop((ghost (F := F) c l 3 ∗ accHeld D c l 3 2 ∗ junk (F := F) c l 0 ∗ junk (F := F) c l 1 ∗ outFree (F := F) c l (ownSl l.2 c)) ∗ owing c (owed c (Function.update f l 3)))
    iintro ⟨#HR, ⟨Hg, Ha, Hj0, Ho⟩, HO⟩
    ihave Hg := (ghost_next c l (.inl 1) (.inl 2) 2 3 rfl rfl rfl) $$ Hg
    icases Hg with ⟨Hf, Hu, Hg⟩
    iapply (run_seq (rsTake_spec D K c l 1 f hw)) $$ [Hf Ha HO]
    · isplitr; · iexact HR
      isplitl [Hf]; · iexact Hf
      isplitl [Ha]; · iexact Ha
      iexact HO
    rw [owed_upd c f l (.inl 2) h]
    iintro ⟨Hd, Ha, Hj, HO⟩
    iapply (wp_wand frame (wpE (defs₀ (F := F)) 𝒱₀ (c : Thread nD τ) none) Set.univ
      (Q := fun _ => iprop(Fl (F := F) c l (.inl 2) ∗ accHeld D c l 3 2 ∗ owing c (owed c (Function.update f l 3))))) $$ [Hu Ha HO]
    · iapply (rsIssue_spec D K c l 2 (owed c (Function.update f l 3)))
      isplitr; · iexact HR
      isplitl [Hu]; · iexact Hu
      isplitl [Ha]; · iexact Ha
      iexact HO
    iintro %u ⟨Hf, Ha, HO⟩
    isplitl [Hg Hd Hf Ha Hj0 Hj Ho]
    · isplitl [Hg Hd Hf]
      · iapply Hg; isplitl [Hd]; · iexact Hd
        iexact Hf
      isplitl [Ha]; · iexact Ha
      isplitl [Hj0]; · iexact Hj0
      isplitl [Hj]; · iexact Hj
      iexact Ho
    iexact HO
  · show iprop(records D K ∗ (ghost (F := F) c l 3 ∗ accHeld D c l 3 2 ∗ junk (F := F) c l 0 ∗ junk (F := F) c l 1 ∗ outFree (F := F) c l (ownSl l.2 c)) ∗ owing c (owed c f))
      ⊢ run c (rsTake (F := F) l.1 l.2 2 c >>= fun _ => ownStore l.1 l.2 c >>= fun _ => agIssue l.1 l.2 c 0) fun _ => iprop((ghost (F := F) c l 4 ∗ accHeld D c l 3 3 ∗ junk (F := F) c l 0 ∗ junk (F := F) c l 1 ∗ junk (F := F) c l 2) ∗ owing c (owed c (Function.update f l 4)))
    iintro ⟨#HR, ⟨Hg, Ha, Hj0, Hj1, Ho⟩, HO⟩
    ihave Hg := (ghost_next c l (.inl 2) (.inr 0) 3 4 rfl rfl rfl) $$ Hg
    icases Hg with ⟨Hf, Hu, Hg⟩
    iapply (run_seq (rsTake_spec D K c l 2 f hw)) $$ [Hf Ha HO]
    · isplitr; · iexact HR
      isplitl [Hf]; · iexact Hf
      isplitl [Ha]; · iexact Ha
      iexact HO
    rw [owed_upd c f l (.inr 0) h]
    iintro ⟨Hd, Ha, Hj, HO⟩
    iapply (run_seq (ownStore_spec D c l)) $$ [Ha Ho]
    · isplitl [Ha]; · iexact Ha
      iexact Ho
    iintro ⟨Ha, Ho⟩
    iapply (wp_wand frame (wpE (defs₀ (F := F)) 𝒱₀ (c : Thread nD τ) none) Set.univ
      (Q := fun _ => iprop(Fl (F := F) c l (.inr 0) ∗ owing c (owed c (Function.update f l 4))))) $$ [Hu Ho HO]
    · iapply (agIssue_spec D K c l 0 (owed c (Function.update f l 4)))
      isplitr; · iexact HR
      isplitl [Hu]; · iexact Hu
      isplitl [Ho]
      · unfold outSlots
        rw [show slots l.2 (3 - (0 : Fin 3).val) c = {ownSl l.2 c} from slots_own _ _, bigSep_singleton]
        iexact Ho
      iexact HO
    iintro %u ⟨Hf, HO⟩
    isplitl [Hg Hd Hf Ha Hj0 Hj1 Hj]
    · isplitl [Hg Hd Hf]
      · iapply Hg; isplitl [Hd]; · iexact Hd
        iexact Hf
      isplitl [Ha]; · iexact Ha
      isplitl [Hj0]; · iexact Hj0
      isplitl [Hj1]; · iexact Hj1
      iexact Hj
    iexact HO

/-- A middle step of the gathering: wait, then issue the next. -/
theorem ag_mid (c : Dev nD) (l : Lane) (j j' : Fin 3) (hj : j'.val = j.val + 1) (f : Lane → ℕ) (h : f l = j'.val + 3) (hf : ∀ l', ord (.inr j) < f l') :
    iprop(records D K ∗ ghost (F := F) c l (ord (.inr j) + 1) ∗ owing c (owed c f))
      ⊢ run c (agWaits (F := F) l.1 l.2 c j >>= fun _ => agIssue l.1 l.2 c j') fun _ =>
        iprop(ghost (F := F) c l (ord (.inr j) + 2) ∗ owing c (owed c (Function.update f l (j'.val + 3 + 1)))) := by
  iintro ⟨#HR, Hg, HO⟩
  ihave Hg := (ghost_next c l (.inr j) (.inr j') _ _ rfl rfl (by show j'.val + 3 = j.val + 3 + 1; omega)) $$ Hg
  icases Hg with ⟨Hf, Hu, Hg⟩
  iapply (run_seq (agWaits_spec D K c l j f hf)) $$ [Hf HO]
  · isplitr; · iexact HR
    isplitl [Hf]; · iexact Hf
    iexact HO
  rw [owed_upd c f l (.inr j') h]
  iintro ⟨Hd, Ho, HO⟩
  iapply (wp_wand frame (wpE (defs₀ (F := F)) 𝒱₀ (c : Thread nD τ) none) Set.univ
    (Q := fun _ => iprop(Fl (F := F) c l (.inr j') ∗ owing c (owed c (Function.update f l (j'.val + 3 + 1)))))) $$ [Hu Ho HO]
  · iapply (agIssue_spec D K c l j' (owed c (Function.update f l (j'.val + 3 + 1))))
    isplitr; · iexact HR
    isplitl [Hu]; · iexact Hu
    isplitl [Ho]
    · rw [show 3 - j'.val = 2 - j.val by omega]; iexact Ho
    iexact HO
  iintro %u ⟨Hf, HO⟩
  isplitl [Hg Hd Hf]
  · iapply Hg; isplitl [Hd]; · iexact Hd
    iexact Hf
  iexact HO

/-- A gathering step takes a lane from one stage to the next, and what the device owes goes down by the phase issued. -/
theorem ag_spec (c : Dev nD) (l : Lane) (j : Fin 3) (f : Lane → ℕ) (h : f l = j.val + 4) (hf : ∀ l', j.val + 4 ≤ f l') :
    iprop(records D K ∗ lane D c l (j.val + 4) ∗ owing c (owed c f))
      ⊢ run c (agStep (F := F) j l.1 l.2 c) fun _ => iprop(lane D c l (j.val + 5) ∗ owing c (owed c (Function.update f l (j.val + 5)))) := by
  have hw : ∀ l', ord (.inr j) < f l' := hf
  fin_cases j
  · show iprop(records D K ∗ (ghost (F := F) c l 4 ∗ mems D c l 4) ∗ owing c (owed c f)) ⊢ run c (agWaits (F := F) l.1 l.2 c 0 >>= fun _ => agIssue l.1 l.2 c 1) fun _ => iprop((ghost (F := F) c l 5 ∗ mems D c l 5) ∗ owing c (owed c (Function.update f l 5)))
    iintro ⟨#HR, ⟨Hg, Hm⟩, HO⟩
    iapply (wp_wand frame (wpE (defs₀ (F := F)) 𝒱₀ (c : Thread nD τ) none) Set.univ
      (Q := fun _ => iprop(ghost (F := F) c l 5 ∗ owing c (owed c (Function.update f l 5))))) $$ [Hg HO]
    · iapply (ag_mid D K c l 0 1 rfl f h hw)
      isplitr; · iexact HR
      isplitl [Hg]; · iexact Hg
      iexact HO
    iintro %u ⟨Hg, HO⟩
    isplitl [Hg Hm]
    · isplitl [Hg]; · iexact Hg
      iexact Hm
    iexact HO
  · show iprop(records D K ∗ (ghost (F := F) c l 5 ∗ mems D c l 5) ∗ owing c (owed c f)) ⊢ run c (agWaits (F := F) l.1 l.2 c 1 >>= fun _ => agIssue l.1 l.2 c 2) fun _ => iprop((ghost (F := F) c l 6 ∗ mems D c l 6) ∗ owing c (owed c (Function.update f l 6)))
    iintro ⟨#HR, ⟨Hg, Hm⟩, HO⟩
    iapply (wp_wand frame (wpE (defs₀ (F := F)) 𝒱₀ (c : Thread nD τ) none) Set.univ
      (Q := fun _ => iprop(ghost (F := F) c l 6 ∗ owing c (owed c (Function.update f l 6))))) $$ [Hg HO]
    · iapply (ag_mid D K c l 1 2 rfl f h hw)
      isplitr; · iexact HR
      isplitl [Hg]; · iexact Hg
      iexact HO
    iintro %u ⟨Hg, HO⟩
    isplitl [Hg Hm]
    · isplitl [Hg]; · iexact Hg
      iexact Hm
    iexact HO
  · show iprop(records D K ∗ (ghost (F := F) c l 6 ∗ accHeld D c l 3 3 ∗ junk (F := F) c l 0 ∗ junk (F := F) c l 1 ∗ junk (F := F) c l 2) ∗ owing c (owed c f)) ⊢ run c (agWaits (F := F) l.1 l.2 c 2 >>= fun _ => (pure ⟨⟩ : TcProg F PUnit)) fun _ => iprop((ghost (F := F) c l 7 ∗ accHeld D c l 3 3 ∗ junk (F := F) c l 0 ∗ junk (F := F) c l 1 ∗ junk (F := F) c l 2 ∗ outSlots D c l 0) ∗ owing c (owed c (Function.update f l 7)))
    iintro ⟨#HR, ⟨Hg, Ha, Hj0, Hj1, Hj2⟩, HO⟩
    ihave Hg := (ghost_last c l) $$ Hg
    icases Hg with ⟨Hf, Hg⟩
    iapply (run_seq (agWaits_spec D K c l 2 f hw)) $$ [Hf HO]
    · isplitr; · iexact HR
      isplitl [Hf]; · iexact Hf
      iexact HO
    rw [owed_last c f l h]
    iintro ⟨Hd, Ho, HO⟩
    unfold run; rw [Prog.pure_eq_ret, wp_ret]; imodintro
    isplitl [Hg Hd Ha Hj0 Hj1 Hj2 Ho]
    · isplitl [Hg Hd]
      · iapply Hg; iexact Hd
      isplitl [Ha]; · iexact Ha
      isplitl [Hj0]; · iexact Hj0
      isplitl [Hj1]; · iexact Hj1
      isplitl [Hj2]; · iexact Hj2
      iexact Ho
    iexact HO

/-! ## All the lanes -/

/-- The lanes of a device, each as far as `f` says, and what the device owes. -/
def lanes (c : Dev nD) (f : Lane → ℕ) : sProp 𝕄 := iprop((bigSep Finset.univ fun l => lane D c l (f l)) ∗ owing c (owed c f))

/-- A step of one lane. -/
theorem lanes_step (c : Dev nD) (n : ℕ) (l : Lane) (f : Lane → ℕ) (p : TcProg F PUnit)
    (hp : iprop(records D K ∗ lane D c l n ∗ owing c (owed c f)) ⊢ run c p fun _ => iprop(lane D c l (n + 1) ∗ owing c (owed c (Function.update f l (n + 1)))))
    (h : f l = n) :
    iprop(records D K ∗ lanes D c f) ⊢ run c p fun _ => lanes D c (Function.update f l (n + 1)) := by
  unfold lanes
  iintro ⟨#HR, HL, HO⟩
  ihave HL := (bigSep_univ_update (Φ := fun x => lane D c x (f x)) (Ψ := fun x => lane D c x (Function.update f l (n + 1) x)) l
    (fun x hx => by rw [Function.update_of_ne hx])) $$ HL
  icases HL with ⟨Hl, HL⟩
  iapply (wp_wand frame (wpE (defs₀ (F := F)) 𝒱₀ (c : Thread nD τ) none) Set.univ
      (Q := fun _ => iprop(lane D c l (n + 1) ∗ owing c (owed c (Function.update f l (n + 1)))))) $$ [Hl HO]
  · iapply hp
    isplitr; · iexact HR
    isplitl [Hl]; · rw [← h]; iexact Hl
    iexact HO
  iintro %u ⟨Hl, HO⟩
  isplitl [HL Hl]
  · iapply HL; rw [Function.update_self]; iexact Hl
  iexact HO

/-- A loop over no elements does nothing. -/
theorem forM_nil {α : Type} (p : α → TcProg F PUnit) : ([] : List α).forM p = Prog.ret ⟨⟩ := rfl
/-- A loop over a list runs its first element and then loops over the rest. -/
theorem forM_cons {α : Type} (p : α → TcProg F PUnit) (a : α) (r : List α) : (a :: r).forM p = (p a >>= fun _ => r.forM p) := rfl

/-- A loop over three elements runs them in turn. -/
theorem forM_three {α : Type} (p : α → TcProg F PUnit) (a b d : α) : [a, b, d].forM p = (p a >>= fun _ => p b >>= fun _ => p d >>= fun _ => Prog.ret ⟨⟩) := rfl

/-- Moving on one group's two lanes and then the lanes of the groups left moves on the lanes of all of them. -/
theorem sweep_fun (f : Lane → ℕ) (g : Fin 4) (gs : List (Fin 4)) (n : ℕ) :
    (fun l : Lane => if l.1 ∈ gs then n + 1 else Function.update (Function.update f (g, 0) (n + 1)) (g, 1) (n + 1) l) = fun l => if l.1 ∈ g :: gs then n + 1 else f l := by
  have hne : ((g, 1) : Lane) ≠ (g, 0) := fun e => by cases e
  funext l
  obtain ⟨lg, la⟩ := l
  dsimp only
  by_cases hl : lg ∈ gs
  · rw [if_pos hl, if_pos (List.mem_cons_of_mem _ hl)]
  · rw [if_neg hl]
    by_cases e : lg = g
    · subst e
      rw [if_pos (List.mem_cons_self ..)]
      have : la = 0 ∨ la = 1 := by omega
      rcases this with rfl | rfl
      · rw [Function.update_of_ne (Ne.symm hne), Function.update_self]
      · rw [Function.update_self]
    · rw [if_neg (fun h => (List.mem_cons.mp h).elim e hl), Function.update_of_ne (fun h => e (congrArg Prod.fst h)), Function.update_of_ne (fun h => e (congrArg Prod.fst h))]

/-- A sweep over the groups `gs`, both halves of each. -/
theorem sweep (c : Dev nD) (n : ℕ) (step : Fin 4 → Fin 2 → TcProg F PUnit)
    (hs : ∀ (l : Lane) (f : Lane → ℕ), f l = n → (∀ l', n ≤ f l') →
      iprop(records D K ∗ lane D c l n ∗ owing c (owed c f)) ⊢ run c (step l.1 l.2) fun _ => iprop(lane D c l (n + 1) ∗ owing c (owed c (Function.update f l (n + 1))))) :
    ∀ (gs : List (Fin 4)) (f : Lane → ℕ), gs.Nodup → (∀ l, n ≤ f l) → (∀ l : Lane, l.1 ∈ gs → f l = n) →
      iprop(records D K ∗ lanes D c f) ⊢ run c (gs.forM fun g => do step g 0; step g 1) fun _ => lanes D c fun l => if l.1 ∈ gs then n + 1 else f l
  | [], f, _, _, _ => by
    rw [forM_nil]
    unfold run; rw [wp_ret]
    iintro ⟨-, H⟩; imodintro
    simp only [List.not_mem_nil, if_false]
    iexact H
  | g :: gs, f, hn, hf, hg => by
    have hup : ∀ (f : Lane → ℕ) (l : Lane), (∀ l', n ≤ f l') → ∀ l', n ≤ Function.update f l (n + 1) l' := fun f l hf l' => by
      by_cases e : l' = l
      · rw [e, Function.update_self]; omega
      · rw [Function.update_of_ne e]; exact hf l'
    have hne : ((g, 1) : Lane) ≠ (g, 0) := fun e => by cases e
    have h0 : f (g, 0) = n := hg (g, 0) (List.mem_cons_self ..)
    have h1 : Function.update f (g, 0) (n + 1) (g, 1) = n := (Function.update_of_ne hne ..).trans (hg (g, 1) (List.mem_cons_self ..))
    have hgs : g ∉ gs := (List.nodup_cons.mp hn).1
    have hpair : iprop(records D K ∗ lanes D c f) ⊢ run c (step g 0 >>= fun _ => step g 1) fun _ => lanes D c (Function.update (Function.update f (g, 0) (n + 1)) (g, 1) (n + 1)) := by
      iintro ⟨#HR, H⟩
      iapply (run_seq (lanes_step D K c n (g, 0) f (step g 0) (hs (g, 0) f h0 hf) h0)) $$ [H]
      · isplitr; · iexact HR
        iexact H
      iintro H
      iapply (lanes_step D K c n (g, 1) _ (step g 1) (hs (g, 1) _ h1 (hup f _ hf)) h1)
      isplitr; · iexact HR
      iexact H
    rw [forM_cons]
    iintro ⟨#HR, H⟩
    iapply (run_seq hpair) $$ [H]
    · isplitr; · iexact HR
      iexact H
    iintro H
    iapply (wp_wand frame (wpE (defs₀ (F := F)) 𝒱₀ (c : Thread nD τ) none) Set.univ) $$ [H]
    · iapply (sweep c n step hs gs _ (List.nodup_cons.mp hn).2 (hup _ (g, 1) (hup f (g, 0) hf)) fun l hl => by
        have hlg : l.1 ≠ g := fun e => hgs (e ▸ hl)
        rw [Function.update_of_ne (fun e => hlg (by rw [e])), Function.update_of_ne (fun e => hlg (by rw [e]))]
        exact hg l (List.mem_cons_of_mem _ hl))
      isplitr; · iexact HR
      iexact H
    iintro %u H
    iapply (Entails.of_eq (congrArg (lanes D c) (sweep_fun f g gs n)))
    iexact H

/-- A sweep over all four groups. -/
theorem sweep_all (c : Dev nD) (n : ℕ) (step : Fin 4 → Fin 2 → TcProg F PUnit)
    (hs : ∀ (l : Lane) (f : Lane → ℕ), f l = n → (∀ l', n ≤ f l') →
      iprop(records D K ∗ lane D c l n ∗ owing c (owed c f)) ⊢ run c (step l.1 l.2) fun _ => iprop(lane D c l (n + 1) ∗ owing c (owed c (Function.update f l (n + 1))))) :
    iprop(records D K ∗ lanes D c fun _ => n) ⊢ run c ([0, 1, 2, 3].forM fun g => do step g 0; step g 1) fun _ => lanes D c fun _ => n + 1 := by
  have e : (fun l : Lane => if l.1 ∈ ([0, 1, 2, 3] : List (Fin 4)) then n + 1 else n) = fun _ => n + 1 := funext fun l => if_pos (by revert l; decide)
  have := sweep D K c n step hs [0, 1, 2, 3] (fun _ => n) (by decide) (fun _ => le_refl _) (fun _ _ => rfl)
  rw [e] at this
  exact this

/-- The halving loop. -/
theorem rsLoop_spec (c : Dev nD) : iprop(records D K ∗ lanes D c fun _ => 1) ⊢ run c (rsLoop (F := F) c) fun _ => lanes D c fun _ => 4 := by
  have h := fun j : Fin 3 => sweep_all D K c (j.val + 1) (fun g a => rsStep (F := F) j g a c) fun l f h hf => rs_spec D K c l j f h hf
  unfold rsLoop
  rw [forM_three]
  iintro ⟨#HR, H⟩
  iapply (run_seq (h 0)) $$ [H]
  · isplitr; · iexact HR
    iexact H
  iintro H
  iapply (run_seq (h 1)) $$ [H]
  · isplitr; · iexact HR
    iexact H
  iintro H
  iapply (run_seq (h 2)) $$ [H]
  · isplitr; · iexact HR
    iexact H
  iintro H
  unfold run; rw [wp_ret]; imodintro
  iexact H

/-- The gathering loop. -/
theorem agLoop_spec (c : Dev nD) : iprop(records D K ∗ lanes D c fun _ => 4) ⊢ run c (agLoop (F := F) c) fun _ => lanes D c fun _ => 7 := by
  have h := fun j : Fin 3 => sweep_all D K c (j.val + 4) (fun g a => agStep (F := F) j g a c) fun l f h hf => ag_spec D K c l j f h hf
  unfold agLoop
  rw [forM_three]
  iintro ⟨#HR, H⟩
  iapply (run_seq (h 0)) $$ [H]
  · isplitr; · iexact HR
    iexact H
  iintro H
  iapply (run_seq (h 1)) $$ [H]
  · isplitr; · iexact HR
    iexact H
  iintro H
  iapply (run_seq (h 2)) $$ [H]
  · isplitr; · iexact HR
    iexact H
  iintro H
  unfold run; rw [wp_ret]; imodintro
  iexact H

end Cert.Hyper

end
-- ==== Proof.Stage.lean ====
/-
Before the loops: laying a group's partial product out, starting a group's two halvings, fetching the weights, and the wait at
the barrier.
-/
module

public import proofs.«01_k».proof.Proof.Lanes

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CK → ℕ)

/-! ## Laying out -/

/-- An accumulator with its first `n` row blocks laid out. -/
def laid (c : Dev nD) (l : Lane) (n : ℕ) : sProp 𝕄 :=
  iprop(∃ X, ⌜∀ i : S8x16x1024.Idx, (chunkOf l.2 (i 0)).val < n → X i = accF D c l.1 l.2 0 i⌝ ∗ heldOn (c : Thread nD τ) (accL l) Finset.univ X)

/-- A row block's slot, index by index. -/
theorem slot_emb (a : Fin 2) (ch : Fin 8) (y : S1x16x1024.Idx) : (slotR a ch).emb y = accIx (slotOf a ch) (y 1) (y 2) := by
  have h0 : (y 0).val < 1 := (y 0).isLt
  funext b
  fin_cases b
  · exact Fin.ext (by show slotN a ch + 1 * (y 0).val = slotN a ch; omega)
  · exact Fin.ext (by show 0 + 1 * (y 1).val = (y 1).val; omega)
  · exact Fin.ext (by show 0 + 1 * (y 2).val = (y 2).val; omega)

/-- An index of one slot is given by its row and column. -/
theorem slotIx_eta (y : S1x16x1024.Idx) : slotIx (y 1) (y 2) = y := by
  have h0 : (y 0).val < 1 := (y 0).isLt
  funext b
  fin_cases b
  · exact Fin.ext (by show 0 = (y 0).val; omega)
  · rfl
  · rfl

/-- An index whose slot holds a row block lies in the row block's slot. -/
theorem mem_slotR (a : Fin 2) (ch : Fin 8) (i : S8x16x1024.Idx) (h : chunkOf a (i 0) = ch) : i ∈ (slotR a ch).set := by
  have e : i = (slotR a ch).emb (slotIx (i 1) (i 2)) := by
    rw [slot_emb, ← h]
    funext b
    fin_cases b
    · exact (slot_chunk a (i 0)).symm
    · rfl
    · rfl
  rw [e]; exact rect_emb_mem _ _

/-- Storing one row block lays out one more. -/
theorem slabStore_spec (c : Dev nD) (l : Lane) (ch : Fin 8) :
    laid D c l ch.val ⊢ run c (slabStore (F := F) l.1 l.2 (D.b c l.1) ch) fun _ => laid D c l (ch.val + 1) := by
  unfold laid slabStore
  simp only [Prog.lift, Prog.bind_op, Prog.bind_ret, Prog.pure_eq_ret]
  iintro ⟨%X, %hX, H⟩
  iapply (wp_load_held 𝒱₀ (c : Thread nD τ) none Set.univ (m := accL l) (r := slotR l.2 ch) (Finset.subset_univ _)) $$ H
  iintro H
  iapply (wp_store_held 𝒱₀ (c : Thread nD τ) none Set.univ (m := accL l) (r := slotR l.2 ch)
      (fun i => if chunkOf l.2 (i 0) = ch then accF D c l.1 l.2 0 i else X i) (Finset.subset_univ _)
      (fun y => by
        rw [slot_emb]
        show (if chunkOf l.2 (slotOf l.2 ch) = ch then slab (D.b c l.1) l.2 (chunkOf l.2 (slotOf l.2 ch)) (slotIx (y 1) (y 2)) else _) = slab (D.b c l.1) l.2 ch y
        rw [if_pos (chunk_slot _ _), chunk_slot, slotIx_eta])
      (fun i _ hn => if_neg fun h => hn (mem_slotR l.2 ch i h))) $$ H
  iintro H
  rw [wp_ret]; imodintro
  iexists _
  isplitr
  swap; · iexact H
  ipureintro
  intro i hi
  by_cases h : chunkOf l.2 (i 0) = ch
  · exact if_pos h
  · refine (if_neg h).trans (hX i ?_)
    have : (chunkOf l.2 (i 0)).val ≠ ch.val := fun e => h (Fin.ext e)
    omega

/-- The loop over the row blocks lays out all of them in both lanes of a group. -/
theorem layOut_from (c : Dev nD) (g : Fin 4) : ∀ (chs : List (Fin 8)) (n : ℕ), chs.map Fin.val = List.range' n chs.length →
    iprop(laid D c (g, 0) n ∗ laid D c (g, 1) n)
      ⊢ run c (chs.forM fun ch => do slabStore (F := F) g 0 (D.b c g) ch; slabStore g 1 (D.b c g) ch) fun _ =>
        iprop(laid D c (g, 0) (n + chs.length) ∗ laid D c (g, 1) (n + chs.length))
  | [], n, _ => by
    rw [forM_nil]
    unfold run; rw [wp_ret]
    iintro H; imodintro
    iexact H
  | ch :: chs, n, h => by
    rw [List.map_cons, List.length_cons, List.range'_succ] at h
    obtain ⟨h0, h1⟩ := List.cons.inj h
    have hp : iprop(laid D c (g, 0) n ∗ laid D c (g, 1) n) ⊢ run c (slabStore (F := F) g 0 (D.b c g) ch >>= fun _ => slabStore g 1 (D.b c g) ch) fun _ =>
        iprop(laid D c (g, 0) (n + 1) ∗ laid D c (g, 1) (n + 1)) := by
      rw [← h0]
      iintro ⟨H0, H1⟩
      iapply (run_seq (slabStore_spec D c (g, 0) ch)) $$ [H0]
      · iexact H0
      iintro H0
      iapply (wp_wand frame (wpE (defs₀ (F := F)) 𝒱₀ (c : Thread nD τ) none) Set.univ (Q := fun _ => laid D c (g, 1) (ch.val + 1))) $$ [H1]
      · iapply (slabStore_spec D c (g, 1) ch); iexact H1
      iintro %u H1
      isplitl [H0] <;> iassumption
    rw [forM_cons, List.length_cons, show n + (chs.length + 1) = n + 1 + chs.length by omega]
    iintro H
    iapply (run_seq hp) $$ [H]
    · iexact H
    iintro H
    iapply (layOut_from c g chs (n + 1) h1)
    iexact H

/-- An accumulator at any contents has no row block laid out. -/
theorem laid_zero (c : Dev nD) (l : Lane) : (anyOn (c : Thread nD τ) (accL l) Finset.univ : sProp 𝕄) ⊢ laid D c l 0 := by
  unfold anyOn laid
  iintro ⟨%X, H⟩
  iexists X
  isplitr; · ipureintro; exact fun i hi => absurd hi (Nat.not_lt_zero _)
  iexact H
/-- With all eight laid out, the accumulator holds the device's partial product. -/
theorem laid_all (c : Dev nD) (l : Lane) : laid D c l 8 ⊢ accHeld D c l 0 0 := by
  unfold laid accHeld
  rw [accS_zero]
  iintro ⟨%X, %hX, H⟩
  iapply (heldOn_mono (c := (c : Thread nD τ)) (m := accL l) (X := X) fun i _ => hX i (chunkOf l.2 (i 0)).isLt)
  iexact H

/-- A group's two accumulators, its partial product laid out. -/
theorem layOut_spec (c : Dev nD) (g : Fin 4) :
    iprop(anyOn (c : Thread nD τ) (accL (g, 0)) Finset.univ ∗ anyOn (c : Thread nD τ) (accL (g, 1)) Finset.univ)
      ⊢ run c (layOut (F := F) g (D.b c g)) fun _ => iprop(accHeld D c (g, 0) 0 0 ∗ accHeld D c (g, 1) 0 0) := by
  unfold layOut
  iintro ⟨H0, H1⟩
  iapply (wp_wand frame (wpE (defs₀ (F := F)) 𝒱₀ (c : Thread nD τ) none) Set.univ (Q := fun _ => iprop(laid D c (g, 0) 8 ∗ laid D c (g, 1) 8))) $$ [H0 H1]
  · iapply (layOut_from D c g [0, 1, 2, 3, 4, 5, 6, 7] 0 (by decide))
    isplitl [H0]; · iapply (laid_zero D c (g, 0)); iexact H0
    iapply (laid_zero D c (g, 1)); iexact H1
  iintro %u ⟨H0, H1⟩
  isplitl [H0]; · iapply (laid_all D c (g, 0)); iexact H0
  iapply (laid_all D c (g, 1)); iexact H1

/-! ## Starting a group -/

/-- A lane laid out, nothing issued. -/
def ready (c : Dev nD) (l : Lane) : sProp 𝕄 := iprop(ghost (F := F) c l 0 ∗ accHeld D c l 0 0 ∗ outFree (F := F) c l (ownSl l.2 c))

/-- A lane that has issued its first phase, written out. -/
theorem lane_one (c : Dev nD) (l : Lane) : lane D c l 1 = iprop(ghost (F := F) c l 1 ∗ accHeld D c l 1 0 ∗ outFree (F := F) c l (ownSl l.2 c)) := rfl
/-- A lane that has issued nothing, written out. -/
theorem lane_zero (c : Dev nD) (l : Lane) :
    lane D c l 0 = iprop(ghost (F := F) c l 0 ∗ anyOn (c : Thread nD τ) (accL l) Finset.univ ∗ outFree (F := F) c l (ownSl l.2 c)) := rfl

/-- Issuing the first halving of a lane that is laid out. -/
theorem rs0_spec (c : Dev nD) (l : Lane) (f : Lane → ℕ) (h : f l = 0) :
    iprop(records D K ∗ ready D c l ∗ owing c (owed c f))
      ⊢ run c (rsIssue (F := F) l.1 l.2 0 c) fun _ => iprop(lane D c l 1 ∗ owing c (owed c (Function.update f l 1))) := by
  unfold ready
  rw [owed_upd c f l (.inl 0) h]
  iintro ⟨#HR, ⟨Hg, Ha, Ho⟩, HO⟩
  ihave Hg := (ghost_first c l) $$ Hg
  icases Hg with ⟨Hu, Hg⟩
  iapply (wp_wand frame (wpE (defs₀ (F := F)) 𝒱₀ (c : Thread nD τ) none) Set.univ
    (Q := fun _ => iprop(Fl (F := F) c l (.inl 0) ∗ accHeld D c l 1 0 ∗ owing c (owed c (Function.update f l 1))))) $$ [Hu Ha HO]
  · iapply (rsIssue_spec D K c l 0 (owed c (Function.update f l 1)))
    isplitr; · iexact HR
    isplitl [Hu]; · iexact Hu
    isplitl [Ha]; · iexact Ha
    iexact HO
  iintro %u ⟨Hf, Ha, HO⟩
  isplitl [Hg Hf Ha Ho]
  · rw [lane_one]
    isplitl [Hg Hf]
    · iapply Hg; iexact Hf
    isplitl [Ha]; · iexact Ha
    iexact Ho
  iexact HO

/-- The lanes other than a group's two. -/
def others (c : Dev nD) (g : Fin 4) (f : Lane → ℕ) : sProp 𝕄 := bigSep ((Finset.univ.erase ((g, 0) : Lane)).erase (g, 1)) fun l => lane D c l (f l)

/-- With group `g` started. -/
def started (g : Fin 4) (f : Lane → ℕ) : Lane → ℕ := Function.update (Function.update f (g, 0) 1) (g, 1) 1

/-- All lanes of a device are a group's two and the others. -/
theorem lanes_pair (c : Dev nD) (g : Fin 4) (f : Lane → ℕ) :
    lanes D c f = iprop((lane D c (g, 0) (f (g, 0)) ∗ lane D c (g, 1) (f (g, 1)) ∗ others D c g f) ∗ owing c (owed c f)) := by
  unfold lanes others
  have hne : ((g, 1) : Lane) ≠ (g, 0) := fun e => by cases e
  exact congrArg (fun P => BI.sep P (owing c (owed c f))) ((bigSep_erase (Finset.mem_univ ((g, 0) : Lane))).trans (congrArg (BI.sep _) (bigSep_erase (Finset.mem_erase.mpr ⟨hne, Finset.mem_univ _⟩))))

/-- Starting a group changes nothing for the other lanes. -/
theorem others_started (c : Dev nD) (g : Fin 4) (f : Lane → ℕ) : others D c g f = others D c g (started g f) := by
  unfold others started
  refine bigSep_congr fun l hl => ?_
  rw [Function.update_of_ne (Finset.ne_of_mem_erase hl), Function.update_of_ne (Finset.ne_of_mem_erase (Finset.mem_of_mem_erase hl))]

/-- Starting a group's two halvings. -/
theorem start_spec (c : Dev nD) (g : Fin 4) (f : Lane → ℕ) (h0 : f (g, 0) = 0) (h1 : f (g, 1) = 0) :
    iprop(records D K ∗ (ready D c (g, 0) ∗ ready D c (g, 1) ∗ others D c g f) ∗ owing c (owed c f))
      ⊢ run c (rsIssue (F := F) g 0 0 c >>= fun _ => rsIssue g 1 0 c) fun _ => lanes D c (started g f) := by
  have hne : ((g, 1) : Lane) ≠ (g, 0) := fun e => by cases e
  rw [lanes_pair D c g (started g f), ← others_started,
    show started g f (g, 0) = 1 by unfold started; rw [Function.update_of_ne (Ne.symm hne), Function.update_self],
    show started g f (g, 1) = 1 by unfold started; rw [Function.update_self]]
  iintro ⟨#HR, ⟨H0, H1, Hr⟩, HO⟩
  iapply (run_seq (rs0_spec D K c (g, 0) f h0)) $$ [H0 HO]
  · isplitr; · iexact HR
    isplitl [H0] <;> iassumption
  iintro ⟨H0, HO⟩
  iapply (wp_wand frame (wpE (defs₀ (F := F)) 𝒱₀ (c : Thread nD τ) none) Set.univ
    (Q := fun _ => iprop(lane D c (g, 1) 1 ∗ owing c (owed c (started g f))))) $$ [H1 HO]
  · iapply (rs0_spec D K c (g, 1) (Function.update f (g, 0) 1) ((Function.update_of_ne hne ..).trans h1))
    isplitr; · iexact HR
    isplitl [H1] <;> iassumption
  iintro %u ⟨H1, HO⟩
  isplitl [H0 H1 Hr]
  · isplitl [H0]; · iexact H0
    isplitl [H1] <;> iassumption
  iexact HO

/-- Lanes not yet laid out, but for their accumulators. -/
def bare (c : Dev nD) (l : Lane) : sProp 𝕄 := iprop(ghost (F := F) c l 0 ∗ outFree (F := F) c l (ownSl l.2 c))

/-- A later group: its rows read, its partial product laid out, and its halvings started. -/
theorem group_spec (c : Dev nD) (g : Fin 4) (f : Lane → ℕ) (h0 : f (g, 0) = 0) (h1 : f (g, 1) = 0)
    (wq : Vec F S1024x1024 .f32) (wk wv : Vec F S1024x256 .f32) (wo : Vec F S1024x1024 .f32) (x : S4x256x1024.Idx → Elt F .f32)
    (hb : part wq wk wv wo g (fun y => x ((xR g).emb y)) = D.b c g) :
    iprop(records D K ∗ heldOn (c : Thread nD τ) xM Finset.univ x ∗ lanes D c f)
      ⊢ run c (group (F := F) g c wq wk wv wo) fun _ => iprop(heldOn (c : Thread nD τ) xM Finset.univ x ∗ lanes D c (started g f)) := by
  have hl := layOut_spec D c g
  rw [← hb] at hl
  rw [lanes_pair D c g f, h0, h1, lane_zero, lane_zero]
  unfold group groupTail Prog.lift
  rw [Prog.bind_op]
  iintro ⟨#HR, Hx, ⟨⟨Hg0, Ha0, Ho0⟩, ⟨Hg1, Ha1, Ho1⟩, Hr⟩, HO⟩
  iapply (wp_load_held 𝒱₀ (c : Thread nD τ) none Set.univ (m := xM) (r := xR g) (Finset.subset_univ _)) $$ Hx
  iintro Hx
  rw [Prog.bind_ret]
  iapply (run_seq hl) $$ [Ha0 Ha1]
  · isplitl [Ha0] <;> iassumption
  iintro ⟨Ha0, Ha1⟩
  iapply (wp_wand frame (wpE (defs₀ (F := F)) 𝒱₀ (c : Thread nD τ) none) Set.univ (Q := fun _ => lanes D c (started g f))) $$ [Hg0 Ha0 Ho0 Hg1 Ha1 Ho1 Hr HO]
  · iapply (start_spec D K c g f h0 h1)
    isplitr; · iexact HR
    isplitl [Hg0 Ha0 Ho0 Hg1 Ha1 Ho1 Hr]
    · unfold ready
      isplitl [Hg0 Ha0 Ho0]
      · isplitl [Hg0]; · iexact Hg0
        isplitl [Ha0] <;> iassumption
      isplitl [Hg1 Ha1 Ho1]
      · isplitl [Hg1]; · iexact Hg1
        isplitl [Ha1] <;> iassumption
      iexact Hr
    iexact HO
  iintro %u HL
  isplitl [Hx] <;> iassumption

/-! ## Fetching -/

/-- A fetch's token and the owner's place in its cell. -/
def fetchGhost (c : Dev nD) (k : Fin 3) : sProp 𝕄 := iprop(dutyTok ER (cell c (kC k)) 0 0 ∗ atPos ER (cell c (kC k)) 0 ∅ 0)
/-- A fetch in flight. -/
def fetching (c : Dev nD) (k : Fin 3) : sProp 𝕄 := iprop(cred (tallyAt (cell c (kC k)) () (amtC k)) ∗ atPos ER (cell c (kC k)) 0 ∅ 0)
/-- The three weights' sources. -/
def sources (c : Dev nD) : sProp 𝕄 :=
  iprop(owns (c : Thread nD τ) (wkSrc c) fullShare (D.wk c) ∗ owns (c : Thread nD τ) (wvSrc c) fullShare (D.wv c) ∗ owns (c : Thread nD τ) woSrc fullShare (D.wo c))

/-- A fetch's cell has the duty zero. -/
theorem mem_fetch (k : Fin 3) : (0 : Duty) ∈ dutyK (kC k) := by revert k; decide
/-- A fetch's cell has only that duty. -/
theorem duty_fetch (k : Fin 3) : dutyK (kC k) = {0} := by revert k; decide

/-- Issuing the fetches: each takes its token, its source and its buffer, and is then in flight. -/
theorem fetch_spec (c : Dev nD) :
    iprop(records D K ∗ (fetchGhost (F := F) c 0 ∗ fetchGhost (F := F) c 1 ∗ fetchGhost (F := F) c 2) ∗ sources D c
        ∗ (∃ X, owns (c : Thread nD τ) wkM fullShare X) ∗ (∃ X, owns (c : Thread nD τ) wvM fullShare X) ∗ (∃ X, owns (c : Thread nD τ) woM fullShare X))
      ⊢ run c (fetch (F := F) c) fun _ => iprop(fetching (F := F) c 0 ∗ fetching (F := F) c 1 ∗ fetching (F := F) c 2) := by
  unfold fetch fetchGhost sources fetching
  simp only [Prog.lift, Prog.bind_op, Prog.bind_ret, Prog.pure_eq_ret]
  iintro ⟨#HR, ⟨⟨Ht0, Hp0⟩, ⟨Ht1, Hp1⟩, Ht2, Hp2⟩, ⟨Hs0, Hs1, Hs2⟩, Hd0, Hd1, Hd2⟩
  iapply (wp_copy_owns (D := Duty) 𝒱₀ (c : Thread nD τ) none Set.univ (E := ER) (Rd := Rd D) (src := wkSrc c) (dst := wkM) (sem := .dma (csem 0)) (κ := K (c, kC 0)) (r := 0) (d := 0) (X := D.wk c)
      (by rw [show ((c : Thread nD τ), SemLoc.dma (csem 0)) = cell c (kC 0) from rfl, Rd_duties]; exact mem_fetch 0) () (amtC 0) rfl (Rd_amount D c (kC 0) 0 0)
      (Entails.of_eq (Rd_payload D c (kC 0) 0 0).symm)) $$ [Hs0 Hd0 Ht0]
  · isplitr; · iapply (rec_inv D K c (kC 0)); iexact HR
    isplitl [Hs0]; · iexact Hs0
    isplitl [Hd0]; · iexact Hd0
    isplitl [Ht0]; · iexact Ht0
    iapply (rec_reached D K c (kC 0)); iexact HR
  iintro Hc0
  iapply (wp_copy_owns (D := Duty) 𝒱₀ (c : Thread nD τ) none Set.univ (E := ER) (Rd := Rd D) (src := wvSrc c) (dst := wvM) (sem := .dma (csem 1)) (κ := K (c, kC 1)) (r := 0) (d := 0) (X := D.wv c)
      (by rw [show ((c : Thread nD τ), SemLoc.dma (csem 1)) = cell c (kC 1) from rfl, Rd_duties]; exact mem_fetch 1) () (amtC 1) rfl (Rd_amount D c (kC 1) 0 0)
      (Entails.of_eq (Rd_payload D c (kC 1) 0 0).symm)) $$ [Hs1 Hd1 Ht1]
  · isplitr; · iapply (rec_inv D K c (kC 1)); iexact HR
    isplitl [Hs1]; · iexact Hs1
    isplitl [Hd1]; · iexact Hd1
    isplitl [Ht1]; · iexact Ht1
    iapply (rec_reached D K c (kC 1)); iexact HR
  iintro Hc1
  iapply (wp_copy_owns (D := Duty) 𝒱₀ (c : Thread nD τ) none Set.univ (E := ER) (Rd := Rd D) (src := woSrc) (dst := woM) (sem := .dma (csem 2)) (κ := K (c, kC 2)) (r := 0) (d := 0) (X := D.wo c)
      (by rw [show ((c : Thread nD τ), SemLoc.dma (csem 2)) = cell c (kC 2) from rfl, Rd_duties]; exact mem_fetch 2) () (amtC 2) rfl (Rd_amount D c (kC 2) 0 0)
      (Entails.of_eq (Rd_payload D c (kC 2) 0 0).symm)) $$ [Hs2 Hd2 Ht2]
  · isplitr; · iapply (rec_inv D K c (kC 2)); iexact HR
    isplitl [Hs2]; · iexact Hs2
    isplitl [Hd2]; · iexact Hd2
    isplitl [Ht2]; · iexact Ht2
    iapply (rec_reached D K c (kC 2)); iexact HR
  iintro Hc2
  rw [wp_ret]; imodintro
  isplitl [Hc0 Hp0]
  · isplitl [Hc0]; · iexact Hc0
    iexact Hp0
  isplitl [Hc1 Hp1]
  · isplitl [Hc1]; · iexact Hc1
    iexact Hp1
  isplitl [Hc2]; · iexact Hc2
  iexact Hp2

/-- A fetch's cell pays the fetched weights and their source. -/
theorem fetched_pay (c : Dev nD) (k : Fin 3) : (bigSep (dutyK (kC k)) fun d => payK D c d (kC k)) = fetchPay D c k := by
  rw [duty_fetch, bigSep_singleton]; rfl

/-- A fetch's cell lies below every receive cell. -/
theorem lvC (k : Fin 3) (f : Lane → ℕ) : ∀ l', lvK (kC k) < f l' + 2 := fun l' => Nat.lt_of_lt_of_le (by show 0 < 2; decide) (Nat.le_add_left _ _)
/-- One wait takes in a fetch's whole credit. -/
theorem wait_all (k : Fin 3) : 0 * amt (kC k) + amtC k = cntK (kC k) * amt (kC k) := by
  show 0 * amtC k + amtC k = 1 * amtC k; rw [Nat.zero_mul, Nat.zero_add, Nat.one_mul]

/-- Waiting for the fetches closes their cells and gives the fetched weights. -/
theorem fetched_spec (c : Dev nD) (f : Lane → ℕ) :
    iprop(records D K ∗ (fetching (F := F) c 0 ∗ fetching (F := F) c 1 ∗ fetching (F := F) c 2) ∗ owing c (owed c f))
      ⊢ run c (fetched (F := F) c) fun _ => iprop((doneK (F := F) c (kC 0) ∗ doneK (F := F) c (kC 1) ∗ doneK (F := F) c (kC 2))
        ∗ (fetchPay D c 0 ∗ fetchPay D c 1 ∗ fetchPay D c 2) ∗ owing c (owed c f)) := by
  unfold fetched fetching
  simp only [Prog.lift, Prog.bind_op, Prog.bind_ret, Prog.pure_eq_ret]
  iintro ⟨#HR, ⟨⟨Hc0, Hp0⟩, ⟨Hc1, Hp1⟩, Hc2, Hp2⟩, HO⟩
  ihave Hp0 := (part_zero D c (kC 0)) $$ Hp0
  ihave Hp1 := (part_zero D c (kC 1)) $$ Hp1
  ihave Hp2 := (part_zero D c (kC 2)) $$ Hp2
  iapply (wait_last D K (c := c) (kC 0) (n := amtC 0) (fun R => (wpE_waitDma2_eq 𝒱₀ (c : Thread nD τ) none Set.univ R).trans (by rfl)) 0 (wait_all 0) f (lvC 0 f)) $$ [Hc0 HO Hp0]
  · isplitr; · iexact HR
    isplitl [Hc0]; · iexact Hc0
    isplitl [HO] <;> iassumption
  iintro ⟨HO, Hd0, Hq0⟩
  iapply (wait_last D K (c := c) (kC 1) (n := amtC 1) (fun R => (wpE_waitDma2_eq 𝒱₀ (c : Thread nD τ) none Set.univ R).trans (by rfl)) 0 (wait_all 1) f (lvC 1 f)) $$ [Hc1 HO Hp1]
  · isplitr; · iexact HR
    isplitl [Hc1]; · iexact Hc1
    isplitl [HO] <;> iassumption
  iintro ⟨HO, Hd1, Hq1⟩
  iapply (wait_last D K (c := c) (kC 2) (n := amtC 2) (fun R => (wpE_waitDma2_eq 𝒱₀ (c : Thread nD τ) none Set.univ R).trans (by rfl)) 0 (wait_all 2) f (lvC 2 f)) $$ [Hc2 HO Hp2]
  · isplitr; · iexact HR
    isplitl [Hc2]; · iexact Hc2
    isplitl [HO] <;> iassumption
  iintro ⟨HO, Hd2, Hq2⟩
  ihave Hq0 := (Entails.of_eq (fetched_pay D c 0)) $$ Hq0
  ihave Hq1 := (Entails.of_eq (fetched_pay D c 1)) $$ Hq1
  ihave Hq2 := (Entails.of_eq (fetched_pay D c 2)) $$ Hq2
  unfold run; rw [wp_ret]; imodintro
  isplitl [Hd0 Hd1 Hd2]
  · isplitl [Hd0]; · iexact Hd0
    isplitl [Hd1] <;> iassumption
  isplitl [Hq0 Hq1 Hq2]
  · isplitl [Hq0]; · iexact Hq0
    isplitl [Hq1] <;> iassumption
  iexact HO

/-! ## The barrier's wait -/

/-- The barrier's cell pays what each of the three neighbours hands over. -/
theorem bar_pay (c : Dev nD) : (bigSep (dutyK kB) fun d => payK D c d kB) = iprop(barPay (F := F) c 0 ∗ barPay (F := F) c 1 ∗ barPay (F := F) c 2) := by
  rw [bigSep_eq_bigSepL_of_eq [(0 : Fin 4), 1, 2] (by decide) (by decide), bigSepL_cons_cons, bigSepL_cons_cons, bigSepL_singleton]
  rfl

/-- Waiting at the barrier closes its cell and gives what the three neighbours hand over. -/
theorem barWait_spec (c : Dev nD) :
    iprop(records D K ∗ cred (tallyAt (cell c kB) () 3) ∗ atPos ER (cell c kB) 0 ∅ 0 ∗ owing c (owed c fun _ => 0))
      ⊢ run c (semWaitWord bsem 3#32 : TcProg F PUnit) fun _ => iprop(doneK (F := F) c kB ∗ (barPay (F := F) c 0 ∗ barPay (F := F) c 1 ∗ barPay (F := F) c 2) ∗ owing c (owed c fun _ => 0)) := by
  unfold semWaitWord
  iintro ⟨#HR, Hc, Hp, HO⟩
  ihave Hp := (part_zero D c kB) $$ Hp
  iapply (wait_last D K (c := c) kB (n := 3) (wpE_semWait_eq 𝒱₀ (c : Thread nD τ) none Set.univ) 0 (by decide) (fun _ => 0) (fun _ => by decide)) $$ [Hc HO Hp]
  · isplitr; · iexact HR
    isplitl [Hc]; · iexact Hc
    isplitl [HO] <;> iassumption
  iintro ⟨HO, Hd, Hq⟩
  ihave Hq := (Entails.of_eq (bar_pay D c)) $$ Hq
  unfold run; rw [wp_ret]; imodintro
  isplitl [Hd]; · iexact Hd
  isplitl [Hq] <;> iassumption

end Cert.Hyper

end
-- ==== Proof.Split.lean ====
/-
What a device hands its neighbours at the barrier and gets back from them, and the memory of the lanes put back together at
the end.
-/
module

public import proofs.«01_k».proof.Proof.Stage

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CK → ℕ)

/-! ## By dimension -/

/-- Nothing on the left of a separating conjunction can be dropped. -/
theorem emp_l (P : sProp 𝕄) : iprop(emp ∗ P) = P := by
  refine eq_of_entails ?_ ?_
  · iintro ⟨-, H⟩; iexact H
  · iintro H
    isplitr; · iempintro
    iexact H
/-- Nothing on the right of a separating conjunction can be dropped. -/
theorem emp_r (P : sProp 𝕄) : iprop(P ∗ emp) = P := by
  refine eq_of_entails ?_ ?_
  · iintro ⟨H, -⟩; iexact H
  · iintro H
    isplitl [H]; · iexact H
    iempintro

/-- A product over the phases is the product over those of each dimension. -/
theorem by_dim (Φ : Fin 3 → Lane × Ph → sProp 𝕄) :
    (bigSep Finset.univ fun x : Lane × Ph => Φ (dimPh x.1 x.2) x)
      = iprop((bigSep Finset.univ fun x : Lane × Ph => if (dimPh x.1 x.2).val = 0 then Φ 0 x else iprop(emp))
        ∗ (bigSep Finset.univ fun x : Lane × Ph => if (dimPh x.1 x.2).val = 1 then Φ 1 x else iprop(emp))
        ∗ (bigSep Finset.univ fun x : Lane × Ph => if (dimPh x.1 x.2).val = 2 then Φ 2 x else iprop(emp))) := by
  rw [← bigSep_sep' Finset.univ (fun x : Lane × Ph => if (dimPh x.1 x.2).val = 1 then Φ 1 x else iprop(emp)), ← bigSep_sep']
  refine bigSep_congr fun x _ => ?_
  generalize dimPh x.1 x.2 = k
  fin_cases k
  · show Φ 0 x = iprop((if 0 = 0 then Φ 0 x else iprop(emp)) ∗ (if 0 = 1 then Φ 1 x else iprop(emp)) ∗ if 0 = 2 then Φ 2 x else iprop(emp))
    simp only [if_pos, if_neg, Nat.zero_ne_one, Nat.one_ne_zero, reduceIte, OfNat.zero_ne_ofNat, OfNat.one_ne_ofNat, emp_l, emp_r]
  · show Φ 1 x = iprop((if 1 = 0 then Φ 0 x else iprop(emp)) ∗ (if 1 = 1 then Φ 1 x else iprop(emp)) ∗ if 1 = 2 then Φ 2 x else iprop(emp))
    simp only [if_pos, if_neg, Nat.zero_ne_one, Nat.one_ne_zero, reduceIte, OfNat.zero_ne_ofNat, OfNat.one_ne_ofNat, emp_l, emp_r]
  · show Φ 2 x = iprop((if 2 = 0 then Φ 0 x else iprop(emp)) ∗ (if 2 = 1 then Φ 1 x else iprop(emp)) ∗ if 2 = 2 then Φ 2 x else iprop(emp))
    simp only [reduceIte, OfNat.ofNat_ne_zero, OfNat.ofNat_ne_one, emp_l, emp_r]

/-- What comes from the three neighbours is where all the phases land. -/
theorem bar_all (c : Dev nD) : iprop(barPay (F := F) c 0 ∗ barPay (F := F) c 1 ∗ barPay (F := F) c 2) = bigSep Finset.univ fun x : Lane × Ph => Dst (F := F) c x.1 x.2 :=
  (by_dim (F := F) fun _ x => Dst (F := F) c x.1 x.2).symm

/-- What goes to the three neighbours is where their phases land here. -/
theorem bar_mine (c : Dev nD) :
    (bigSep Finset.univ fun x : Lane × Ph => Dst (F := F) (peer c x.1 x.2) x.1 x.2)
      = iprop(barPay (F := F) (partner 0 c) 0 ∗ barPay (F := F) (partner 1 c) 1 ∗ barPay (F := F) (partner 2 c) 2) :=
  by_dim (F := F) fun k x => Dst (F := F) (partner k c) x.1 x.2

/-! ## A lane's memory -/

/-- Slots of the result, free. -/
def freeSlots (c : Dev nD) (l : Lane) (s : Finset (Fin 8)) : sProp 𝕄 := bigSep s fun s => outFree (F := F) c l s

/-- The free slots of a level are those kept free for the next level and those its peer's blocks land in. -/
theorem free_split (c : Dev nD) (l : Lane) (j : Fin 3) :
    freeSlots (F := F) c l (slots l.2 (2 - j.val) c)
      = iprop(freeSlots (F := F) c l (slots l.2 (3 - j.val) c) ∗ freeSlots (F := F) c l (slots l.2 (3 - j.val) (across l.2 (agLvl j) c))) := by
  unfold freeSlots
  rw [(slots_split l.2 j c).1]
  exact bigSep_union (slots_split l.2 j c).2

/-- The slots a device frees for a gathering step are where its peer's blocks land. -/
theorem dst_ag (c : Dev nD) (l : Lane) (j : Fin 3) :
    freeSlots (F := F) c l (slots l.2 (3 - j.val) (across l.2 (agLvl j) c)) = Dst (F := F) (peer c l (.inr j)) l (.inr j) := by
  unfold freeSlots
  rw [slots_blocks]
  show _ = bigSep (agIx j) fun k => outFree (F := F) (partner (dimPh l (.inr j)) (peer c l (.inr j))) l (agSl l.2 j k (peer c l (.inr j)))
  rw [partner_partner]
  rfl

/-- The part of the communication buffer for a halving step is where its peer's half lands. -/
theorem dst_rs (c : Dev nD) (l : Lane) (j : Fin 3) :
    (anyOn (c : Thread nD τ) (commL l) (commR j).set : sProp 𝕄) = Dst (F := F) (peer c l (.inl j)) l (.inl j) := by
  show _ = anyOn ((partner (dimPh l (.inl j)) (peer c l (.inl j)) : Dev nD) : Thread nD τ) (commL l) (commR j).set
  rw [partner_partner]

/-- The communication buffer is its three steps' parts. -/
theorem comm_split (c : Dev nD) (l : Lane) :
    (anyOn (c : Thread nD τ) (commL l) Finset.univ : sProp 𝕄)
      = iprop(anyOn (c : Thread nD τ) (commL l) (commR 0).set ∗ anyOn (c : Thread nD τ) (commL l) (commR 1).set ∗ anyOn (c : Thread nD τ) (commL l) (commR 2).set) := by
  rw [comm_univ, anyOn_union comm_disj₀, anyOn_union comm_disj₁]

/-- A separating conjunction over the phases, written out. -/
theorem phases (Φ : Ph → sProp 𝕄) : bigSep Finset.univ Φ
    = iprop((Φ (.inl 0) ∗ Φ (.inl 1) ∗ Φ (.inl 2)) ∗ Φ (.inr 0) ∗ Φ (.inr 1) ∗ Φ (.inr 2)) := by
  rw [bigSep_univ_sum, bigSep_univ_eq_bigSepL [(0 : Fin 3), 1, 2] (by decide) (by decide), bigSep_univ_eq_bigSepL [(0 : Fin 3), 1, 2] (by decide) (by decide)]
  rfl

/-- A lane's landing buffer and its slots of the result are where its peers' phases land, and the slot it owns. -/
theorem lane_mine (c : Dev nD) (l : Lane) :
    iprop(anyOn (c : Thread nD τ) (commL l) Finset.univ ∗ freeSlots (F := F) c l Finset.univ)
      ⊢ iprop((bigSep Finset.univ fun p => Dst (F := F) (peer c l p) l p) ∗ outFree (F := F) c l (ownSl l.2 c)) := by
  rw [phases, comm_split, dst_rs, dst_rs, dst_rs, ← slots_zero l.2 c, show freeSlots (F := F) c l (slots l.2 0 c) = _ from free_split c l 2, dst_ag,
    show freeSlots (F := F) c l (slots l.2 (3 - (2 : Fin 3).val) c) = _ from free_split c l 1, dst_ag,
    show freeSlots (F := F) c l (slots l.2 (3 - (1 : Fin 3).val) c) = _ from free_split c l 0, dst_ag]
  rw [show freeSlots (F := F) c l (slots l.2 (3 - (0 : Fin 3).val) c) = outFree (F := F) c l (ownSl l.2 c) by
    unfold freeSlots; rw [show slots l.2 (3 - (0 : Fin 3).val) c = {ownSl l.2 c} from slots_own _ _, bigSep_singleton]]
  iintro ⟨Hr, ⟨⟨Ho, H0⟩, H1⟩, H2⟩
  isplitl [Hr H0 H1 H2]
  · isplitl [Hr]; · iexact Hr
    isplitl [H0]; · iexact H0
    isplitl [H1] <;> iassumption
  iexact Ho

/-- The result whole is its lanes' slots. -/
theorem out_split (c : Dev nD) (X : S4x256x1024.Idx → Elt F .bf16) :
    (heldOn (c : Thread nD τ) outM Finset.univ X : sProp 𝕄)
      = bigSep Finset.univ fun l : Lane => bigSep Finset.univ fun s : Fin 8 => heldOn (c : Thread nD τ) outM (regR l.1 l.2 s).set X := by
  rw [reg_univ, heldOn_biUnion ⟨((0, 0), 0), Finset.mem_univ _⟩ _ _ fun x _ y _ h => reg_disj x y h, bigSep_univ_prod]

/-- The result at known contents is all lanes' slots, free. -/
theorem out_any (c : Dev nD) (X : S4x256x1024.Idx → Elt F .bf16) :
    (heldOn (c : Thread nD τ) outM Finset.univ X : sProp 𝕄) ⊢ bigSep Finset.univ fun l : Lane => freeSlots (F := F) c l Finset.univ := by
  rw [out_split]
  exact bigSep_mono fun l _ => bigSep_mono fun s _ => heldOn_any

/-- The result at any contents is all lanes' slots, free. -/
theorem out_free (c : Dev nD) : (anyOn (c : Thread nD τ) outM Finset.univ : sProp 𝕄) ⊢ bigSep Finset.univ fun l : Lane => freeSlots (F := F) c l Finset.univ := by
  unfold anyOn
  iintro ⟨%X, H⟩
  iapply (out_any c X); iexact H

/-- A device's landing buffers and its result are what it hands its neighbours, and the slots it owns. -/
theorem hand_over (c : Dev nD) :
    iprop((bigSep Finset.univ fun l : Lane => anyOn (c : Thread nD τ) (commL l) Finset.univ) ∗ anyOn (c : Thread nD τ) outM Finset.univ)
      ⊢ iprop((barPay (F := F) (partner 0 c) 0 ∗ barPay (F := F) (partner 1 c) 1 ∗ barPay (F := F) (partner 2 c) 2)
        ∗ bigSep Finset.univ fun l : Lane => outFree (F := F) c l (ownSl l.2 c)) := by
  rw [← bar_mine, show (bigSep Finset.univ fun x : Lane × Ph => Dst (F := F) (peer c x.1 x.2) x.1 x.2) = _ from bigSep_univ_prod _]
  refine BIBase.Entails.trans (BIClass.sep_mono (BI.Entails.refl _) (out_free c)) ?_
  refine (Entails.of_eq (bigSep_sep' Finset.univ (fun l : Lane => (anyOn (c : Thread nD τ) (commL l) Finset.univ : sProp 𝕄)) fun l => freeSlots (F := F) c l Finset.univ).symm).trans ?_
  refine (bigSep_mono fun l _ => lane_mine c l).trans ?_
  exact Entails.of_eq (bigSep_sep' Finset.univ _ _)

/-- A phase's ghost state but for where it lands. -/
def preUn (c : Dev nD) (l : Lane) (p : Ph) : sProp 𝕄 := iprop(toksP (F := F) c l p ∗ cred (tallyAt (cell c (kR l p)) () (totP p)) ∗ atP (F := F) c l p)

/-- A phase's ghost state with where it lands is a phase not issued. -/
theorem preUn_un (c : Dev nD) (l : Lane) (p : Ph) : iprop(preUn (F := F) c l p ∗ Dst (F := F) c l p) ⊢ Un (F := F) c l p := by
  unfold preUn Un
  iintro ⟨⟨Ht, Hc, Ha⟩, Hd⟩
  isplitl [Ht]; · iexact Ht
  isplitl [Hd]; · iexact Hd
  isplitl [Hc] <;> iassumption

/-- All phases' ghost states with where they land are all lanes with nothing issued. -/
theorem ghost_all (c : Dev nD) :
    iprop((bigSep Finset.univ fun x : Lane × Ph => preUn (F := F) c x.1 x.2) ∗ bigSep Finset.univ fun x : Lane × Ph => Dst (F := F) c x.1 x.2)
      ⊢ bigSep Finset.univ fun l : Lane => ghost (F := F) c l 0 := by
  refine (Entails.of_eq (bigSep_sep' Finset.univ (fun x : Lane × Ph => preUn (F := F) c x.1 x.2) fun x => Dst (F := F) c x.1 x.2).symm).trans ?_
  unfold ghost
  refine BIBase.Entails.trans ?_ (Entails.of_eq (bigSep_univ_prod fun x : Lane × Ph => phSt (F := F) c x.1 0 x.2))
  refine bigSep_mono fun x _ => ?_
  unfold phSt
  rw [if_neg (Nat.not_lt_zero _), if_neg (Nat.succ_ne_zero _)]
  exact preUn_un c x.1 x.2

/-! ## The end -/

/-- The slot owned and the three halves sent make up the accumulator again. -/
theorem acc_back (c : Dev nD) (l : Lane) :
    iprop(accHeld D c l 3 3 ∗ (anyOn (c : Thread nD τ) (accL l) (sendR l.2 0 c).set ∗ anyOn (c : Thread nD τ) (accL l) (sendR l.2 1 c).set ∗ anyOn (c : Thread nD τ) (accL l) (sendR l.2 2 c).set))
      ⊢ (anyOn (c : Thread nD τ) (accL l) Finset.univ : sProp 𝕄) := by
  have h : ∀ j : Fin 3, (anyOn (c : Thread nD τ) (accL l) (accS l.2 j.val c) : sProp 𝕄)
      = iprop(anyOn (c : Thread nD τ) (accL l) (accS l.2 (j.val + 1) c) ∗ anyOn (c : Thread nD τ) (accL l) (sendR l.2 j c).set) := fun j => by
    rw [accS_split l.2 j c, anyOn_union (accS_disj l.2 j c), keepR_set]
  rw [← accS_zero l.2 c]
  have e := (h 0).trans (congrArg (fun P => iprop(P ∗ anyOn (c : Thread nD τ) (accL l) (sendR l.2 0 c).set)) ((h 1).trans
    (congrArg (fun P => iprop(P ∗ anyOn (c : Thread nD τ) (accL l) (sendR l.2 1 c).set)) (h 2))))
  refine BIBase.Entails.trans ?_ (Entails.of_eq e.symm)
  unfold accHeld
  iintro ⟨Ha, H0, H1, H2⟩
  ihave Ha := (heldOn_any (c := (c : Thread nD τ)) (m := accL l)) $$ Ha
  isplitr [H0]
  · isplitr [H1]
    · isplitl [Ha]; · iexact Ha
      iexact H2
    iexact H1
  iexact H0

/-- The cells of a lane, closed. -/
def closed (c : Dev nD) (l : Lane) : sProp 𝕄 := bigSep Finset.univ fun p => Dn (F := F) c l p

/-- A lane that is done gives its closed cells, its buffers and its rows of the result with the final values. -/
theorem lane_end (c : Dev nD) (l : Lane) :
    lane D c l 7 ⊢ iprop(closed (F := F) c l ∗ anyOn (c : Thread nD τ) (accL l) Finset.univ ∗ anyOn (c : Thread nD τ) (commL l) Finset.univ
      ∗ bigSep Finset.univ fun s => outHeld D c l s) := by
  have hg : ghost (F := F) c l 7 = closed (F := F) c l := bigSep_congr fun p _ => if_pos (by revert p; decide)
  show iprop(ghost (F := F) c l 7 ∗ accHeld D c l 3 3 ∗ junk (F := F) c l 0 ∗ junk (F := F) c l 1 ∗ junk (F := F) c l 2 ∗ outSlots D c l 0) ⊢ _
  rw [hg, comm_split]
  unfold junk outSlots
  rw [slots_zero]
  iintro ⟨Hg, Ha, ⟨Ha0, Hc0⟩, ⟨Ha1, Hc1⟩, ⟨Ha2, Hc2⟩, Ho⟩
  isplitl [Hg]; · iexact Hg
  isplitl [Ha Ha0 Ha1 Ha2]
  · iapply (acc_back D c l)
    isplitl [Ha]; · iexact Ha
    isplitl [Ha0]; · iexact Ha0
    isplitl [Ha1] <;> iassumption
  isplitr [Ho]
  · isplitl [Hc0]; · iexact Hc0
    isplitl [Hc1] <;> iassumption
  iexact Ho

/-- When all lanes are done, a device owes its peers nothing. -/
theorem owed_end (c : Dev nD) : owed c (fun _ => 7) = 0 := by
  unfold owed
  refine Finset.sum_eq_zero fun x _ => if_neg ?_
  have h : ∀ p : Ph, ¬ 7 ≤ ord p := by decide
  exact h x.2

/-- All the lanes done: every cell closed, the buffers free, the result whole. -/
theorem lanes_end (c : Dev nD) :
    lanes D c (fun _ => 7) ⊢ iprop((bigSep Finset.univ fun l : Lane => closed (F := F) c l)
      ∗ (bigSep Finset.univ fun l : Lane => anyOn (c : Thread nD τ) (accL l) Finset.univ)
      ∗ (bigSep Finset.univ fun l : Lane => anyOn (c : Thread nD τ) (commL l) Finset.univ)
      ∗ heldOn (c : Thread nD τ) outM Finset.univ (outF D) ∗ owing c 0) := by
  unfold lanes
  rw [owed_end, out_split]
  iintro ⟨H, HO⟩
  ihave H := (show (bigSep Finset.univ fun l : Lane => lane D c l 7) ⊢ iprop((bigSep Finset.univ fun l : Lane => closed (F := F) c l)
      ∗ bigSep Finset.univ fun l : Lane => iprop(anyOn (c : Thread nD τ) (accL l) Finset.univ ∗ anyOn (c : Thread nD τ) (commL l) Finset.univ
        ∗ bigSep Finset.univ fun s => outHeld D c l s)) from
    (bigSep_mono fun l _ => lane_end D c l).trans (Entails.of_eq (bigSep_sep' Finset.univ (fun l : Lane => closed (F := F) c l) _))) $$ H
  icases H with ⟨Hc, H⟩
  ihave H := (Entails.of_eq (bigSep_sep' Finset.univ (fun l : Lane => (anyOn (c : Thread nD τ) (accL l) Finset.univ : sProp 𝕄)) _)) $$ H
  icases H with ⟨Ha, H⟩
  ihave H := (Entails.of_eq (bigSep_sep' Finset.univ (fun l : Lane => (anyOn (c : Thread nD τ) (commL l) Finset.univ : sProp 𝕄)) _)) $$ H
  icases H with ⟨Hm, Ho⟩
  isplitl [Hc]; · iexact Hc
  isplitl [Ha]; · iexact Ha
  isplitl [Hm]; · iexact Hm
  isplitl [Ho]; · iexact Ho
  iexact HO

end Cert.Hyper

end
-- ==== Proof.Body.lean ====
/-
The body, run from what the launch deals a device to what it leaves.
-/
module

public import proofs.«01_k».proof.Proof.Split

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F) (K : Dev nD × CK → ℕ)

/-- A separating conjunction over the lanes: the two lanes of one group, and the rest. -/
theorem pair_split (Φ : Lane → sProp 𝕄) (g : Fin 4) :
    bigSep Finset.univ Φ = iprop(Φ (g, 0) ∗ Φ (g, 1) ∗ bigSep ((Finset.univ.erase ((g, 0) : Lane)).erase (g, 1)) Φ) := by
  rw [bigSep_erase (Finset.mem_univ ((g, 0) : Lane)), bigSep_erase (show ((g, 1) : Lane) ∈ Finset.univ.erase (g, 0) from
    Finset.mem_erase.mpr ⟨fun h => absurd (congrArg Prod.snd h) (show (1 : Fin 2) ≠ 0 by decide), Finset.mem_univ _⟩)]
  rfl

/-- The rectangle of a whole matrix maps every index to itself. -/
theorem full_emb (y : S1024x1024.Idx) : fullR.emb y = y := by
  funext a
  fin_cases a
  · exact Fin.ext (by show 0 + 1 * (y 0).val = (y 0).val; omega)
  · exact Fin.ext (by show 0 + 1 * (y 1).val = (y 1).val; omega)
/-- The rectangle of a whole key or value block maps every index to itself. -/
theorem kv_emb (y : S1024x256.Idx) : kvR.emb y = y := by
  funext a
  fin_cases a
  · exact Fin.ext (by show 0 + 1 * (y 0).val = (y 0).val; omega)
  · exact Fin.ext (by show 0 + 1 * (y 1).val = (y 1).val; omega)

/-- The lanes before the first group starts: its two accumulators laid out, the others still free. -/
theorem lanes_first (c : Dev nD) :
    iprop((bigSep Finset.univ fun l : Lane => ghost (F := F) c l 0) ∗ (bigSep Finset.univ fun l : Lane => outFree (F := F) c l (ownSl l.2 c))
        ∗ (accHeld D c (0, 0) 0 0 ∗ accHeld D c (0, 1) 0 0)
        ∗ bigSep ((Finset.univ.erase ((0, 0) : Lane)).erase (0, 1)) fun l => anyOn (c : Thread nD τ) (accL l) Finset.univ)
      ⊢ iprop(ready D c (0, 0) ∗ ready D c (0, 1) ∗ others D c 0 fun _ => 0) := by
  rw [pair_split (fun l : Lane => ghost (F := F) c l 0) 0, pair_split (fun l : Lane => outFree (F := F) c l (ownSl l.2 c)) 0,
    show others D c 0 (fun _ => 0) = bigSep ((Finset.univ.erase ((0, 0) : Lane)).erase (0, 1)) fun l =>
      iprop(ghost (F := F) c l 0 ∗ anyOn (c : Thread nD τ) (accL l) Finset.univ ∗ outFree (F := F) c l (ownSl l.2 c)) from rfl,
    bigSep_sep', bigSep_sep']
  unfold ready
  iintro ⟨⟨G0, G1, G⟩, ⟨O0, O1, O⟩, ⟨A0, A1⟩, A⟩
  isplitl [G0 O0 A0]
  · isplitl [G0]; · iexact G0
    isplitl [A0] <;> iassumption
  isplitl [G1 O1 A1]
  · isplitl [G1]; · iexact G1
    isplitl [A1] <;> iassumption
  isplitl [G]; · iexact G
  isplitl [A] <;> iassumption

/-- Once the four groups are started, every lane has issued one phase. -/
theorem all_started : started 3 (started 2 (started 1 (started 0 fun _ => 0))) = fun _ => 1 := by decide
/-- When group 1 starts, neither of its lanes has issued a phase. -/
theorem start_one : started 0 (fun _ => 0) (1, 0) = 0 ∧ started 0 (fun _ => 0) (1, 1) = 0 := by decide
/-- When group 2 starts, neither of its lanes has issued a phase. -/
theorem start_two : started 1 (started 0 fun _ => 0) (2, 0) = 0 ∧ started 1 (started 0 fun _ => 0) (2, 1) = 0 := by decide
/-- When group 3 starts, neither of its lanes has issued a phase. -/
theorem start_three : started 2 (started 1 (started 0 fun _ => 0)) (3, 0) = 0 ∧ started 2 (started 1 (started 0 fun _ => 0)) (3, 1) = 0 := by decide

/-- What a device has at the start besides its memory: what it owes, its tokens, its places and the credit of what will arrive. -/
def ghost₀ (c : Dev nD) : sProp 𝕄 :=
  iprop((dutyTok ER (cell (partner 0 c) kB) 0 (Fin.castSucc 0) ∗ dutyTok ER (cell (partner 1 c) kB) 0 (Fin.castSucc 1) ∗ dutyTok ER (cell (partner 2 c) kB) 0 (Fin.castSucc 2))
    ∗ (atPos ER (cell c kB) 0 ∅ 0 ∗ cred (tallyAt (cell c kB) () 3))
    ∗ (fetchGhost (F := F) c 0 ∗ fetchGhost (F := F) c 1 ∗ fetchGhost (F := F) c 2)
    ∗ bigSep Finset.univ fun x : Lane × Ph => preUn (F := F) c x.1 x.2)
/-- Its cells closed. -/
def ghost₁ (c : Dev nD) : sProp 𝕄 :=
  iprop(doneK (F := F) c kB ∗ (doneK (F := F) c (kC 0) ∗ doneK (F := F) c (kC 1) ∗ doneK (F := F) c (kC 2))
    ∗ bigSep Finset.univ fun l : Lane => closed (F := F) c l)
/-- Its scratch memory, at any contents. -/
def scratch (c : Dev nD) : sProp 𝕄 :=
  iprop((bigSep Finset.univ fun l : Lane => anyOn (c : Thread nD τ) (accL l) Finset.univ)
    ∗ (bigSep Finset.univ fun l : Lane => anyOn (c : Thread nD τ) (commL l) Finset.univ)
    ∗ (∃ X, owns (c : Thread nD τ) wkM fullShare X) ∗ (∃ X, owns (c : Thread nD τ) wvM fullShare X) ∗ (∃ X, owns (c : Thread nD τ) woM fullShare X))

/-- The run of the body up to the fetched weights. -/
theorem opening (c : Dev nD) {α : Type} (k : PUnit → TcProg F α) (R : α → sProp 𝕄) :
    iprop(records D K ∗ owing c (O₀ c)
        ∗ (dutyTok ER (cell (partner 0 c) kB) 0 (Fin.castSucc 0) ∗ dutyTok ER (cell (partner 1 c) kB) 0 (Fin.castSucc 1) ∗ dutyTok ER (cell (partner 2 c) kB) 0 (Fin.castSucc 2))
        ∗ (barPay (F := F) (partner 0 c) 0 ∗ barPay (F := F) (partner 1 c) 1 ∗ barPay (F := F) (partner 2 c) 2))
      ⊢ iprop((owing c (owed c fun _ => 0) -∗ run c (k ⟨⟩) R)
        -∗ run c (announce 0 c >>= fun _ => announce 1 c >>= fun _ => announce 2 c >>= k) R) := by
  unfold O₀
  iintro ⟨#HR, HO, ⟨T0, T1, T2⟩, P0, P1, P2⟩ Hk
  iapply (run_seq (announce_spec D K c 0 _)) $$ [HO T0 P0]
  · isplitr; · iexact HR
    isplitl [HO]; · iexact HO
    isplitl [T0]; · iexact T0
    iexact P0
  iintro HO
  iapply (run_seq (announce_spec D K c 1 _)) $$ [HO T1 P1]
  · isplitr; · iexact HR
    isplitl [HO]; · iexact HO
    isplitl [T1]; · iexact T1
    iexact P1
  iintro HO
  iapply (run_seq (announce_spec D K c 2 _)) $$ [HO T2 P2]
  · isplitr; · iexact HR
    isplitl [HO]; · iexact HO
    isplitl [T2]; · iexact T2
    iexact P2
  iintro HO
  iapply Hk; iexact HO

/-- The run of the body from the barrier's wait on. -/
theorem closing (c : Dev nD) (wq : S1024x1024.Idx → Elt F .f32) (x : S4x256x1024.Idx → Elt F .f32)
    (hb : ∀ g, part wq (D.wk c) (D.wv c) (D.wo c) g (fun y => x ((xR g).emb y)) = D.b c g) :
    iprop(records D K ∗ heldOn (c : Thread nD τ) xM Finset.univ x ∗ owing c (owed c fun _ => 0)
        ∗ (atPos ER (cell c kB) 0 ∅ 0 ∗ cred (tallyAt (cell c kB) () 3)) ∗ (bigSep Finset.univ fun x : Lane × Ph => preUn (F := F) c x.1 x.2)
        ∗ (bigSep Finset.univ fun l : Lane => outFree (F := F) c l (ownSl l.2 c)) ∗ (accHeld D c (0, 0) 0 0 ∗ accHeld D c (0, 1) 0 0)
        ∗ bigSep ((Finset.univ.erase ((0, 0) : Lane)).erase (0, 1)) fun l => anyOn (c : Thread nD τ) (accL l) Finset.univ)
      ⊢ run c (semWaitWord bsem 3#32 >>= fun _ => rsIssue 0 0 0 c >>= fun _ => rsIssue 0 1 0 c >>= fun _ => group 1 c wq (D.wk c) (D.wv c) (D.wo c)
          >>= fun _ => group 2 c wq (D.wk c) (D.wv c) (D.wo c) >>= fun _ => group 3 c wq (D.wk c) (D.wv c) (D.wo c) >>= fun _ => rsLoop c >>= fun _ => agLoop c)
        fun _ => iprop(heldOn (c : Thread nD τ) xM Finset.univ x ∗ doneK (F := F) c kB ∗ lanes D c fun _ => 7) := by
  iintro ⟨#HR, Hx, HO, ⟨Hat, Hc⟩, Hpre, Hof, HA, HAs⟩
  iapply (run_seq (barWait_spec D K c)) $$ [Hat Hc HO]
  · isplitr; · iexact HR
    isplitl [Hc]; · iexact Hc
    isplitl [Hat] <;> iassumption
  iintro ⟨Hd, Hp, HO⟩
  ihave Hp := (Entails.of_eq (bar_all (F := F) c)) $$ Hp
  ihave HG := (ghost_all (F := F) c) $$ [Hpre Hp]
  · isplitl [Hpre] <;> iassumption
  ihave HL := (lanes_first D c) $$ [HG Hof HA HAs]
  · isplitl [HG]; · iexact HG
    isplitl [Hof]; · iexact Hof
    isplitl [HA] <;> iassumption
  have hs := start_spec D K c 0 (fun _ => 0) rfl rfl
  rw [show ∀ k : PUnit → TcProg F PUnit, (rsIssue (F := F) 0 0 0 c >>= fun _ => rsIssue 0 1 0 c >>= k) = ((rsIssue (F := F) 0 0 0 c >>= fun _ => rsIssue 0 1 0 c) >>= k) from fun _ => rfl]
  iapply (run_seq hs) $$ [HL HO]
  · isplitr; · iexact HR
    isplitl [HL] <;> iassumption
  iintro HL
  iapply (run_seq (group_spec D K c 1 _ start_one.1 start_one.2 wq (D.wk c) (D.wv c) (D.wo c) x (hb 1))) $$ [Hx HL]
  · isplitr; · iexact HR
    isplitl [Hx] <;> iassumption
  iintro ⟨Hx, HL⟩
  iapply (run_seq (group_spec D K c 2 _ start_two.1 start_two.2 wq (D.wk c) (D.wv c) (D.wo c) x (hb 2))) $$ [Hx HL]
  · isplitr; · iexact HR
    isplitl [Hx] <;> iassumption
  iintro ⟨Hx, HL⟩
  iapply (run_seq (group_spec D K c 3 _ start_three.1 start_three.2 wq (D.wk c) (D.wv c) (D.wo c) x (hb 3))) $$ [Hx HL]
  · isplitr; · iexact HR
    isplitl [Hx] <;> iassumption
  iintro ⟨Hx, HL⟩
  ihave HL := (Entails.of_eq (congrArg (lanes D c) all_started)) $$ HL
  iapply (run_seq (rsLoop_spec D K c)) $$ [HL]
  · isplitr; · iexact HR
    iexact HL
  iintro HL
  iapply (wp_wand frame (wpE (defs₀ (F := F)) 𝒱₀ (c : Thread nD τ) none) Set.univ (Q := fun _ => lanes D c fun _ => 7)) $$ [HL]
  · iapply (agLoop_spec D K c)
    isplitr; · iexact HR
    iexact HL
  iintro %u HL
  isplitl [Hx]; · iexact Hx
  isplitl [Hd] <;> iassumption

/-- The body's run: from the launch's deal to the result, everything else back, every cell closed. -/
theorem body_run (c : Dev nD) (wq : S1024x1024.Idx → Elt F .f32) (x : S4x256x1024.Idx → Elt F .f32)
    (hb : ∀ g, part wq (D.wk c) (D.wv c) (D.wo c) g (fun y => x ((xR g).emb y)) = D.b c g) :
    iprop(records D K ∗ ghost₀ (F := F) c ∗ owing c (O₀ c) ∗ scratch (F := F) c ∗ sources D c
        ∗ heldOn (c : Thread nD τ) xM Finset.univ x ∗ heldOn (c : Thread nD τ) wqM Finset.univ wq ∗ anyOn (c : Thread nD τ) outM Finset.univ)
      ⊢ run c (bodyProg (F := F) c) fun _ => iprop(ghost₁ (F := F) c ∗ owing c 0 ∗ scratch (F := F) c ∗ sources D c
        ∗ heldOn (c : Thread nD τ) xM Finset.univ x ∗ heldOn (c : Thread nD τ) wqM Finset.univ wq ∗ heldOn (c : Thread nD τ) outM Finset.univ (outF D)) := by
  unfold ghost₀ scratch bodyProg
  iintro ⟨#HR, ⟨HT, HB, HF, Hpre⟩, HO, ⟨Hacc, Hcomm, Hk, Hv, Ho⟩, Hsrc, Hx, Hq, Hout⟩
  ihave Hh := (hand_over (F := F) c) $$ [Hcomm Hout]
  · isplitl [Hcomm] <;> iassumption
  icases Hh with ⟨HP, Hof⟩
  iapply (opening D K c) $$ [HO HT HP]
  · isplitr; · iexact HR
    isplitl [HO]; · iexact HO
    isplitl [HT] <;> iassumption
  iintro HO
  iapply (run_seq (fetch_spec D K c)) $$ [HF Hsrc Hk Hv Ho]
  · isplitr; · iexact HR
    isplitl [HF]; · iexact HF
    isplitl [Hsrc]; · iexact Hsrc
    isplitl [Hk]; · iexact Hk
    isplitl [Hv] <;> iassumption
  iintro HF
  unfold Prog.lift
  simp only [Prog.bind_op, Prog.bind_ret]
  iapply (wp_load_held 𝒱₀ (c : Thread nD τ) none Set.univ (m := wqM) (r := fullR) (Finset.subset_univ _)) $$ Hq
  iintro Hq
  iapply (wp_load_held 𝒱₀ (c : Thread nD τ) none Set.univ (m := xM) (r := xR 0) (Finset.subset_univ _)) $$ Hx
  iintro Hx
  iapply (run_seq (fetched_spec D K c fun _ => 0)) $$ [HF HO]
  · isplitr; · iexact HR
    isplitl [HF] <;> iassumption
  iintro ⟨Hdn, HF, HO⟩
  unfold fetchPay
  icases HF with ⟨⟨Hk, Hsk⟩, ⟨Hv, Hsv⟩, Ho, Hso⟩
  ihave Hk := (Entails.of_eq (heldOn_univ (c := (c : Thread nD τ)) (m := wkM) (D.wk c)).symm) $$ Hk
  ihave Hv := (Entails.of_eq (heldOn_univ (c := (c : Thread nD τ)) (m := wvM) (D.wv c)).symm) $$ Hv
  ihave Ho := (Entails.of_eq (heldOn_univ (c := (c : Thread nD τ)) (m := woM) (D.wo c)).symm) $$ Ho
  iapply (wp_load_held 𝒱₀ (c : Thread nD τ) none Set.univ (m := wkM) (r := kvR) (Finset.subset_univ _)) $$ Hk
  iintro Hk
  iapply (wp_load_held 𝒱₀ (c : Thread nD τ) none Set.univ (m := wvM) (r := kvR) (Finset.subset_univ _)) $$ Hv
  iintro Hv
  iapply (wp_load_held 𝒱₀ (c : Thread nD τ) none Set.univ (m := woM) (r := fullR) (Finset.subset_univ _)) $$ Ho
  iintro Ho
  simp only [full_emb, kv_emb]
  have hl := layOut_spec D c 0
  rw [← hb 0] at hl
  ihave Hacc := (Entails.of_eq (pair_split (fun l : Lane => (anyOn (c : Thread nD τ) (accL l) Finset.univ : sProp 𝕄)) 0)) $$ Hacc
  icases Hacc with ⟨Ha0, Ha1, Has⟩
  iapply (run_seq hl) $$ [Ha0 Ha1]
  · isplitl [Ha0] <;> iassumption
  iintro HA
  iapply (wp_wand frame (wpE (defs₀ (F := F)) 𝒱₀ (c : Thread nD τ) none) Set.univ
    (Q := fun _ => iprop(heldOn (c : Thread nD τ) xM Finset.univ x ∗ doneK (F := F) c kB ∗ lanes D c fun _ => 7))) $$ [Hx HO HB Hpre Hof HA Has]
  · iapply (closing D K c wq x hb)
    isplitr; · iexact HR
    isplitl [Hx]; · iexact Hx
    isplitl [HO]; · iexact HO
    isplitl [HB]; · iexact HB
    isplitl [Hpre]; · iexact Hpre
    isplitl [Hof]; · iexact Hof
    isplitl [HA] <;> iassumption
  iintro %u ⟨Hx, Hd, HL⟩
  ihave HL := (lanes_end D c) $$ HL
  icases HL with ⟨Hcl, Hacc, Hcomm, Hout, HO⟩
  ihave Hk := (Entails.of_eq (heldOn_univ (c := (c : Thread nD τ)) (m := wkM) (D.wk c))) $$ Hk
  ihave Hv := (Entails.of_eq (heldOn_univ (c := (c : Thread nD τ)) (m := wvM) (D.wv c))) $$ Hv
  ihave Ho := (Entails.of_eq (heldOn_univ (c := (c : Thread nD τ)) (m := woM) (D.wo c))) $$ Ho
  unfold ghost₁ sources
  isplitl [Hd Hdn Hcl]
  · isplitl [Hd]; · iexact Hd
    isplitl [Hdn] <;> iassumption
  isplitl [HO]; · iexact HO
  isplitl [Hacc Hcomm Hk Hv Ho]
  · isplitl [Hacc]; · iexact Hacc
    isplitl [Hcomm]; · iexact Hcomm
    isplitl [Hk]; · iexists _; iexact Hk
    isplitl [Hv]; · iexists _; iexact Hv
    iexists _; iexact Ho
  isplitl [Hsk Hsv Hso]
  · isplitl [Hsk]; · iexact Hsk
    isplitl [Hsv] <;> iassumption
  isplitl [Hx]; · iexact Hx
  isplitl [Hq] <;> iassumption

end Cert.Hyper

end
-- ==== Proof.Deal.lean ====
/-
What the launch deals: the cells and their tokens minted, the cells' invariants allocated, the tokens sent to the devices that pay with
them, and the credit of what each device will receive.
-/
module

public import proofs.«01_k».proof.Proof.Body
public import proofs.«01_k».proof.Proof.Gen.KernelIdeal.Launch
public import Idealize.ShloMosaic.Lib.Pipeline.CollectiveSegs

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (D : Data F)

/-! ## The cells and the tokens, minted -/

/-- Different devices or different kinds of cell give different semaphore cells. -/
theorem cell_inj : Function.Injective fun x : Dev nD × CK => cell x.1 x.2 := by
  rintro ⟨c, k⟩ ⟨c', k'⟩ h
  have h1 : c = c' := congrArg (fun g : GSem nD τ sig => g.1.1) h
  subst h1
  rw [sm_inj k k' (congrArg Prod.snd h)]
/-- The kernel's own semaphore cells, over all devices. -/
def hyperCells : Finset (GSem nD τ sig) := Finset.univ.map ⟨fun x : Dev nD × CK => cell x.1 x.2, cell_inj⟩

/-- Different cells or different duties give different tokens. -/
theorem tok_inj : Function.Injective fun x : (Dev nD × CK) × Duty => ((cell x.1.1 x.1.2, 0, x.2) : GSem nD τ sig × ℕ × Duty) := by
  rintro ⟨x, d⟩ ⟨x', d'⟩ h
  have h1 : x = x' := cell_inj (congrArg Prod.fst h)
  have h2 : d = d' := congrArg (fun y : GSem nD τ sig × ℕ × Duty => y.2.2) h
  rw [h1, h2]
/-- The tokens of those cells' only round, over all devices. -/
def hyperToks : Finset (GSem nD τ sig × ℕ × Duty) := Finset.univ.map ⟨fun x : (Dev nD × CK) × Duty => (cell x.1.1 x.1.2, 0, x.2), tok_inj⟩

/-- The tokens of a cell. -/
def tok (c : Dev nD) (k : CK) : sProp 𝕄 := bigSep Finset.univ fun d : Duty => dutyTok ER (cell c k) 0 d
/-- The tokens of a device's own cells. -/
def toks (c : Dev nD) : sProp 𝕄 := bigSep Finset.univ fun k => tok (F := F) c k
/-- The owner's places. -/
def places (c : Dev nD) : sProp 𝕄 := bigSep Finset.univ fun k => atPos ER (cell c k) 0 ∅ 0

/-- What a device is dealt before its cells' invariants are allocated. -/
def dealt (c : Dev nD) : sProp 𝕄 :=
  iprop((bigSep Finset.univ fun k => roundState ER (Rd D) (cell c k) 0) ∗ (places (F := F) c ∗ bigSep Finset.univ fun k => reached ER (cell c k) 0) ∗ toks (F := F) c)

/-- A separating conjunction over all cells is one over devices and, for each, over kinds of cell. -/
theorem over_cells (Φ : GSem nD τ sig → sProp 𝕄) :
    bigSep hyperCells Φ = bigSep Finset.univ fun c : Dev nD => bigSep Finset.univ fun k : CK => Φ (cell c k) := by
  unfold hyperCells; rw [bigSep_map, bigSep_univ_prod]; rfl
/-- The tokens of all cells, grouped by the device whose cells they are. -/
theorem over_toks : bigSep hyperToks (fun x => (dutyTok ER x.1 x.2.1 x.2.2 : sProp 𝕄)) = bigSep Finset.univ fun c : Dev nD => toks (F := F) c := by
  unfold hyperToks; rw [bigSep_map, bigSep_univ_prod, bigSep_univ_prod]; rfl

/-- The initial ghost state deals every device its share. -/
theorem fund_all : BI.own (ER (initOf hyperCells hyperToks)) ⊢ (|==> bigSep Finset.univ fun c => dealt D c : sProp 𝕄) := by
  iintro HX
  imod (Rounds.fund ER (Rd D) hyperCells hyperToks) $$ HX with ⟨Hst, Hr, Hat, Htok⟩
  imodintro
  ihave Hst := (Entails.of_eq (over_cells fun g => roundState ER (Rd D) g 0)) $$ Hst
  ihave Hat := (Entails.of_eq (over_cells fun g => atPos ER g 0 ∅ 0)) $$ Hat
  ihave Hr := (Entails.of_eq (over_cells fun g => reached ER g 0)) $$ Hr
  ihave Htok := (Entails.of_eq (over_toks (F := F))) $$ Htok
  unfold dealt places; simp only [bigSep_sep']
  isplitl [Hst]; · iexact Hst
  isplitl [Hat Hr]
  · isplitl [Hat] <;> iassumption
  iexact Htok

/-! ## The semaphores -/

/-- The kernel's own semaphores: all of a device's cells but the barrier's. -/
def osem (k : Fin 3 ⊕ ((Lane × Ph) ⊕ (Lane × Ph))) : SemLoc sig := sm (.inr k)
/-- The semaphores named here are all the region's own. -/
theorem ownSemFacts : Pipeline.OwnSemFacts cfg0.spec osem where
  isScoped := by decide +kernel
  inj := fun a b h => Sum.inr_injective (sm_inj _ _ h)
  disj := by decide +kernel

/-- The only semaphore outside the region is the barrier's, at zero. -/
theorem unscopedSems_eq (c : Dev nD) : (unscopedSems0 c : sProp 𝕄) = semVal (cell c kB) 0 := by
  unfold unscopedSems0; rw [bigSep_eq_bigSepL_of_eq [SemLoc.reg bsem] (by decide +kernel) (by decide)]; rfl

/-- A device's semaphores, inside the region and outside, are its cells at zero. -/
theorem sems_eq (c : Dev nD) :
    iprop(unscopedSems0 c ∗ Pipeline.ownSems0 (Ix := Unit) (Name := ℕ) (U := UU) (Lvl := ℕ) (Val := Elt F) (τ := τ) osem c)
      = (bigSep Finset.univ fun k : CK => semVal (cell c k) 0 : sProp 𝕄) := by
  rw [unscopedSems_eq, bigSep_univ_sum (fun k : CK => (semVal (cell c k) 0 : sProp 𝕄)), bigSep_univ_eq_bigSepL [()] (by decide) (by decide)]; rfl

/-- A device's semaphores at zero and what it is dealt give its cells' invariants, with its places and tokens left over. -/
theorem core_alloc (c : Dev nD) :
    iprop(Pipeline.ownSems0 (Ix := Unit) (Name := ℕ) (U := UU) (Lvl := ℕ) (Val := Elt F) (τ := τ) osem c ∗ unscopedSems0 c ∗ dealt D c)
      ⊢ |={Set.univ}=> iprop((bigSep Finset.univ fun k => iprop(∃ κ : ℕ, cellInv ER (Rd D) κ (cell c k)))
          ∗ (places (F := F) c ∗ bigSep Finset.univ fun k => reached ER (cell c k) 0) ∗ toks (F := F) c) := by
  unfold dealt
  iintro ⟨Hos, Hus, Hst, Hat, Htok⟩
  ihave Hv := (Entails.of_eq (sems_eq (F := F) c)) $$ [Hos Hus]
  · isplitl [Hus] <;> iassumption
  imod (show iprop((bigSep Finset.univ fun k : CK => semVal (cell c k) 0) ∗ bigSep Finset.univ fun k : CK => roundState ER (Rd D) (cell c k) 0)
      ⊢ (|={Set.univ}=> bigSep Finset.univ fun k => iprop(∃ κ : ℕ, cellInv ER (Rd D) κ (cell c k)) : sProp 𝕄) from by
        rw [← bigSep_sep']
        exact (bigSep_mono fun k _ => (Rounds.body_intro ER (Rd D) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens, sent to who pays with them -/

/-- The tokens device `c` pays with. -/
def payToks (c : Dev nD) : sProp 𝕄 :=
  iprop((dutyTok ER (cell (partner 0 c) kB) 0 (Fin.castSucc 0) ∗ dutyTok ER (cell (partner 1 c) kB) 0 (Fin.castSucc 1) ∗ dutyTok ER (cell (partner 2 c) kB) 0 (Fin.castSucc 2))
    ∗ (dutyTok ER (cell c (kC 0)) 0 0 ∗ dutyTok ER (cell c (kC 1)) 0 0 ∗ dutyTok ER (cell c (kC 2)) 0 0)
    ∗ bigSep Finset.univ fun x : Lane × Ph => toksP (F := F) c x.1 x.2)

/-- A cell's tokens hold that of any one duty. -/
theorem tok_one (c : Dev nD) (k : CK) (d : Duty) : tok (F := F) c k ⊢ dutyTok ER (cell c k) 0 d := bigSep_elim (Finset.mem_univ d)
/-- A cell's tokens hold those of all its duties. -/
theorem tok_duties (c : Dev nD) (k : CK) : tok (F := F) c k ⊢ bigSep (dutyK k) fun d => dutyTok ER (cell c k) 0 d := bigSep_subset (Finset.subset_univ _)
/-- The barrier cell's tokens hold the three its neighbours pay with. -/
theorem tok_bar (c : Dev nD) : tok (F := F) c kB ⊢ iprop(dutyTok ER (cell c kB) 0 (Fin.castSucc 0) ∗ dutyTok ER (cell c kB) 0 (Fin.castSucc 1) ∗ dutyTok ER (cell c kB) 0 (Fin.castSucc 2)) := by
  unfold tok
  rw [show bigSep Finset.univ (fun d : Duty => (dutyTok ER (cell c kB) 0 d : sProp 𝕄)) = iprop(dutyTok ER (cell c kB) 0 0 ∗ dutyTok ER (cell c kB) 0 1 ∗ dutyTok ER (cell c kB) 0 2 ∗ dutyTok ER (cell c kB) 0 3) from
    bigSep_univ_eq_bigSepL [0, 1, 2, 3] (by decide) (by decide) _]
  iintro ⟨H0, H1, H2, -⟩
  isplitl [H0]; · iexact H0
  isplitl [H1]; · iexact H1
  iexact H2

/-- A device's own tokens, those of unused duties dropped. -/
theorem toks_own (c : Dev nD) :
    toks (F := F) c ⊢ iprop((dutyTok ER (cell c kB) 0 (Fin.castSucc 0) ∗ dutyTok ER (cell c kB) 0 (Fin.castSucc 1) ∗ dutyTok ER (cell c kB) 0 (Fin.castSucc 2))
      ∗ (dutyTok ER (cell c (kC 0)) 0 0 ∗ dutyTok ER (cell c (kC 1)) 0 0 ∗ dutyTok ER (cell c (kC 2)) 0 0)
      ∗ (bigSep Finset.univ fun x : Lane × Ph => bigSep (dutyK (kS x.1 x.2)) fun d => dutyTok ER (cell c (kS x.1 x.2)) 0 d)
      ∗ bigSep Finset.univ fun x : Lane × Ph => bigSep (dutyK (kS x.1 x.2)) fun d => dutyTok ER (cell c (kR x.1 x.2)) 0 d) := by
  unfold toks
  rw [bigSep_univ_sum (fun k : CK => tok (F := F) c k), bigSep_univ_sum (fun k => tok (F := F) c (.inr k)), bigSep_univ_sum (fun k => tok (F := F) c (.inr (.inr k))),
    bigSep_univ_eq_bigSepL [()] (by decide) (by decide), bigSep_univ_eq_bigSepL [(0 : Fin 3), 1, 2] (by decide) (by decide)]
  refine BI.sep_mono (tok_bar c) (BI.sep_mono (BI.sep_mono (tok_one c (kC 0) 0) (BI.sep_mono (tok_one c (kC 1) 0) (tok_one c (kC 2) 0))) (BI.sep_mono ?_ ?_))
  · exact bigSep_mono fun x _ => tok_duties c (kS x.1 x.2)
  · exact bigSep_mono fun x _ => tok_duties c (kR x.1 x.2)

/-- A separating conjunction over devices may be taken at each device's partner instead. -/
theorem cross_one (k : Fin 3) (Φ : Dev nD → sProp 𝕄) : (bigSep Finset.univ fun c : Dev nD => Φ c) = bigSep Finset.univ fun c : Dev nD => Φ (partner k c) :=
  bigSep_univ_equiv (crossing k) Φ
/-- A separating conjunction over devices and phases may be taken at each phase's peer instead. -/
theorem cross_all (Φ : Dev nD → Lane × Ph → sProp 𝕄) :
    (bigSep Finset.univ fun c : Dev nD => bigSep Finset.univ fun x : Lane × Ph => Φ c x)
      = bigSep Finset.univ fun c : Dev nD => bigSep Finset.univ fun x : Lane × Ph => Φ (peer c x.1 x.2) x := by
  rw [bigSep_univ_comm, bigSep_univ_comm (fun (c : Dev nD) (x : Lane × Ph) => Φ (peer c x.1 x.2) x)]
  exact bigSep_congr fun x _ => cross_one (dimPh x.1 x.2) fun c => Φ c x

/-- The tokens of every device's own cells can be passed on to the devices that pay with them. -/
theorem toks_across : (bigSep Finset.univ fun c : Dev nD => toks (F := F) c) ⊢ bigSep Finset.univ fun c : Dev nD => payToks (F := F) c := by
  refine (bigSep_mono fun c _ => toks_own c).trans ?_
  unfold payToks toksP
  simp only [bigSep_sep']
  rw [cross_one 0 fun c => (dutyTok ER (cell c kB) 0 (Fin.castSucc 0) : sProp 𝕄), cross_one 1 fun c => (dutyTok ER (cell c kB) 0 (Fin.castSucc 1) : sProp 𝕄),
    cross_one 2 fun c => (dutyTok ER (cell c kB) 0 (Fin.castSucc 2) : sProp 𝕄),
    cross_all fun c x => (bigSep (dutyK (kS x.1 x.2)) fun d => dutyTok ER (cell c (kR x.1 x.2)) 0 d : sProp 𝕄)]
  exact Entails.of_eq (PROP := sProp 𝕄) rfl

/-! ## The global step -/

/-- What the global step leaves a device: every cell's invariant and mark, its own places, the tokens it pays with. -/
def started₀ (c : Dev nD) : sProp 𝕄 :=
  iprop(∃ K : Dev nD × CK → ℕ, (bigSep Finset.univ fun x : Dev nD × CK => cellInv ER (Rd D) (K x) (cell x.1 x.2))
    ∗ (bigSep Finset.univ fun x : Dev nD × CK => reached ER (cell x.1 x.2) 0) ∗ places (F := F) c ∗ payToks (F := F) c)

/-- A persistent fact can be used at every member of a separating conjunction. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- Every cell's invariant and mark. -/
def marks (K : Dev nD × CK → ℕ) : sProp 𝕄 :=
  iprop((bigSep Finset.univ fun x : Dev nD × CK => cellInv ER (Rd D) (K x) (cell x.1 x.2))
    ∗ bigSep Finset.univ fun x : Dev nD × CK => reached ER (cell x.1 x.2) 0)
instance marks_persistent (K : Dev nD × CK → ℕ) : BI.Persistent (marks D K) := by unfold marks; infer_instance

/-- Every cell's mark, a device's places and the tokens it pays with are what the global step leaves it. -/
theorem started_intro (K : Dev nD × CK → ℕ) (c : Dev nD) : iprop(marks D K ∗ places (F := F) c ∗ payToks (F := F) c) ⊢ started₀ D c := by
  unfold marks started₀
  iintro ⟨⟨HI, HR⟩, HP, HT⟩
  iexists K
  isplitl [HI]; · iexact HI
  isplitl [HR]; · iexact HR
  isplitl [HP] <;> iassumption

/-- All devices' invariants, places and tokens, gathered into what the global step leaves each of them. -/
theorem regroup :
    (bigSep Finset.univ fun c : Dev nD => iprop((bigSep Finset.univ fun k => iprop(∃ κ : ℕ, cellInv ER (Rd D) κ (cell c k)))
          ∗ (places (F := F) c ∗ bigSep Finset.univ fun k => reached ER (cell c k) 0) ∗ toks (F := F) c) : sProp 𝕄)
      ⊢ bigSep Finset.univ fun c => started₀ D c := by
  rw [bigSep_sep', bigSep_sep', bigSep_sep', ← bigSep_univ_prod (fun x : Dev nD × CK => iprop(∃ κ : ℕ, cellInv ER (Rd D) κ (cell x.1 x.2))),
    ← bigSep_univ_prod (fun x : Dev nD × CK => (reached ER (cell x.1 x.2) 0 : sProp 𝕄))]
  iintro ⟨HI, ⟨Hat, #HR⟩, Htok⟩
  ihave HK := (BI.bigSep_exists_pi Finset.univ (fun (x : Dev nD × CK) (κ : ℕ) => (cellInv ER (Rd D) κ (cell x.1 x.2) : sProp 𝕄))) $$ HI
  icases HK with ⟨%K, #HI⟩
  ihave Htk := (toks_across (F := F)) $$ Htok
  iapply (with_persistent (R := marks D K) fun c _ => started_intro D K c)
  isplitr
  · unfold marks; isplitl; · iexact HI
    iexact HR
  · rw [bigSep_sep']
    isplitl [Hat] <;> iassumption

/-- The global step: all the devices' semaphores become the cells' invariants. -/
theorem glob : (bigSep Finset.univ fun c => iprop(Pipeline.ownSems0 (Ix := Unit) (Name := ℕ) (U := UU) (Lvl := ℕ) (Val := Elt F) (τ := τ) osem c ∗ unscopedSems0 c ∗ dealt D c) : sProp 𝕄)
    ⊢ |={Set.univ}=> bigSep Finset.univ fun c => started₀ D c :=
  ((bigSep_mono fun c _ => core_alloc D c).trans (bigSep_fupd _ _)).trans (BI.fupd_mono (regroup D))

/-! ## The launch credit -/

/-- Two cells of one kind are equal just when their devices are. -/
theorem cell_eq_iff (k : CK) (a b : Dev nD) : cell a k = cell b k ↔ a = b :=
  ⟨fun h => congrArg (fun g : GSem nD τ sig => g.1.1) h, fun h => h ▸ rfl⟩

/-- What every device owes across one dimension is what every device will receive. -/
theorem cred_across (d : Fin 3) (k : CK) (n : ℕ) (c : Dev nD) :
    (Pipeline.launchCred (fun c : Dev nD => tallyAt (cell (partner d c) k) () n) c : sProp 𝕄) ⊢ cred (tallyAt (cell c k) () n) := by
  unfold Pipeline.launchCred
  refine (bigSep_elim (Finset.mem_univ (sm k))).trans (Entails.of_eq (congrArg cred ?_))
  show tallyOn (cell c k) _ = tallyOn (cell c k) (Finsupp.single () n)
  refine congrArg _ (Finsupp.ext fun u => ?_); cases u
  rw [Pipeline.launchCredit_owing, Finsupp.single_eq_same, Finset.sum_congr rfl fun e _ => show tallyAt (cell (partner d e) k) () n (cell c k) () = if e = partner d c then n else 0 by
    rw [tallyAt_apply]
    refine if_congr ⟨fun h => ?_, fun h => ⟨?_, rfl⟩⟩ rfl rfl
    · rw [(cell_eq_iff k c _).mp h.1, partner_partner]
    · rw [h, partner_partner]]
  rw [Finset.sum_ite_eq' Finset.univ (partner d c) fun _ => n, if_pos (Finset.mem_univ _)]

/-- Before any phase is issued, a device owes every phase's whole credit. -/
theorem owed_start (c : Dev nD) : owed c (fun _ => 0) = ∑ x : Lane × Ph, tallyAt (cell (peer c x.1 x.2) (kR x.1 x.2)) () (totP x.2) :=
  Finset.sum_congr rfl fun x _ => if_pos (Nat.zero_le _)

/-- The credit a device gets at launch is three for its barrier and each phase's whole credit. -/
theorem creds (c : Dev nD) :
    (Pipeline.launchCred O₀ c : sProp 𝕄)
      ⊢ iprop(cred (tallyAt (cell c kB) () 3) ∗ bigSep Finset.univ fun x : Lane × Ph => cred (tallyAt (cell c (kR x.1 x.2)) () (totP x.2))) := by
  rw [show (O₀ : Dev nD → CellTallies nD τ sig Unit) = fun c => (((∑ x : Lane × Ph, tallyAt (cell (peer c x.1 x.2) (kR x.1 x.2)) () (totP x.2)) + owedB c 2) + owedB c 1) + owedB c 0 from
      funext fun c => by unfold O₀; rw [owed_start],
    Pipeline.launchCred_add (fun c => ((∑ x : Lane × Ph, tallyAt (cell (peer c x.1 x.2) (kR x.1 x.2)) () (totP x.2)) + owedB c 2) + owedB c 1) (fun c => owedB c 0),
    Pipeline.launchCred_add (fun c => (∑ x : Lane × Ph, tallyAt (cell (peer c x.1 x.2) (kR x.1 x.2)) () (totP x.2)) + owedB c 2) (fun c => owedB c 1),
    Pipeline.launchCred_add (fun c => ∑ x : Lane × Ph, tallyAt (cell (peer c x.1 x.2) (kR x.1 x.2)) () (totP x.2)) (fun c => owedB c 2),
    Pipeline.launchCred_sum Finset.univ (fun (x : Lane × Ph) c => tallyAt (cell (peer c x.1 x.2) (kR x.1 x.2)) () (totP x.2))]
  iintro ⟨⟨⟨Hx, H2⟩, H1⟩, H0⟩
  ihave H0 := (show (Pipeline.launchCred (fun c => owedB c 0) c : sProp 𝕄) ⊢ cred (tallyAt (cell c kB) () 1) from cred_across 0 kB 1 c) $$ H0
  ihave H1 := (show (Pipeline.launchCred (fun c => owedB c 1) c : sProp 𝕄) ⊢ cred (tallyAt (cell c kB) () 1) from cred_across 1 kB 1 c) $$ H1
  ihave H2 := (show (Pipeline.launchCred (fun c => owedB c 2) c : sProp 𝕄) ⊢ cred (tallyAt (cell c kB) () 1) from cred_across 2 kB 1 c) $$ H2
  isplitl [H0 H1 H2]
  · rw [show (3 : ℕ) = 1 + (1 + 1) from rfl, ← tallyAt_add, ← tallyAt_add]
    iapply (cred_add _ _).2
    isplitl [H0]; · iexact H0
    iapply (cred_add _ _).2
    isplitl [H1] <;> iassumption
  iapply (show (bigSep Finset.univ fun x : Lane × Ph => (Pipeline.launchCred (fun c : Dev nD => tallyAt (cell (peer c x.1 x.2) (kR x.1 x.2)) () (totP x.2)) c : sProp 𝕄))
      ⊢ bigSep Finset.univ fun x : Lane × Ph => cred (tallyAt (cell c (kR x.1 x.2)) () (totP x.2)) from
    bigSep_mono fun x _ => cred_across (dimPh x.1 x.2) (kR x.1 x.2) (totP x.2) c)
  iexact Hx

/-- A device's ghost state at the start, assembled. -/
theorem ghost_intro (c : Dev nD) : iprop(places (F := F) c ∗ payToks (F := F) c ∗ Pipeline.launchCred O₀ c) ⊢ ghost₀ (F := F) c := by
  unfold places payToks ghost₀ fetchGhost preUn atP
  rw [bigSep_univ_sum (fun k : CK => (atPos ER (cell c k) 0 ∅ 0 : sProp 𝕄)), bigSep_univ_sum (fun k => (atPos ER (cell c (.inr k)) 0 ∅ 0 : sProp 𝕄)),
    bigSep_univ_sum (fun k => (atPos ER (cell c (.inr (.inr k))) 0 ∅ 0 : sProp 𝕄)),
    bigSep_univ_eq_bigSepL [()] (by decide) (by decide), bigSep_univ_eq_bigSepL [(0 : Fin 3), 1, 2] (by decide) (by decide)]
  simp only [bigSep_sep', bigSepL_cons_cons, bigSepL_singleton, show ∀ A B : sProp 𝕄, BI.sep A B = iprop(A ∗ B) from fun _ _ => rfl]
  iintro ⟨⟨HaB, ⟨A0, A1, A2⟩, HaS, HaR⟩, ⟨HT, ⟨T0, T1, T2⟩, HP⟩, HC⟩
  ihave HC := (creds (F := F) c) $$ HC
  icases HC with ⟨HcB, HcR⟩
  isplitl [HT]; · iexact HT
  isplitl [HaB HcB]
  · isplitl [HaB] <;> iassumption
  isplitl [A0 A1 A2 T0 T1 T2]
  · isplitl [A0 T0]
    · isplitl [T0] <;> iassumption
    isplitl [A1 T1]
    · isplitl [T1] <;> iassumption
    isplitl [T2] <;> iassumption
  isplitl [HP]; · iexact HP
  isplitl [HcR]; · iexact HcR
  isplitl [HaS] <;> iassumption

/-! ## The end -/

/-- A cell whose round is closed gives its semaphore back at zero. -/
theorem doneK_close (K : Dev nD × CK → ℕ) (c : Dev nD) (k : CK) : iprop(records D K ∗ doneK (F := F) c k) ⊢ |={Set.univ}=> semVal (cell c k) 0 := by
  iintro ⟨#HR, H⟩
  iapply (Rounds.cell_close ER (Rd D) (Set.mem_univ (K (c, k))) (fun h => h) (R := 0 + 1) (Rd_later D (cell c k)))
  isplitr; · iapply (rec_inv D K c k); iexact HR
  iexact H

/-- Every cell of a device closed is every counter of it at zero. -/
theorem close_all (K : Dev nD × CK → ℕ) (c : Dev nD) :
    iprop(records D K ∗ ghost₁ (F := F) c) ⊢ |={Set.univ}=> iprop(unscopedSems0 c ∗ Pipeline.ownSems0 (Ix := Unit) (Name := ℕ) (U := UU) (Lvl := ℕ) (Val := Elt F) (τ := τ) osem c) := by
  rw [sems_eq]
  have hg : ghost₁ (F := F) c = bigSep Finset.univ fun k : CK => doneK (F := F) c k := by
    unfold ghost₁ closed Dn
    rw [bigSep_univ_sum (fun k : CK => doneK (F := F) c k), bigSep_univ_sum (fun k => doneK (F := F) c (.inr k)), bigSep_univ_sum (fun k => doneK (F := F) c (.inr (.inr k))),
      bigSep_univ_eq_bigSepL [()] (by decide) (by decide), bigSep_univ_eq_bigSepL [(0 : Fin 3), 1, 2] (by decide) (by decide),
      show (bigSep Finset.univ fun x : Lane × Ph => doneK (F := F) c (.inr (.inr (.inl x)))) = _ from bigSep_univ_prod _,
      show (bigSep Finset.univ fun x : Lane × Ph => doneK (F := F) c (.inr (.inr (.inr x)))) = _ from bigSep_univ_prod _]
    simp only [bigSep_sep']
    rfl
  rw [hg]
  exact (with_persistent fun k _ => doneK_close D K c k).trans (bigSep_fupd _ _)

end Cert.Hyper

end
-- ==== Proof.ProgEq.lean ====
/-
The printed body is the program of pieces.
-/
module

public import proofs.«01_k».proof.Proof.Prog

@[expose] public section

noncomputable section

namespace Cert.Hyper

open Cert.KernelIdeal Cert.KernelIdeal.Gen
open Idealize.ShloMosaic Idealize.ShloMosaic.TcCoe
open Idealize.SL Idealize.SL.Sem

variable {F : FTy → Type} [FloatOps F]

/-- The printed body, as the pipeline calls it, is the program of pieces at the device it runs on. -/
theorem bodyAt_eq : bodyAt0 (F := F) t0_0 = (Prog.lift .deviceId >>= bodyProg (F := F)) := by chain_rfl

end Cert.Hyper

end
-- ==== Proof.Launch.lean ====
/-
The launch: the body's run put under the pipeline of the one region, and the program's run from any memory.
-/
module

public import proofs.«01_k».proof.Proof.Deal
public import proofs.«01_k».proof.Proof.ProgEq
public import proofs.«01_k».proof.Proof.Gen.KernelIdeal.Points
public import proofs.«01_k».proof.Proof.Gen.KernelIdeal.Frame

@[expose] public section

noncomputable section

namespace Cert.Hyper

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The contents, from the memory at the start -/

/-- The columns of the key and value weights a device reads. -/
abbrev colR (c : Dev nD) : Rect S1024x2048 := Rect.unit (s := S1024x2048) (k0_off1 c) S1024x256.size (k0_off1_inb c)

abbrev xIn (c : Dev nD) : S4x256x1024.Idx → Elt F .f32 := iblk m c 0 t0_0
abbrev wqIn (c : Dev nD) : S1024x1024.Idx → Elt F .f32 := iblk m c 1 t0_0
/-- The columns of the key weights that a device reads. -/
def wkIn (c : Dev nD) : S1024x256.Idx → Elt F .f32 := fun y => m ((c : Thread nD τ).loc main_arg3) ((colR c).emb y)
/-- The columns of the value weights that a device reads. -/
def wvIn (c : Dev nD) : S1024x256.Idx → Elt F .f32 := fun y => m ((c : Thread nD τ).loc main_arg4) ((colR c).emb y)
/-- A device's output weights. -/
def woIn (c : Dev nD) : S1024x1024.Idx → Elt F .f32 := m ((c : Thread nD τ).loc main_arg2)

/-- The run's data: each device's weights, and its four partial products of them and its rows. -/
def D₀ : Data F where
  b c g := part (wqIn m c) (wkIn m c) (wvIn m c) (woIn m c) g fun y => xIn m c ((xR g).emb y)
  wk := wkIn m
  wv := wvIn m
  wo := woIn m

/-! ## The arguments the region does not stage -/

/-- The columns of the key and value weights a device does not read. -/
def spare (c : Dev nD) : sProp 𝕄 :=
  iprop(heldOn (c : Thread nD τ) (Memref.whole main_arg3) (colR c).setᶜ (m ((c : Thread nD τ).loc main_arg3))
    ∗ heldOn (c : Thread nD τ) (Memref.whole main_arg4) (colR c).setᶜ (m ((c : Thread nD τ).loc main_arg4)))

/-- An array apart into the columns read and the rest. -/
theorem cols_split (c : Dev nD) (mm : Memref sig .tc .hbm S1024x2048 .f32) (X : S1024x2048.Idx → Elt F .f32) :
    (owns (c : Thread nD τ) mm fullShare X : sProp 𝕄)
      = iprop(owns (c : Thread nD τ) (mm.slice (colR c) (fun _ => rfl)) fullShare (fun y => X ((colR c).emb y)) ∗ heldOn (c : Thread nD τ) mm (colR c).setᶜ X) := by
  rw [← heldOn_univ, ← Finset.union_compl (colR c).set, heldOn_union disjoint_compl_right, heldOn_slice (c := (c : Thread nD τ)) (m := mm) (colR c) (fun _ => rfl)]

/-- The arguments the region does not stage are the three weights' sources and the columns not read. -/
theorem rest_split (c : Dev nD) :
    (Pipeline.unscopedRest cfg0.spec c (V m c) : sProp 𝕄) = iprop(sources (D₀ m) c ∗ spare m c) := by
  rw [unscopedRest0_eq]
  have e2 := owns_whole (Ix := Unit) (Name := ℕ) (U := UU) (Lvl := ℕ) (c : Thread nD τ) main_arg2 fullShare (V m c main_arg2)
  have e3 := owns_whole (Ix := Unit) (Name := ℕ) (U := UU) (Lvl := ℕ) (c : Thread nD τ) main_arg3 fullShare (V m c main_arg3)
  have e4 := owns_whole (Ix := Unit) (Name := ℕ) (U := UU) (Lvl := ℕ) (c : Thread nD τ) main_arg4 fullShare (V m c main_arg4)
  rw [← e2, ← e3, ← e4, cols_split c (Memref.whole main_arg3), cols_split c (Memref.whole main_arg4)]
  unfold sources spare
  refine eq_of_entails ?_ ?_
  · iintro ⟨H2, ⟨H3, R3⟩, H4, R4⟩
    isplitl [H2 H3 H4]
    · isplitl [H3]; · iexact H3
      isplitl [H4]; · iexact H4
      iexact H2
    isplitl [R3]; · iexact R3
    iexact R4
  · iintro ⟨⟨H3, H4, H2⟩, R3, R4⟩
    isplitl [H2]; · iexact H2
    isplitl [H3 R3]
    · isplitl [H3]; · iexact H3
      iexact R3
    isplitl [H4]; · iexact H4
    iexact R4

/-! ## The scratch memory -/

/-- Owning a whole buffer through its memref at any contents is owning the buffer at any contents. -/
theorem any_whole (c : Dev nD) {sp : Space} {sh : Shape} {e : EltTy} {mm : Memref sig .tc sp sh e} (h : mm.IsWhole) :
    (anyOn (c : Thread nD τ) mm Finset.univ : sProp 𝕄) = iprop(∃ f, (mm.view.loc (c : Thread nD τ)) ↦{fullShare} f) := by
  have e := Memref.IsWhole.exists_owns_eq (Ix := Unit) (Name := ℕ) (U := UU) (Lvl := ℕ) (Val := Elt F) (c := (c : Thread nD τ)) h fullShare
  rw [← e]
  unfold anyOn
  simp only [heldOn_univ]

/-- Nineteen assertions in a row, grouped. -/
theorem nineteen (a0 a1 a2 a3 a4 a5 a6 a7 a8 a9 a10 a11 a12 a13 a14 a15 a16 a17 a18 : sProp 𝕄) :
    iprop(a0 ∗ a1 ∗ a2 ∗ a3 ∗ a4 ∗ a5 ∗ a6 ∗ a7 ∗ a8 ∗ a9 ∗ a10 ∗ a11 ∗ a12 ∗ a13 ∗ a14 ∗ a15 ∗ a16 ∗ a17 ∗ a18) = iprop((a0 ∗ a1 ∗ a2 ∗ a3 ∗ a4 ∗ a5 ∗ a6 ∗ a7) ∗ (a8 ∗ a9 ∗ a10 ∗ a11 ∗ a12 ∗ a13 ∗ a14 ∗ a15) ∗ a16 ∗ a17 ∗ a18) := by
  refine eq_of_entails ?_ ?_
  · iintro ⟨a0, a1, a2, a3, a4, a5, a6, a7, a8, a9, a10, a11, a12, a13, a14, a15, a16, a17, a18⟩
    isplitl [a0 a1 a2 a3 a4 a5 a6 a7]
    · isplitl [a0]; · iexact a0
      isplitl [a1]; · iexact a1
      isplitl [a2]; · iexact a2
      isplitl [a3]; · iexact a3
      isplitl [a4]; · iexact a4
      isplitl [a5]; · iexact a5
      isplitl [a6] <;> iassumption
    isplitl [a8 a9 a10 a11 a12 a13 a14 a15]
    · isplitl [a8]; · iexact a8
      isplitl [a9]; · iexact a9
      isplitl [a10]; · iexact a10
      isplitl [a11]; · iexact a11
      isplitl [a12]; · iexact a12
      isplitl [a13]; · iexact a13
      isplitl [a14] <;> iassumption
    isplitl [a16]; · iexact a16
    isplitl [a17] <;> iassumption
  · iintro ⟨⟨a0, a1, a2, a3, a4, a5, a6, a7⟩, ⟨a8, a9, a10, a11, a12, a13, a14, a15⟩, a16, a17, a18⟩
    isplitl [a0]; · iexact a0
    isplitl [a1]; · iexact a1
    isplitl [a2]; · iexact a2
    isplitl [a3]; · iexact a3
    isplitl [a4]; · iexact a4
    isplitl [a5]; · iexact a5
    isplitl [a6]; · iexact a6
    isplitl [a7]; · iexact a7
    isplitl [a8]; · iexact a8
    isplitl [a9]; · iexact a9
    isplitl [a10]; · iexact a10
    isplitl [a11]; · iexact a11
    isplitl [a12]; · iexact a12
    isplitl [a13]; · iexact a13
    isplitl [a14]; · iexact a14
    isplitl [a15]; · iexact a15
    isplitl [a16]; · iexact a16
    isplitl [a17] <;> iassumption

/-- A separating conjunction over the lanes, written out. -/
theorem lanes_row (Φ : Lane → sProp 𝕄) :
    bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

/-- The accumulators as memrefs and as buffers, at any contents. -/
theorem acc_row (c : Dev nD) : (bigSep Finset.univ fun l : Lane => anyOn (c : Thread nD τ) (accL l) Finset.univ : sProp 𝕄)
    = bigSep Finset.univ fun l : Lane => iprop(∃ f, ((accL l).view.loc (c : Thread nD τ)) ↦{fullShare} f) := bigSep_congr fun l _ => any_whole c (accM_whole l.1 l.2)
/-- The communication buffers as memrefs and as buffers, at any contents. -/
theorem comm_row (c : Dev nD) : (bigSep Finset.univ fun l : Lane => anyOn (c : Thread nD τ) (commL l) Finset.univ : sProp 𝕄)
    = bigSep Finset.univ fun l : Lane => iprop(∃ f, ((commL l).view.loc (c : Thread nD τ)) ↦{fullShare} f) := bigSep_congr fun l _ => any_whole c (commM_whole l.1 l.2)
/-- A whole memref that reads some values is its buffer at any contents. -/
theorem fetched_eq (c : Dev nD) {sp : Space} {sh : Shape} {e : EltTy} {mm : Memref sig .tc sp sh e} (h : mm.IsWhole) :
    (iprop(∃ X, owns (c : Thread nD τ) mm fullShare X) : sProp 𝕄) = iprop(∃ f, (mm.view.loc (c : Thread nD τ)) ↦{fullShare} f) :=
  Memref.IsWhole.exists_owns_eq (c := (c : Thread nD τ)) h fullShare

/-- The region's remaining memory is the kernel's scratch memory. -/
theorem scratch_eq (c : Dev nD) : (Pipeline.scopedRest cfg0.spec c : sProp 𝕄) = scratch (F := F) c := by
  rw [scopedRest0_eq, nineteen]
  unfold scratch
  rw [acc_row, comm_row, lanes_row, lanes_row, fetched_eq c (mm := wkM) (Memref.isWhole_whole cc0_scratch16), fetched_eq c (mm := wvM) (Memref.isWhole_whole cc0_scratch17),
    fetched_eq c (mm := woM) (Memref.isWhole_whole cc0_scratch18)]
  rfl

/-! ## The proof data -/

/-- What a device enters the region with. -/
def start (c : Dev nD) : sProp 𝕄 :=
  iprop((∃ K, records (D₀ m) K ∗ ghost₀ (F := F) c) ∗ Pipeline.unscopedRest cfg0.spec c (V m c))
/-- What a device holds besides its windows before the body. -/
def Φ₀ (c : Dev nD) : sProp 𝕄 := iprop(start m c ∗ scratch (F := F) c)
/-- What it leaves with. -/
def left (c : Dev nD) : sProp 𝕄 := iprop(unscopedSems0 c ∗ Pipeline.unscopedRest cfg0.spec c (V m c))
/-- What it holds besides them after the body. -/
def Φ₁ (c : Dev nD) : sProp 𝕄 :=
  iprop(left m c ∗ Pipeline.ownSems0 (Ix := Unit) (Name := ℕ) (U := UU) (Lvl := ℕ) (Val := Elt F) (τ := τ) osem c ∗ scratch (F := F) c)

/-- The launch's data: each window's contents before and after the body, and what the device holds and owes. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wqIn m c
    | ⟨2, _⟩ => outF (D₀ m)
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The body finds the input staged. -/
theorem before_x (c : Dev nD) (d) : (dats m 0 c).before 0 t0_0 d = xIn m c :=
  ((dats m 0 c).before_in_eq_fetched 0 rfl (fun _ => rfl) (fun _ _ _ => rfl) (fun t => by rw [fin_N0 t]; rfl) t0_0 d).trans rfl
/-- The body finds the projection weights staged. -/
theorem before_wq (c : Dev nD) (d) : (dats m 0 c).before 1 t0_0 d = wqIn m c :=
  ((dats m 0 c).before_in_eq_fetched 1 rfl (fun _ => rfl) (fun _ _ _ => rfl) (fun t => by rw [fin_N0 t]; rfl) t0_0 d).trans rfl

/-- What the body is entered with, and what it leaves. -/
def bodyPre (c : Dev nD) : sProp 𝕄 :=
  iprop(Φ₀ m c ∗ (dats m 0 c).owesAt () t0_0.castSucc
    ∗ (∃ d, owns (c : Thread nD τ) xM fullShare ((dats m 0 c).before 0 t0_0 d))
    ∗ (∃ d, owns (c : Thread nD τ) wqM fullShare ((dats m 0 c).before 1 t0_0 d))
    ∗ (∃ d, owns (c : Thread nD τ) outM fullShare ((dats m 0 c).before 2 t0_0 d)))
/-- What the body leaves. -/
def bodyPost (c : Dev nD) : sProp 𝕄 :=
  iprop(Φ₁ m c ∗ (dats m 0 c).owesAt () t0_0.succ
    ∗ owns (c : Thread nD τ) xM fullShare (xIn m c) ∗ owns (c : Thread nD τ) wqM fullShare (wqIn m c)
    ∗ owns (c : Thread nD τ) outM fullShare (outF (D₀ m)))

/-- On entry, the device owes what it was launched owing. -/
theorem owed_in (c : Dev nD) : (dats m 0 c).owesAt () t0_0.castSucc ⊢ owing (F := F) c (O₀ c) := by
  unfold Dat.owesAt Pipeline.owesWithin owing
  rw [show (dats m 0 c).owed t0_0.castSucc = O₀ c from rfl]
  iintro ⟨%W, -, H⟩
  iexists W; iexact H
/-- On exit, the device owes nothing. -/
theorem owed_out (c : Dev nD) : owing (F := F) c 0 ⊢ (dats m 0 c).owesAt () t0_0.succ := by
  unfold Dat.owesAt Pipeline.owesWithin owing
  rw [show (dats m 0 c).owed t0_0.succ = 0 from rfl]
  iintro ⟨%W, H⟩
  iexists W
  isplitr; · ipureintro; exact fun _ _ => Or.inl trivial
  iexact H

/-- The body, from what it is entered with, leaves what it should. -/
theorem body_at (c : Dev nD) : bodyPre m c ⊢ run c (bodyAt0 (F := F) t0_0) fun _ => bodyPost m c := by
  rw [bodyAt_eq]
  unfold bodyPre Φ₀ start
  iintro ⟨⟨⟨⟨%K, #HR, HG⟩, Hrest⟩, Hscr⟩, HO, ⟨%d0, Hx⟩, ⟨%d1, Hq⟩, ⟨%d2, Hout⟩⟩
  ihave Hsp := (Entails.of_eq (rest_split m c)) $$ Hrest
  icases Hsp with ⟨Hsrc, Hsp⟩
  ihave HO := (owed_in m c) $$ HO
  ihave Hx := (Entails.of_eq ((congrArg (fun X => (owns (c : Thread nD τ) xM fullShare X : sProp 𝕄)) (before_x m c d0)).trans (heldOn_univ (c := (c : Thread nD τ)) (m := xM) _).symm)) $$ Hx
  ihave Hq := (Entails.of_eq ((congrArg (fun X => (owns (c : Thread nD τ) wqM fullShare X : sProp 𝕄)) (before_wq m c d1)).trans (heldOn_univ (c := (c : Thread nD τ)) (m := wqM) _).symm)) $$ Hq
  ihave Hout := ((Entails.of_eq (heldOn_univ (c := (c : Thread nD τ)) (m := outM) _).symm).trans heldOn_any) $$ Hout
  unfold run Prog.lift
  simp only [Prog.bind_op, Prog.bind_ret]
  rw [wp_deviceId]
  iapply (wp_fupd frame (wpE (defs₀ (F := F)) 𝒱₀ (c : Thread nD τ) none) Set.univ)
  iapply (wp_wand frame (wpE (defs₀ (F := F)) 𝒱₀ (c : Thread nD τ) none) Set.univ) $$ [HG HO Hscr Hsrc Hx Hq Hout]
  · iapply (body_run (D₀ m) K c (wqIn m c) (xIn m c) (fun _ => rfl))
    isplitr; · iexact HR
    isplitl [HG]; · iexact HG
    isplitl [HO]; · iexact HO
    isplitl [Hscr]; · iexact Hscr
    isplitl [Hsrc]; · iexact Hsrc
    isplitl [Hx]; · iexact Hx
    isplitl [Hq]; · iexact Hq
    iexact Hout
  iintro %u ⟨HG, HO, Hscr, Hsrc, Hx, Hq, Hout⟩
  imod (close_all (D₀ m) K c) $$ [HG] with ⟨Hu, Ho⟩
  · isplitr; · iexact HR
    iexact HG
  imodintro
  unfold bodyPost Φ₁ left
  isplitl [Hu Ho Hscr Hsrc Hsp]
  · isplitl [Hu Hsrc Hsp]
    · isplitl [Hu]; · iexact Hu
      iapply (Entails.of_eq (rest_split m c).symm)
      isplitl [Hsrc] <;> iassumption
    isplitl [Ho]; · iexact Ho
    iexact Hscr
  isplitl [HO]; · iapply (owed_out m c); iexact HO
  isplitl [Hx]; · iapply (Entails.of_eq (heldOn_univ (c := (c : Thread nD τ)) (m := xM) _)); iexact Hx
  isplitl [Hq]; · iapply (Entails.of_eq (heldOn_univ (c := (c : Thread nD τ)) (m := wqM) _)); iexact Hq
  iapply (Entails.of_eq (heldOn_univ (c := (c : Thread nD τ)) (m := outM) _)); iexact Hout

/-- The body table's row at the point is the body as the region calls it. -/
theorem defs₀_row : defs₀ (F := F) .tc cfg0.body (cfg0.bodyArgs t0_0 (cfg0.slots t0_0)) = bodyAt0 t0_0 := by
  unfold defs₀; rw [Defs.onTc_tc]

/-- The body obligation of the region's pipeline, on each device. -/
theorem body_obligation (c : Dev nD) : BodyObligation (dats (F := F) m 0 c) (defs₀ (F := F)) 𝒱₀ () Set.univ := fun t => by
  rw [fin_N0 t, bigSep_W0, bigSep_W0, defs₀_row]
  exact triple_restated (body_at m c) rfl .rfl fun _ => .rfl

/-! ## The launch's conditions -/

/-- Every window is held whole. -/
theorem share_eq (c : Dev nD) (w : Fin cfg0.W) : (dats m 0 c).share w = fullShare := by unfold Dat.share; split <;> rfl

/-- The initial ghost state. -/
def u₀ : UU := (initOf (Pipeline.cells cfgs cellOf_inj) (Pipeline.launchToks cfgs cellOf_inj), initOf hyperCells hyperToks)

/-- What the launch gives a device is what it enters the region with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ started₀ (D₀ m) c)
      ⊢ |={Set.univ}=> iprop(start m c ∗ emp) := by
  rw [Pipeline.unscopedRestP_none]
  unfold started₀ start records
  iintro ⟨Hrest, Hlev, Hcr, -, ⟨%K, HI, HR, HP, HT⟩⟩
  imodintro
  isplitl
  · isplitr [Hrest]
    · iexists K
      isplitl [HI HR Hlev]
      · isplitl [HI]; · iexact HI
        isplitl [HR]; · iexact HR
        iexact Hlev
      iapply (ghost_intro (F := F) c)
      isplitl [HP]; · iexact HP
      isplitl [HT] <;> iassumption
    iexact Hrest
  iempintro

/-- That, and the region's memory, is what the body starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs] <;> iassumption

/-- What the body ends with gives back the arguments, the semaphores and the memory. -/
theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scratch_eq]
  unfold Φ₁
  iintro H
  iexact H

/-- Everything owed at the start is owed to a barrier or to a receive cell. -/
theorem start_pos {c : Dev nD} {g : GSem nD τ sig} {u : Unit} (h : 0 < O₀ c g u) : ∃ c' k, g = cell c' k ∧ 0 < lvK k := by
  unfold O₀ owedB at h
  rw [Pi.add_apply, Finsupp.add_apply, Pi.add_apply, Finsupp.add_apply, Pi.add_apply, Finsupp.add_apply] at h
  by_cases h0 : 0 < tallyAt (cell (partner 0 c) kB) () 1 g u
  · exact ⟨_, kB, tally_pos h0, by decide⟩
  by_cases h1 : 0 < tallyAt (cell (partner 1 c) kB) () 1 g u
  · exact ⟨_, kB, tally_pos h1, by decide⟩
  by_cases h2 : 0 < tallyAt (cell (partner 2 c) kB) () 1 g u
  · exact ⟨_, kB, tally_pos h2, by decide⟩
  have h3 : 0 < owed c (fun _ => 0) g u := by omega
  obtain ⟨l, p, -, hg⟩ := owed_pos h3
  exact ⟨_, _, hg, Nat.succ_pos _⟩

/-- The staging buffers' semaphores are no cell of the protocol. -/
theorem stage_other : ∀ (w : Fin cfg0.W) (s : Fin (cfg0.win w).nbuf) (k : CK), sm k ≠ .dma ((cfg0.win w).sem s) := by decide +kernel

/-- A device may wait for its windows' copies, on entry and on exit. -/
theorem mayWait_stage (c : Dev nD) (w : Fin cfg0.W) (s : Fin (cfg0.win w).nbuf) (O : CellTallies nD τ sig Unit) (hO : O = O₀ c ∨ O = 0) :
    (levAts L lv : sProp 𝕄) ⊢ MayWait (c : Thread nD τ) (.dma ((cfg0.win w).sem s)) () O := by
  rcases hO with rfl | rfl
  · refine MayOwe.of_cut (L := L) (lev := lv) 0 (fun p hp => by rw [Finset.mem_singleton.mp hp, L_tc]; exact Finset.mem_singleton_self _)
      (fun g u hg => by obtain ⟨c', k, rfl, -⟩ := start_pos hg; rw [L_tc]; exact Finset.mem_singleton_self _)
      (fun p hp => by
        rw [Finset.mem_singleton.mp hp]
        show (keyOf _).elim 0 lvK ≤ 0
        unfold keyOf
        rw [dif_neg fun ⟨k, hk⟩ => stage_other w s k hk]; exact le_refl 0)
      (fun g u hg => by obtain ⟨c', k, rfl, hk⟩ := start_pos hg; rw [lv_cell]; exact hk)
  · rw [MayWait_zero]; iintro -; iempintro

/-- All waits of the pipeline around the body are allowed. -/
theorem waits (c : Dev nD) : (levAts L lv : sProp 𝕄) ⊢ Pipeline.cellsWaits cfgs (dats m) () 0 c :=
  Pipeline.cellsWaits_intro cfgs (dats m) () 0 c fun w s t => mayWait_stage c w s _ (by
    rcases t with ⟨_ | _, ht⟩
    · exact Or.inl rfl
    · exact Or.inr rfl)

/-- What is left on a device, read off the memory. -/
theorem left_read (c : Dev nD) (s' : Phys nD τ sig (Elt F)) :
    iprop(left m c ∗ emp ∗ SI s') ⊢ |={Set.univ}=> iprop(⌜(∀ q : SemLoc sig, q.isScoped .tc = false → s'.mem.sem ((c.tc : Thread nD τ), q) = 0)
      ∧ ∀ b ∈ Pipeline.restRefs sig cfg0.spec, s'.mem.mem ((c : Thread nD τ).loc b) = V m c b⌝ ∗ SI s' : sProp 𝕄) := by
  unfold left
  iintro ⟨⟨Hu, Hrest⟩, -, HSI⟩
  ihave H := (show iprop(Pipeline.unscopedRest cfg0.spec c (V m c) ∗ SI s') ⊢ iprop(⌜∀ b ∈ Pipeline.restRefs sig cfg0.spec, s'.mem.mem ((c : Thread nD τ).loc b) = V m c b⌝ ∗ SI s' : sProp 𝕄) from
    pointsTo_read_all _ _ _ s') $$ [Hrest HSI]
  · isplitl [Hrest] <;> iassumption
  icases H with ⟨%h, HSI⟩
  imod (Pipeline.unscopedSems0_read (X := (unscopedSems0 c : sProp 𝕄)) (c := c) fupd_intro s') $$ [Hu HSI] with ⟨%h', HSI⟩
  · isplitl [Hu] <;> iassumption
  imodintro
  isplitr; · ipureintro; exact ⟨h', h⟩
  iexact HSI

/-! ## The run -/

/-- The arrays after the run. -/
def final (c : Dev nD) (w : Fin cfg0.W) : Buf (Elt F) ((cfg0.win w).arr.view.loc (c : Thread nD τ)) := (dats m 0 c).arrAt w cfg0.N

set_option maxRecDepth 20000 in
/-- From any memory with every counter zero, over any float values: the program terminates without error on all eight
    devices, the staged arrays at the computed contents, the other arguments unchanged, every counter zero. -/
theorem run_all : θ_run defs (onTc (τ := τ) (main (F := F))) (s₀ m ρ) (fun r =>
    (∀ c : Dev nD, (∀ w : Fin cfg0.W, r.2.mem ((cfg0.win w).arr.view.loc (c : Thread nD τ)) = final m c w)
      ∧ ∀ b ∈ Pipeline.restRefs sig cfg0.spec, r.2.mem ((c : Thread nD τ).loc b) = V m c b) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt (D₀ m)) (G' := started₀ (D₀ m)) (u₀ := u₀)
    (hu₀ := by
      unfold u₀
      iintro Hu
      ihave H := (ownU_pair _ _) $$ Hu
      icases H with ⟨HP, HX⟩
      imod (fund_all (D₀ m)) $$ HX with HG
      imodintro
      isplitl [HP] <;> iassumption)
    (hglob := glob (D₀ m))
    (hA := fun _ _ => rfl) (hpf := fun _ k => k.elim0)
    (X := start m) (Y := left m) (Z := fun _ => iprop(emp))
    (hX := start_intro m ρ) (hin := phi0_intro m) (hout := phi1_exit m)
    (QY := fun c s => (∀ q : SemLoc sig, q.isScoped .tc = false → s.sem ((c.tc : Thread nD τ), q) = 0)
      ∧ ∀ b ∈ Pipeline.restRefs sig cfg0.spec, s.mem ((c : Thread nD τ).loc b) = V m c b)
    (hY := left_read m)
    (hQ := fun _ h hs => ⟨fun c => ⟨(h c).1, (h c).2.2.2⟩, sem_eq_zero hs fun c => (h c).2.2.1⟩)

/-- The arguments' arrays are as they were. -/
theorem final_x (c : Dev nD) : final m c 0 = m ((c : Thread nD τ).loc main_arg0) := (dats (F := F) m 0 c).arrAt_in 0 rfl _
/-- The projection weights end as they began. -/
theorem final_wq (c : Dev nD) : final m c 1 = m ((c : Thread nD τ).loc main_arg1) := (dats (F := F) m 0 c).arrAt_in 1 rfl _

/-- The run, at the program's arrays: the five arguments as they were, the result at its computed contents. -/
theorem run_main : θ_run defs (onTc (τ := τ) (main (F := F))) ⟨m, fun _ => 0, ρ⟩ (fun r =>
    (∀ c : Dev nD, (r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.mem ((c : Thread nD τ).loc main_v1) = final m c 2) ∧ r.2.sem = fun _ => 0) :=
  (θ_run defs _ _).mono (fun _ h => ⟨fun c =>
    ⟨⟨((h.1 c).1 0).trans (final_x m c), ((h.1 c).1 1).trans (final_wq m c),
      (h.1 c).2 main_arg2 (Pipeline.mem_restRefs_of main_arg2 (by decide) (by decide)),
      (h.1 c).2 main_arg3 (Pipeline.mem_restRefs_of main_arg3 (by decide) (by decide)),
      (h.1 c).2 main_arg4 (Pipeline.mem_restRefs_of main_arg4 (by decide) (by decide))⟩, (h.1 c).1 2⟩, h.2⟩) (run_all m ρ)

end Cert.Hyper

end
-- ==== Proof.Halving.lean ====
/-
The halving's sums over the extended reals: after its three steps a lane's accumulator holds, at every slot, the eight devices'
partial products added up, whatever the order the devices were crossed in; so the result at an index is that sum.
-/
module

public import proofs.«01_k».proof.Proof.Sched
public import Idealize.ShloMosaic.Lib.Pointwise

@[expose] public section

noncomputable section

namespace Cert.Hyper

open Cert.KernelIdeal Cert.KernelIdeal.Gen
open Idealize.ShloMosaic

/-- The devices a row half reaches in three crossings are all eight. -/
theorem cover : ∀ (a : Fin 2) (c : Dev nD), (Finset.univ : Finset (Dev nD)).val =
    ({c, across a 0 c, across a 1 c, across a 0 (across a 1 c), across a 2 c, across a 0 (across a 2 c), across a 1 (across a 2 c),
      across a 0 (across a 1 (across a 2 c))} : Multiset (Dev nD)) := by decide +kernel

/-- The eight terms that the halving adds up, in its order, are the sum over all devices. -/
theorem sum_cover (f : Dev nD → EReal) (a : Fin 2) (c : Dev nD) :
    ((f c + f (across a 0 c)) + (f (across a 1 c) + f (across a 0 (across a 1 c)))) +
      ((f (across a 2 c) + f (across a 0 (across a 2 c))) + (f (across a 1 (across a 2 c)) + f (across a 0 (across a 1 (across a 2 c))))) = ∑ c, f c := by
  unfold Finset.sum
  rw [cover a c]
  simp only [Multiset.insert_eq_cons, Multiset.map_cons, Multiset.map_singleton, Multiset.sum_cons, Multiset.sum_singleton, add_assoc]

/-- After three halvings, a slot held is the sum over all devices of its row block in their partial products. -/
theorem accF_three (D : Data Ideal) (c : Dev nD) (g : Fin 4) (a : Fin 2) (i : S8x16x1024.Idx) :
    accF D c g a 3 i = ∑ c', slab (D.b c' g) a (chunkOf a (i 0)) (slotIx (i 1) (i 2)) :=
  sum_cover (fun c' => slab (D.b c' g) a (chunkOf a (i 0)) (slotIx (i 1) (i 2))) a c

/-- Sixteen rows of a partial product, entry by entry. -/
theorem slab_apply (pb : FVec Ideal S256x1024 .bf16) (a : Fin 2) (ch : Fin 8) (r : Fin 16) (q : Fin 1024) :
    slab pb a ch (slotIx r q) = pb (ix2 ⟨32 * ch.val + 16 * a.val + r.val, by omega⟩ q) := by
  have e : slotIx r q = ix3 0 r q := funext fun k => by fin_cases k <;> rfl
  rw [e]
  pointwise [slab, slabOff]

/-- The result at an index: the eight devices' partial products there, added up. -/
theorem outF_apply (D : Data Ideal) (b : Fin 4) (r : Fin 256) (n : Fin 1024) : outF D (ix3 b r n) = ∑ c, D.b c b (ix2 r n) := by
  refine (accF_three D _ _ _ _).trans (Finset.sum_congr rfl fun c _ => ?_)
  refine (slab_apply _ _ _ _ _).trans (congrArg (D.b c b) (congrArg (ix2 · n) (Fin.ext ?_)))
  show 32 * (chunkOf _ (slotOf _ ⟨r.val / 32, _⟩)).val + 16 * (r.val / 16 % 2) + r.val % 16 = r.val
  rw [chunk_slot]
  show 32 * (r.val / 32) + 16 * (r.val / 16 % 2) + r.val % 16 = r.val
  omega

end Cert.Hyper

end
-- ==== Proof.Attn.lean ====
/-
A group's partial product over the extended reals: the four groups' payloads are one function of the weights and the group's
rows, written here in stages, and each stage is read at an index.
-/
module

public import proofs.«01_k».proof.Proof.Prog
public import Idealize.ShloMosaic.Lib.Pointwise

@[expose] public section

noncomputable section

namespace Cert.Hyper

open Cert.KernelIdeal Cert.KernelIdeal.Gen
open Idealize.ShloMosaic

section
variable {F : FTy → Type} [FloatOps F]

/-- The scaled query weights. -/
def wqScaled (wq : Vec F S1024x1024 .f32) : FVec F S1024x1024 .bf16 :=
  truncf .bf16 (mulf (shapeCast S1024x1024 wq shapeCasts_S1024x1024_S1024x1024) (broadcast S1024x1024 (Scalar.ofBits .f32 0x3DB504F3#32))) bitsLt_bf16_f32
/-- The group's rows as a matrix. -/
def rows (x : Vec F S1x256x1024 .f32) : FVec F S256x1024 .bf16 :=
  truncf .bf16 (shapeCast S256x1024 x shapeCasts_S1x256x1024_S256x1024) bitsLt_bf16_f32
/-- A product of the rows with a matrix of 1024 columns. -/
def mul1024 (x : FVec F S256x1024 .bf16) (w : FVec F S1024x1024 .bf16) : FVec F S256x1024 .bf16 :=
  truncf .bf16 (matmul dot_S256x1024_S1024x1024_S256x1024_1_0_0_1_n_n none x w (constant S256x1024 .f32 0x00000000#32)) bitsLt_bf16_f32
/-- A product of the rows with a matrix of 256 columns. -/
def mul256 (x : FVec F S256x1024 .bf16) (w : Vec F S1024x256 .f32) : FVec F S256x256 .bf16 :=
  truncf .bf16 (matmul dot_S256x1024_S1024x256_S256x256_1_0_0_1_n_n none x (truncf .bf16 w bitsLt_bf16_f32) (constant S256x256 .f32 0x00000000#32)) bitsLt_bf16_f32
/-- The first four heads' queries, one under the other. -/
def quadLo (q : FVec F S256x1024 .bf16) : FVec F S1024x128 .bf16 :=
  concatenate S1024x128 0 [⟨S256x128, extractStridedSlice S256x128 ![0, 0] q slices_S256x1024_o0_0_S256x128⟩,
    ⟨S256x128, extractStridedSlice S256x128 ![0, 128] q slices_S256x1024_o0_128_S256x128⟩,
    ⟨S256x128, extractStridedSlice S256x128 ![0, 256] q slices_S256x1024_o0_256_S256x128⟩,
    ⟨S256x128, extractStridedSlice S256x128 ![0, 384] q slices_S256x1024_o0_384_S256x128⟩] concatenates_S256x128_S256x128_S256x128_S256x128_S1024x128_d0
/-- The last four heads'. -/
def quadHi (q : FVec F S256x1024 .bf16) : FVec F S1024x128 .bf16 :=
  concatenate S1024x128 0 [⟨S256x128, extractStridedSlice S256x128 ![0, 512] q slices_S256x1024_o0_512_S256x128⟩,
    ⟨S256x128, extractStridedSlice S256x128 ![0, 640] q slices_S256x1024_o0_640_S256x128⟩,
    ⟨S256x128, extractStridedSlice S256x128 ![0, 768] q slices_S256x1024_o0_768_S256x128⟩,
    ⟨S256x128, extractStridedSlice S256x128 ![0, 896] q slices_S256x1024_o0_896_S256x128⟩] concatenates_S256x128_S256x128_S256x128_S256x128_S1024x128_d0
/-- The first head of keys or values, and the second. -/
def kvLo (k : FVec F S256x256 .bf16) : FVec F S256x128 .bf16 := extractStridedSlice S256x128 ![0, 0] k slices_S256x256_o0_0_S256x128
/-- The keys or values of a device's second head. -/
def kvHi (k : FVec F S256x256 .bf16) : FVec F S256x128 .bf16 := extractStridedSlice S256x128 ![0, 128] k slices_S256x256_o0_128_S256x128
/-- Scores of four heads' queries. -/
def scores (q : FVec F S1024x128 .bf16) (k : FVec F S256x128 .bf16) : FVec F S1024x256 .f32 :=
  matmul dot_S1024x128_S256x128_S1024x256_1_1_0_0_n_n none q k (constant S1024x256 .f32 0x00000000#32)
/-- Their exponentials, each row shifted by its greatest. -/
def weights (s : FVec F S1024x256 .f32) : FVec F S1024x256 .bf16 :=
  exp (truncf .bf16 (subf s (broadcastTo S1024x256 (shapeCast S1024x1 (multiReduction .maximumf [1] S1024 s 0xFF800000#32 reduces_S1024x256_S1024 (.inl rfl) rfl)
    shapeCasts_S1024_S1024x1) broadcasts_S1024x1_S1024x256)) bitsLt_bf16_f32)
/-- The values weighted, over the sum of the weights. -/
def average (p : FVec F S1024x256 .bf16) (v : FVec F S256x128 .bf16) : FVec F S1024x128 .bf16 :=
  truncf .bf16 (mulf (matmul dot_S1024x256_S256x128_S1024x128_1_0_0_1_n_n none p v (constant S1024x128 .f32 0x00000000#32))
    (broadcastTo S1024x128 (divf (broadcast S1024x1 (Scalar.ofBits .f32 0x3F800000#32))
      (shapeCast S1024x1 (multiReduction .add [1] S1024 (extf .f32 p bitsLt_bf16_f32) 0x00000000#32 reduces_S1024x256_S1024 (.inl rfl) rfl) shapeCasts_S1024_S1024x1))
      broadcasts_S1024x1_S1024x128)) bitsLt_bf16_f32
/-- The eight heads side by side. -/
def sideBySide (o o' : FVec F S1024x128 .bf16) : FVec F S256x1024 .bf16 :=
  concatenate S256x1024 1 [⟨S256x128, extractStridedSlice S256x128 ![0, 0] o slices_S1024x128_o0_0_S256x128⟩,
    ⟨S256x128, extractStridedSlice S256x128 ![256, 0] o slices_S1024x128_o256_0_S256x128⟩,
    ⟨S256x128, extractStridedSlice S256x128 ![512, 0] o slices_S1024x128_o512_0_S256x128⟩,
    ⟨S256x128, extractStridedSlice S256x128 ![768, 0] o slices_S1024x128_o768_0_S256x128⟩,
    ⟨S256x128, extractStridedSlice S256x128 ![0, 0] o' slices_S1024x128_o0_0_S256x128⟩,
    ⟨S256x128, extractStridedSlice S256x128 ![256, 0] o' slices_S1024x128_o256_0_S256x128⟩,
    ⟨S256x128, extractStridedSlice S256x128 ![512, 0] o' slices_S1024x128_o512_0_S256x128⟩,
    ⟨S256x128, extractStridedSlice S256x128 ![768, 0] o' slices_S1024x128_o768_0_S256x128⟩]
    concatenates_S256x128_S256x128_S256x128_S256x128_S256x128_S256x128_S256x128_S256x128_S256x1024_d1

/-- The partial product by its stages. -/
def staged (wq : Vec F S1024x1024 .f32) (wk wv : Vec F S1024x256 .f32) (wo : Vec F S1024x1024 .f32) (x : Vec F S1x256x1024 .f32) : FVec F S256x1024 .bf16 :=
  mul1024 (sideBySide
    (average (weights (scores (quadLo (mul1024 (rows x) (wqScaled wq))) (kvLo (mul256 (rows x) wk)))) (kvLo (mul256 (rows x) wv)))
    (average (weights (scores (quadHi (mul1024 (rows x) (wqScaled wq))) (kvHi (mul256 (rows x) wk)))) (kvHi (mul256 (rows x) wv))))
    (truncf .bf16 wo bitsLt_bf16_f32)

/-- Every group's payloads are these stages. -/
theorem part_eq (wq : Vec F S1024x1024 .f32) (wk wv : Vec F S1024x256 .f32) (wo : Vec F S1024x1024 .f32) (g : Fin 4) (x : Vec F S1x256x1024 .f32) :
    part wq wk wv wo g x = staged wq wk wv wo x := by
  match g with
  | 0 => rfl
  | 1 => rfl
  | 2 => rfl
  | 3 => rfl

end

/-! ## The stages at an index -/

/-- The scaled query weights are the weights times the scale. -/
theorem wqScaled_apply (wq : Vec Ideal S1024x1024 .f32) (i j : Fin 1024) :
    wqScaled wq (ix2 i j) = wq (ix2 i j) * Ideal.ofBits .f32 0x3DB504F3#32 := by
  pointwise [wqScaled]

/-- A group's rows, as a matrix, are the rows. -/
theorem rows_apply (x : Vec Ideal S1x256x1024 .f32) (r : Fin 256) (i : Fin 1024) : rows x (ix2 r i) = x (ix3 0 r i) := by
  pointwise [rows]

/-- The query product is a sum over the model dimension. -/
theorem mul1024_apply (x : FVec Ideal S256x1024 .bf16) (w : FVec Ideal S1024x1024 .bf16) (r : Fin 256) (j : Fin 1024) :
    mul1024 x w (ix2 r j) = ∑ i : Fin 1024, x (ix2 r i) * w (ix2 i j) := by
  pointwise [mul1024]

/-- The key or value product is a sum over the model dimension. -/
theorem mul256_apply (x : FVec Ideal S256x1024 .bf16) (w : Vec Ideal S1024x256 .f32) (r : Fin 256) (j : Fin 256) :
    mul256 x w (ix2 r j) = ∑ i : Fin 1024, x (ix2 r i) * w (ix2 i j) := by
  pointwise [mul256]

/-- A score is the inner product of a query and a key. -/
theorem scores_apply (q : FVec Ideal S1024x128 .bf16) (k : FVec Ideal S256x128 .bf16) (r : Fin 1024) (t : Fin 256) :
    scores q k (ix2 r t) = ∑ d : Fin 128, q (ix2 r d) * k (ix2 t d) := by
  pointwise [scores]

/-- The constant that the maximum starts from is minus infinity. -/
theorem negInf : Ideal.ofBits .f32 0xFF800000#32 = ⊥ := by simp [Ideal.ofBits, Ideal.ieee]

/-- A weight is the exponential of a score less the greatest in its row. -/
theorem weights_apply (s : FVec Ideal S1024x256 .f32) (r : Fin 1024) (t : Fin 256) :
    weights s (ix2 r t) = Ideal.exp (s (ix2 r t) - Finset.univ.fold max ⊥ fun t' : Fin 256 => s (ix2 r t')) := by
  pointwise [weights, negInf]

/-- The average is the weighted sum of the values times the reciprocal of the sum of the weights. -/
theorem average_apply (p : FVec Ideal S1024x256 .bf16) (v : FVec Ideal S256x128 .bf16) (r : Fin 1024) (e : Fin 128) :
    average p v (ix2 r e) = (∑ t : Fin 256, p (ix2 r t) * v (ix2 t e)) * Ideal.div 1 (∑ t : Fin 256, p (ix2 r t)) := by
  pointwise [average]

/-- Row `256·i + r` of the stacked queries is row `r` of the `i`-th head. -/
theorem quadLo_apply (q : FVec Ideal S256x1024 .bf16) (i : Fin 4) (r : Fin 256) (d : Fin 128) :
    quadLo q (ix2 ⟨256 * i.val + r.val, by omega⟩ d) = q (ix2 r ⟨128 * i.val + d.val, by omega⟩) := by
  match i with
  | 0 | 1 | 2 | 3 =>
    pointwise [quadLo]
    all_goals
      repeat first | rw [dif_pos (by omega)] | rw [dif_neg (by omega)]
      congr 2
      try exact Fin.ext (by simp only []; omega)

/-- Stacking the second four query heads puts head `4 + i` at rows `256 i` on. -/
theorem quadHi_apply (q : FVec Ideal S256x1024 .bf16) (i : Fin 4) (r : Fin 256) (d : Fin 128) :
    quadHi q (ix2 ⟨256 * i.val + r.val, by omega⟩ d) = q (ix2 r ⟨512 + 128 * i.val + d.val, by omega⟩) := by
  match i with
  | 0 | 1 | 2 | 3 =>
    pointwise [quadHi]
    all_goals
      repeat first | rw [dif_pos (by omega)] | rw [dif_neg (by omega)]
      congr 2
      try exact Fin.ext (by simp only []; omega)

/-- The first head's keys or values are the first 128 columns. -/
theorem kvLo_apply (k : FVec Ideal S256x256 .bf16) (t : Fin 256) (d : Fin 128) : kvLo k (ix2 t d) = k (ix2 t ⟨d.val, by omega⟩) := by
  pointwise [kvLo]
/-- The second head's keys or values are the last 128 columns. -/
theorem kvHi_apply (k : FVec Ideal S256x256 .bf16) (t : Fin 256) (d : Fin 128) : kvHi k (ix2 t d) = k (ix2 t ⟨128 + d.val, by omega⟩) := by
  pointwise [kvHi]

/-- Side by side, the first four heads come from the first stack. -/
theorem sideBySide_lo (o o' : FVec Ideal S1024x128 .bf16) (i : Fin 4) (r : Fin 256) (d : Fin 128) :
    sideBySide o o' (ix2 r ⟨128 * i.val + d.val, by omega⟩) = o (ix2 ⟨256 * i.val + r.val, by omega⟩ d) := by
  match i with
  | 0 | 1 | 2 | 3 =>
    pointwise [sideBySide]
    all_goals
      repeat first | rw [dif_pos (by omega)] | rw [dif_neg (by omega)]
      congr 2
      try exact Fin.ext (by simp only []; omega)

/-- Side by side, the last four heads come from the second stack. -/
theorem sideBySide_hi (o o' : FVec Ideal S1024x128 .bf16) (i : Fin 4) (r : Fin 256) (d : Fin 128) :
    sideBySide o o' (ix2 r ⟨512 + 128 * i.val + d.val, by omega⟩) = o' (ix2 ⟨256 * i.val + r.val, by omega⟩ d) := by
  match i with
  | 0 | 1 | 2 | 3 =>
    pointwise [sideBySide]
    all_goals
      repeat first | rw [dif_pos (by omega)] | rw [dif_neg (by omega)]
      congr 2
      try exact Fin.ext (by simp only []; omega)

end Cert.Hyper

end
-- ==== Proof.Plain.lean ====
/-
The reference's result over the extended reals, read at an index: its term in stages, each a function of the stages before.
-/
module

public import proofs.«01_k».proof.Proof.Gen.ReferenceIdeal.Run
public import Idealize.ShloMosaic.Lib.Pointwise

@[expose] public section

set_option maxRecDepth 16384

noncomputable section

namespace Cert.Plain

open Cert.ReferenceIdeal Cert.ReferenceIdeal.Gen
open Idealize.ShloMosaic

section
variable {F : FTy → Type} [FloatOps F]

/-- The queries by head. -/
def queries (x : FVec F S4x256x1024 .f32) (w : FVec F S1024x8192 .f32) : FVec F S4x256x64x128 .f32 :=
  shapeCast _ (Host.dotGeneral dot_S4x256x1024_S1024x8192_S4x256x8192_2_0_01_1_n_n none x w) shapeCasts_S4x256x8192_S4x256x64x128
/-- The keys or the values by head, every one of the 16 repeated for four heads. -/
def repeated (x : FVec F S4x256x1024 .f32) (w : FVec F S1024x2048 .f32) : FVec F S4x256x64x128 .f32 :=
  shapeCast _ (broadcastInDim S4x256x16x4x128 ![0, 1, 2, 4] bcast_S4x256x16x128_S4x256x16x4x128_0_1_2_4
    (shapeCast _ (Host.dotGeneral dot_S4x256x1024_S1024x2048_S4x256x2048_2_0_01_1_n_n none x w) shapeCasts_S4x256x2048_S4x256x16x128))
    shapeCasts_S4x256x16x4x128_S4x256x64x128
/-- The scaled scores. -/
def scaled (q k : FVec F S4x256x64x128 .f32) : FVec F S4x64x256x256 .f32 :=
  mulf (Host.dotGeneral dot_S4x256x64x128_S4x256x64x128_S4x64x256x256_3_3_1_1_02_02 none q k)
    (broadcastInDim S4x64x256x256 ![] bcast_S_S4x64x256x256 (constant S_ .f32 0x3DB504F3#32))
/-- The greatest of each row. -/
def rowTop (s : FVec F S4x64x256x256 .f32) : FVec F S4x64x256 .f32 :=
  Host.reduce FloatOps.maximumf s (constant S_ .f32 0xFF800000#32) reducesTo_S4x64x256x256_S4x64x256_d3 h_S_
/-- The greater of minus infinity and each row's value. -/
def atLeast (t : FVec F S4x64x256 .f32) : FVec F S4x64x256x1 .f32 :=
  maximumf (broadcastInDim S4x64x256x1 ![] bcast_S_S4x64x256x1 (constant S_ .f32 0xFF800000#32))
    (broadcastInDim S4x64x256x1 ![0, 1, 2] bcast_S4x64x256_S4x64x256x1_0_1_2 t)
/-- Each row's greatest score. -/
def greatest (s : FVec F S4x64x256x256 .f32) : FVec F S4x64x256x1 .f32 := atLeast (rowTop s)
/-- The factor on what came before the only block. -/
def carry (g : FVec F S4x64x256x1 .f32) : FVec F S4x64x256x1 .f32 :=
  Host.exp (subf (broadcastInDim S4x64x256x1 ![] bcast_S_S4x64x256x1 (constant S_ .f32 0xFF800000#32)) g)
/-- The shifted exponentials. -/
def shifted (s : FVec F S4x64x256x256 .f32) (g : FVec F S4x64x256x1 .f32) : FVec F S4x64x256x256 .f32 :=
  Host.exp (subf s (broadcastInDim S4x64x256x256 ![0, 1, 2, 3] bcast_S4x64x256x1_S4x64x256x256_0_1_2_3 g))
/-- The weighted values. -/
def numer (v : FVec F S4x256x64x128 .f32) (p : FVec F S4x64x256x256 .f32) (a : FVec F S4x64x256x1 .f32) : FVec F S4x256x64x128 .f32 :=
  addf (mulf (broadcastInDim S4x256x64x128 ![] bcast_S_S4x256x64x128 (constant S_ .f32 0x00000000#32))
      (broadcastInDim S4x256x64x128 ![0, 1, 2, 3] bcast_S4x256x64x1_S4x256x64x128_0_1_2_3
        (transpose S4x256x64x1 [0, 2, 1, 3] a transposes_S4x64x256x1_S4x256x64x1_0_2_1_3)))
    (transpose S4x256x64x128 [0, 3, 1, 2] (Host.dotGeneral dot_S4x256x64x128_S4x64x256x256_S4x64x128x256_1_3_3_2_02_01 none v p)
      transposes_S4x64x128x256_S4x256x64x128_0_3_1_2)
/-- The sum of the weights. -/
def denom (p : FVec F S4x64x256x256 .f32) (a : FVec F S4x64x256x1 .f32) : FVec F S4x64x256x1 .f32 :=
  addf (mulf (broadcastInDim S4x64x256x1 ![] bcast_S_S4x64x256x1 (constant S_ .f32 0x00000000#32)) a)
    (broadcastInDim S4x64x256x1 ![0, 1, 2] bcast_S4x64x256_S4x64x256x1_0_1_2
      (Host.reduceAdd p (constant S_ .f32 0x00000000#32) reducesTo_S4x64x256x256_S4x64x256_d3 h_S_))
/-- Their quotient. -/
def quotient (n : FVec F S4x256x64x128 .f32) (d : FVec F S4x64x256x1 .f32) : FVec F S4x256x64x128 .f32 :=
  Host.divf n (broadcastInDim S4x256x64x128 ![0, 1, 2, 3] bcast_S4x256x64x1_S4x256x64x128_0_1_2_3
    (transpose S4x256x64x1 [0, 2, 1, 3] d transposes_S4x64x256x1_S4x256x64x1_0_2_1_3))
/-- The output projection. -/
def project (o : FVec F S4x256x64x128 .f32) (w : FVec F S8192x1024 .f32) : FVec F S4x256x1024 .bf16 :=
  truncf .bf16 (Host.dotGeneral dot_S4x256x8192_S8192x1024_S4x256x1024_2_0_01_1_n_n none
    (shapeCast _ o shapeCasts_S4x256x64x128_S4x256x8192) w) bitsLt_bf16_f32

/-- Attention of the scores on the values. -/
def attend (s : FVec F S4x64x256x256 .f32) (v : FVec F S4x256x64x128 .f32) : FVec F S4x256x64x128 .f32 :=
  quotient (numer v (shifted s (greatest s)) (carry (greatest s))) (denom (shifted s (greatest s)) (carry (greatest s)))

/-- The reference's result is these stages. -/
theorem res_eq (m : (ℓ : Loc nD τ sig) → Buf (Elt F) ℓ) (c : Dev nD) :
    Value.res_main_v39 m c = project (attend
      (scaled (queries (m ((c.tc : Thread nD τ).loc main_arg0)) (m ((c.tc : Thread nD τ).loc main_arg1)))
        (repeated (m ((c.tc : Thread nD τ).loc main_arg0)) (m ((c.tc : Thread nD τ).loc main_arg3))))
      (repeated (m ((c.tc : Thread nD τ).loc main_arg0)) (m ((c.tc : Thread nD τ).loc main_arg4))))
      (m ((c.tc : Thread nD τ).loc main_arg2)) := rfl

end

/-- The constant that the maximum starts from is minus infinity. -/
theorem negInf : Ideal.ofBits .f32 0xFF800000#32 = ⊥ := by simp [Ideal.ofBits, Ideal.ieee]

/-- A query is a sum over the model dimension. -/
theorem queries_apply (x : FVec Ideal S4x256x1024 .f32) (w : FVec Ideal S1024x8192 .f32) (b : Fin 4) (i : Fin 256) (h : Fin 64) (d : Fin 128) :
    queries x w (ix4 b i h d) = ∑ a : Fin 1024, x (ix3 b i a) * w (ix2 a ⟨h.val * 128 + d.val, by omega⟩) := by
  pointwise [queries]

/-- A head's key or value is a sum over the model dimension, with four heads sharing each. -/
theorem repeated_apply (x : FVec Ideal S4x256x1024 .f32) (w : FVec Ideal S1024x2048 .f32) (b : Fin 4) (i : Fin 256) (h : Fin 64) (d : Fin 128) :
    repeated x w (ix4 b i h d) = ∑ a : Fin 1024, x (ix3 b i a) * w (ix2 a ⟨h.val / 4 * 128 + d.val, by omega⟩) := by
  pointwise [repeated]

/-- A score is the inner product of a query and a key, times the scale. -/
theorem scaled_apply (q k : FVec Ideal S4x256x64x128 .f32) (b : Fin 4) (h : Fin 64) (i t : Fin 256) :
    scaled q k (ix4 b h i t) = (∑ d : Fin 128, q (ix4 b i h d) * k (ix4 b t h d)) * Ideal.ofBits .f32 0x3DB504F3#32 := by
  pointwise [scaled]

/-- A fold over the last of four axes, read at an index. -/
theorem fold_last {n0 n1 n2 n3 : Nat} {u : Shape} (h : (⟨4, ![n0, n1, n2, n3]⟩ : Shape).ReducesTo [3] ⟨3, ![n0, n1, n2]⟩) (hu : 0 < u.numel)
    (x : (⟨4, ![n0, n1, n2, n3]⟩ : Shape).Idx → EReal) (init : u.Idx → EReal) (a : Fin n0) (b : Fin n1) (c : Fin n2) :
    Host.reduce max x init h hu (ix3 a b c) = Finset.univ.fold max (init (Shape.Idx.first hu)) fun t : Fin n3 => x (ix4 a b c t) := by
  simp only [pointwise]

/-- The row maximum is a fold of `max` over the keys. -/
theorem rowTop_apply (s : FVec Ideal S4x64x256x256 .f32) (b : Fin 4) (h : Fin 64) (i : Fin 256) :
    rowTop s (ix3 b h i)
      = Finset.univ.fold max (constant (F := Ideal) S_ .f32 0xFF800000#32 (Shape.Idx.first h_S_)) fun t : Fin 256 => s (ix4 b h i t) :=
  fold_last reducesTo_S4x64x256x256_S4x64x256_d3 h_S_ s _ b h i

/-- Bounding from below is a `max` with the constant. -/
theorem atLeast_apply (r : FVec Ideal S4x64x256 .f32) (b : Fin 4) (h : Fin 64) (i : Fin 256) :
    atLeast r (ix4 b h i 0) = max (Ideal.ofBits .f32 0xFF800000#32) (r (ix3 b h i)) := by
  pointwise [atLeast]

/-- The greatest score of a row is the `max` over its keys, from minus infinity. -/
theorem greatest_apply (s : FVec Ideal S4x64x256x256 .f32) (b : Fin 4) (h : Fin 64) (i : Fin 256) :
    greatest s (ix4 b h i 0) = Finset.univ.fold max ⊥ fun t : Fin 256 => s (ix4 b h i t) := by
  have e : constant (F := Ideal) S_ .f32 0xFF800000#32 (Shape.Idx.first h_S_) = (⊥ : EReal) := negInf
  rw [greatest, atLeast_apply, rowTop_apply, negInf, e]
  exact max_eq_right bot_le

/-- A weight is the exponential of a score less the greatest in its row. -/
theorem shifted_apply (s : FVec Ideal S4x64x256x256 .f32) (g : FVec Ideal S4x64x256x1 .f32) (b : Fin 4) (h : Fin 64) (i t : Fin 256) :
    shifted s g (ix4 b h i t) = Ideal.exp (s (ix4 b h i t) - g (ix4 b h i 0)) := by
  pointwise [shifted]

/-- The numerator is the sum of the values times their weights. -/
theorem numer_apply (v : FVec Ideal S4x256x64x128 .f32) (p : FVec Ideal S4x64x256x256 .f32) (a : FVec Ideal S4x64x256x1 .f32)
    (b : Fin 4) (h : Fin 64) (i : Fin 256) (e : Fin 128) :
    numer v p a (ix4 b i h e) = ∑ t : Fin 256, v (ix4 b t h e) * p (ix4 b h i t) := by
  pointwise [numer]
  rw [zero_mul, zero_add]

/-- The denominator is the sum of the weights. -/
theorem denom_apply (p : FVec Ideal S4x64x256x256 .f32) (a : FVec Ideal S4x64x256x1 .f32) (b : Fin 4) (h : Fin 64) (i : Fin 256) :
    denom p a (ix4 b h i 0) = ∑ t : Fin 256, p (ix4 b h i t) := by
  pointwise [denom]
  rw [zero_mul, zero_add]

/-- The quotient is taken entry by entry. -/
theorem quotient_apply (n : FVec Ideal S4x256x64x128 .f32) (d : FVec Ideal S4x64x256x1 .f32)
    (b : Fin 4) (h : Fin 64) (i : Fin 256) (e : Fin 128) :
    quotient n d (ix4 b i h e) = Ideal.div (n (ix4 b i h e)) (d (ix4 b h i 0)) := by
  pointwise [quotient]

/-- The output projection is a sum over all heads' columns. -/
theorem project_apply (o : FVec Ideal S4x256x64x128 .f32) (w : FVec Ideal S8192x1024 .f32) (b : Fin 4) (i : Fin 256) (n : Fin 1024) :
    project o w (ix3 b i n) = ∑ J : Fin 8192, o (ix4 b i ⟨J.val / 128, by omega⟩ ⟨J.val % 128, by omega⟩) * w (ix2 J n) := by
  pointwise [project]

/-- The weighted mean of `v` with weights the exponentials of `s`. -/
def soft (s v : Fin 256 → EReal) : EReal :=
  Ideal.div (∑ t, v t * Ideal.exp (s t - Finset.univ.fold max ⊥ s)) (∑ t, Ideal.exp (s t - Finset.univ.fold max ⊥ s))

/-- A head's attention at a row and a column is that mean of the column's values by the row's scores. -/
theorem attend_apply (s : FVec Ideal S4x64x256x256 .f32) (v : FVec Ideal S4x256x64x128 .f32)
    (b : Fin 4) (h : Fin 64) (i : Fin 256) (e : Fin 128) :
    attend s v (ix4 b i h e) = soft (fun t => s (ix4 b h i t)) fun t => v (ix4 b t h e) := by
  simp only [attend, quotient_apply, numer_apply, denom_apply, shifted_apply, greatest_apply, soft]

end Cert.Plain

end
-- ==== Proof.Algebra.lean ====
/-
The algebra of the claim: where the scores are real numbers the scale may stand on the weights or on the scores, and dividing
by the sum of the exponentials is multiplying by its inverse; a device's partial product is the reference's sum over the
device's heads.
-/
module

public import proofs.«01_k».proof.Proof.Attn
public import proofs.«01_k».proof.Proof.Plain
public import Idealize.ShloMosaic.Lib.IdealHost

@[expose] public section

noncomputable section

namespace Cert.Hyper

open Idealize.ShloMosaic
open Cert.Plain (soft)

/-- An extended real that is a real number. -/
def Real' (x : EReal) : Prop := ∃ r : ℝ, x = r

/-- A product of two finite values is finite. -/
theorem Real'.mul {x y : EReal} : Real' x → Real' y → Real' (x * y)
  | ⟨r, hr⟩, ⟨s, hs⟩ => ⟨r * s, by rw [hr, hs, EReal.coe_mul]⟩

/-- A sum of reals is the same taken among the extended reals. -/
theorem coe_sum {ι : Type} [DecidableEq ι] (t : Finset ι) (g : ι → ℝ) : ((∑ i ∈ t, g i : ℝ) : EReal) = ∑ i ∈ t, (g i : EReal) := by
  induction t using Finset.induction_on with
  | empty => simp
  | insert a t ha ih => rw [Finset.sum_insert ha, Finset.sum_insert ha, EReal.coe_add, ih]

/-- A sum of finite values is finite. -/
theorem Real'.sum {ι : Type} [Fintype ι] [DecidableEq ι] {f : ι → EReal} (h : ∀ i, Real' (f i)) : Real' (∑ i, f i) := by
  choose g hg using h
  exact ⟨∑ i, g i, by simp only [hg]; exact (coe_sum _ _).symm⟩

/-- A value whose magnitude is less than infinity is finite. -/
theorem real_of_abs {x : EReal} (h : max x (-x) < ⊤) : Real' x := by
  induction x with
  | bot => simp at h
  | top => simp at h
  | coe r => exact ⟨r, rfl⟩

/-- A real factor moves out of a sum of reals. -/
theorem sum_mul_real {ι : Type} [Fintype ι] [DecidableEq ι] {f : ι → EReal} (h : ∀ i, Real' (f i)) {c : EReal} (hc : Real' c) :
    ∑ i, f i * c = (∑ i, f i) * c := by
  choose g hg using h
  obtain ⟨r, rfl⟩ := hc
  simp only [hg, ← EReal.coe_mul, ← coe_sum, Finset.sum_mul]

/-- The scale is a real number. -/
theorem real_scale : Real' (Ideal.ofBits .f32 0x3DB504F3#32) := by
  simp only [Ideal.ofBits, Ideal.ieee]
  rw [if_neg (by decide), if_neg (by decide)]
  exact ⟨_, rfl⟩

/-- The greatest of some real numbers is one. -/
theorem real_top {n : Nat} {s : Fin (n + 1) → EReal} (h : ∀ t, Real' (s t)) : Real' (Finset.univ.fold max ⊥ s) := by
  have hlt : Finset.univ.fold max ⊥ s < ⊤ := (Finset.fold_max_lt _).2 ⟨bot_lt_top, fun t _ => by obtain ⟨r, hr⟩ := h t; rw [hr]; exact EReal.coe_lt_top r⟩
  have hgt : ⊥ < Finset.univ.fold max ⊥ s := (Finset.lt_fold_max _).2 (.inr ⟨0, Finset.mem_univ _, by obtain ⟨r, hr⟩ := h 0; rw [hr]; exact EReal.bot_lt_coe r⟩)
  exact ⟨_, (EReal.coe_toReal hlt.ne hgt.ne').symm⟩

/-- The exponential of a difference of reals is positive. -/
theorem exp_pos {x y : EReal} (hx : Real' x) (hy : Real' y) : 0 < Ideal.exp (x - y) := by
  obtain ⟨r, rfl⟩ := hx
  obtain ⟨s, rfl⟩ := hy
  rw [← EReal.coe_sub]
  change (0 : EReal) < ((Real.exp (r - s) : ℝ) : EReal)
  exact_mod_cast Real.exp_pos _

/-- Multiplying by the inverse of the sum of the exponentials is the weighted mean. -/
theorem soft_eq {s v : Fin 256 → EReal} (h : ∀ t, Real' (s t)) :
    (∑ t, Ideal.exp (s t - Finset.univ.fold max ⊥ s) * v t) * Ideal.div 1 (∑ t, Ideal.exp (s t - Finset.univ.fold max ⊥ s)) = soft s v := by
  have hpos : 0 < ∑ t, Ideal.exp (s t - Finset.univ.fold max ⊥ s) :=
    lt_of_lt_of_le (exp_pos (h 0) (real_top h))
      (Finset.single_le_sum (f := fun t => Ideal.exp (s t - Finset.univ.fold max ⊥ s)) (fun t _ => (exp_pos (h t) (real_top h)).le) (Finset.mem_univ 0))
  rw [Ideal.mul_one_div hpos.ne', soft]
  simp only [mul_comm]

end Cert.Hyper

end
-- ==== Proof.Value.lean ====
/-
The devices' partial products summed are the reference's result: a device's product is a sum over its eight heads, and the
reference's sum over 64 heads is the sum of the devices'.
-/
module

public import proofs.«01_k».proof.Proof.Algebra

@[expose] public section

noncomputable section

namespace Cert.Hyper

open Cert.KernelIdeal Cert.KernelIdeal.Gen
open Idealize.ShloMosaic
open Cert.Plain (soft)

/-- The scale. -/
abbrev scale : EReal := Ideal.ofBits .f32 0x3DB504F3#32

/-- The scores of a device's head at a row. -/
def headScore (wq : Vec Ideal S1024x1024 .f32) (wk : Vec Ideal S1024x256 .f32) (x : Vec Ideal S1x256x1024 .f32) (h : Fin 8) (r t : Fin 256) : EReal :=
  (∑ d : Fin 128, (∑ a : Fin 1024, x (ix3 0 r a) * wq (ix2 a ⟨128 * h.val + d.val, by omega⟩)) *
    ∑ a : Fin 1024, x (ix3 0 t a) * wk (ix2 a ⟨128 * (h.val / 4) + d.val, by omega⟩)) * scale

/-- The values of a device's head. -/
def headValue (wv : Vec Ideal S1024x256 .f32) (x : Vec Ideal S1x256x1024 .f32) (h : Fin 8) (t : Fin 256) (e : Fin 128) : EReal :=
  ∑ a : Fin 1024, x (ix3 0 t a) * wv (ix2 a ⟨128 * (h.val / 4) + e.val, by omega⟩)

/-- A device's head at a row and a column. -/
def headOut (wq : Vec Ideal S1024x1024 .f32) (wk wv : Vec Ideal S1024x256 .f32) (x : Vec Ideal S1x256x1024 .f32) (h : Fin 8) (r : Fin 256) (e : Fin 128) : EReal :=
  soft (headScore wq wk x h r) fun t => headValue wv x h t e

/-- The scale moves from the weights onto the score. -/
theorem scale_out {x : Fin 1024 → EReal} {q : Fin 128 → Fin 1024 → EReal} {k : Fin 128 → EReal}
    (hx : ∀ a, Real' (x a)) (hq : ∀ d a, Real' (q d a)) (hk : ∀ d, Real' (k d)) :
    ∑ d, (∑ a, x a * (q d a * scale)) * k d = (∑ d, (∑ a, x a * q d a) * k d) * scale := by
  rw [← sum_mul_real (fun d => (Real'.sum fun a => (hx a).mul (hq d a)).mul (hk d)) real_scale]
  refine Finset.sum_congr rfl fun d _ => ?_
  simp only [← mul_assoc]
  rw [sum_mul_real (fun a => (hx a).mul (hq d a)) real_scale]
  exact mul_right_comm _ _ _

/-- For finite scores, the kernel's average is the softmax average. -/
theorem average_soft (s : FVec Ideal S1024x256 .f32) (v : FVec Ideal S256x128 .bf16) (r : Fin 1024) (e : Fin 128) (S V : Fin 256 → EReal)
    (hs : ∀ t, s (ix2 r t) = S t) (hv : ∀ t, v (ix2 t e) = V t) (hr : ∀ t, Real' (S t)) : average (weights s) v (ix2 r e) = soft S V := by
  rw [average_apply]
  simp only [weights_apply, hs, hv]
  exact soft_eq hr

section
variable {wq : Vec Ideal S1024x1024 .f32} {wk : Vec Ideal S1024x256 .f32} {x : Vec Ideal S1x256x1024 .f32}
  (hx : ∀ i, Real' (x i)) (hq : ∀ i, Real' (wq i)) (hk : ∀ i, Real' (wk i)) (wv : Vec Ideal S1024x256 .f32) (wo : Vec Ideal S1024x1024 .f32)
include hx hq hk

/-- For finite inputs, every score is finite. -/
theorem headScore_real (h : Fin 8) (r t : Fin 256) : Real' (headScore wq wk x h r t) :=
  (Real'.sum fun d => (Real'.sum fun a => (hx _).mul (hq _)).mul (Real'.sum fun a => (hx _).mul (hk _))).mul real_scale

/-- The first stack holds the outputs of the device's first four heads. -/
theorem head_lo (i : Fin 4) (r : Fin 256) (e : Fin 128) :
    average (weights (scores (quadLo (mul1024 (rows x) (wqScaled wq))) (kvLo (mul256 (rows x) wk)))) (kvLo (mul256 (rows x) wv))
      (ix2 ⟨256 * i.val + r.val, by omega⟩ e) = headOut wq wk wv x ⟨i.val, by omega⟩ r e := by
  have h0 : i.val / 4 = 0 := by omega
  refine average_soft _ _ _ _ _ _ (fun t => ?_) (fun t => ?_) (headScore_real hx hq hk _ r)
  · simp only [scores_apply, quadLo_apply, kvLo_apply, mul1024_apply, mul256_apply, rows_apply, wqScaled_apply, headScore, h0, Nat.mul_zero, Nat.zero_add]
    exact scale_out (fun _ => hx _) (fun _ _ => hq _) fun _ => Real'.sum fun a => (hx _).mul (hk _)
  · simp only [kvLo_apply, mul256_apply, rows_apply, headValue, h0, Nat.mul_zero, Nat.zero_add]

/-- The second stack holds the outputs of the device's last four heads. -/
theorem head_hi (i : Fin 4) (r : Fin 256) (e : Fin 128) :
    average (weights (scores (quadHi (mul1024 (rows x) (wqScaled wq))) (kvHi (mul256 (rows x) wk)))) (kvHi (mul256 (rows x) wv))
      (ix2 ⟨256 * i.val + r.val, by omega⟩ e) = headOut wq wk wv x ⟨4 + i.val, by omega⟩ r e := by
  have h0 : (4 + i.val) / 4 = 1 := by omega
  have h1 : 128 * (4 + i.val) = 512 + 128 * i.val := by omega
  refine average_soft _ _ _ _ _ _ (fun t => ?_) (fun t => ?_) (headScore_real hx hq hk _ r)
  · simp only [scores_apply, quadHi_apply, kvHi_apply, mul1024_apply, mul256_apply, rows_apply, wqScaled_apply, headScore, h0, h1, Nat.mul_one]
    exact scale_out (fun _ => hx _) (fun _ _ => hq _) fun _ => Real'.sum fun a => (hx _).mul (hk _)
  · simp only [kvHi_apply, mul256_apply, rows_apply, headValue, h0, Nat.mul_one]

/-- A device's partial product at a row and a column. -/
theorem staged_apply (r : Fin 256) (n : Fin 1024) : staged wq wk wv wo x (ix2 r n) =
    ∑ j : Fin 1024, headOut wq wk wv x ⟨j.val / 128, by omega⟩ r ⟨j.val % 128, by omega⟩ * wo (ix2 j n) := by
  rw [staged, mul1024_apply]
  refine Finset.sum_congr rfl fun j _ => congrArg (· * wo (ix2 j n)) ?_
  by_cases hj : j.val < 512
  · have e := sideBySide_lo
      (average (weights (scores (quadLo (mul1024 (rows x) (wqScaled wq))) (kvLo (mul256 (rows x) wk)))) (kvLo (mul256 (rows x) wv)))
      (average (weights (scores (quadHi (mul1024 (rows x) (wqScaled wq))) (kvHi (mul256 (rows x) wk)))) (kvHi (mul256 (rows x) wv)))
      ⟨j.val / 128, by omega⟩ r ⟨j.val % 128, by omega⟩
    rw [head_lo hx hq hk] at e
    rw [← e]
    exact congrArg _ (congrArg _ (Fin.ext (by simp only []; omega)))
  · have e := sideBySide_hi
      (average (weights (scores (quadLo (mul1024 (rows x) (wqScaled wq))) (kvLo (mul256 (rows x) wk)))) (kvLo (mul256 (rows x) wv)))
      (average (weights (scores (quadHi (mul1024 (rows x) (wqScaled wq))) (kvHi (mul256 (rows x) wk)))) (kvHi (mul256 (rows x) wv)))
      ⟨j.val / 128 - 4, by omega⟩ r ⟨j.val % 128, by omega⟩
    rw [head_hi hx hq hk] at e
    have hh : (⟨j.val / 128, by omega⟩ : Fin 8) = ⟨4 + (j.val / 128 - 4), by omega⟩ := Fin.ext (by simp only []; omega)
    rw [hh, ← e]
    exact congrArg _ (congrArg _ (Fin.ext (by simp only []; omega)))

end

/-- A sum over 8192 as eight sums over 1024. -/
theorem split_sum (f : Fin 8192 → EReal) : ∑ J, f J = ∑ c : Fin 8, ∑ j : Fin 1024, f ⟨1024 * c.val + j.val, by omega⟩ := by
  rw [← Fintype.sum_prod_type' (fun (c : Fin 8) (j : Fin 1024) => f ⟨1024 * c.val + j.val, by omega⟩)]
  refine (Fintype.sum_equiv (finProdFinEquiv (m := 8) (n := 1024)) _ _ fun p => congrArg f (Fin.ext ?_)).symm
  simp only [finProdFinEquiv_apply_val]
  omega

/-- The devices' partial products of a group summed are the reference's result at the group's rows. -/
theorem total (X : FVec Ideal Cert.ReferenceIdeal.S4x256x1024 .f32) (Wq : FVec Ideal Cert.ReferenceIdeal.S1024x8192 .f32)
    (Wk Wv : FVec Ideal Cert.ReferenceIdeal.S1024x2048 .f32) (Wo : FVec Ideal Cert.ReferenceIdeal.S8192x1024 .f32)
    (wq : Fin 8 → Vec Ideal S1024x1024 .f32) (wk wv : Fin 8 → Vec Ideal S1024x256 .f32) (wo : Fin 8 → Vec Ideal S1024x1024 .f32)
    (x : Fin 8 → Vec Ideal S1x256x1024 .f32) (b : Fin 4)
    (ex : ∀ c r a, x c (ix3 0 r a) = X (ix3 b r a))
    (eq : ∀ c a (j : Fin 1024), wq c (ix2 a j) = Wq (ix2 a ⟨1024 * c.val + j.val, by omega⟩))
    (ek : ∀ c a (j : Fin 256), wk c (ix2 a j) = Wk (ix2 a ⟨256 * c.val + j.val, by omega⟩))
    (ev : ∀ c a (j : Fin 256), wv c (ix2 a j) = Wv (ix2 a ⟨256 * c.val + j.val, by omega⟩))
    (eo : ∀ c (j : Fin 1024) n, wo c (ix2 j n) = Wo (ix2 ⟨1024 * c.val + j.val, by omega⟩ n))
    (hx : ∀ c i, Real' (x c i)) (hq : ∀ c i, Real' (wq c i)) (hk : ∀ c i, Real' (wk c i)) (r : Fin 256) (n : Fin 1024) :
    Cert.Plain.project (Cert.Plain.attend (Cert.Plain.scaled (Cert.Plain.queries X Wq) (Cert.Plain.repeated X Wk)) (Cert.Plain.repeated X Wv)) Wo (ix3 b r n)
      = ∑ c, staged (wq c) (wk c) (wv c) (wo c) (x c) (ix2 r n) := by
  rw [Cert.Plain.project_apply, split_sum]
  refine Finset.sum_congr rfl fun c _ => ?_
  rw [staged_apply (hx c) (hq c) (hk c)]
  refine Finset.sum_congr rfl fun j _ => ?_
  rw [eo, Cert.Plain.attend_apply, headOut]
  refine congrArg (· * _) (congrArg₂ soft (funext fun t => ?_) (funext fun t => ?_))
  · simp only [Cert.Plain.scaled_apply, Cert.Plain.queries_apply, Cert.Plain.repeated_apply, headScore, ex, eq, ek]
    refine congrArg (· * scale) (Finset.sum_congr rfl fun d _ => congrArg₂ (· * ·) (Finset.sum_congr rfl fun a _ => ?_) (Finset.sum_congr rfl fun a _ => ?_))
    · exact congrArg (X _ * Wq ·) (congrArg _ (Fin.ext (by simp only []; omega)))
    · exact congrArg (X _ * Wk ·) (congrArg _ (Fin.ext (by simp only []; omega)))
  · simp only [Cert.Plain.repeated_apply, headValue, ex, ev]
    refine Finset.sum_congr rfl fun a _ => ?_
    exact congrArg (X _ * Wv ·) (congrArg _ (Fin.ext (by simp only []; omega)))

end Cert.Hyper

end
-- ==== Proof.Final.lean ====
/-
The kernel's result over the extended reals, from the memory at the start: the arguments its blocks are, and the result's array.
-/
module

public import proofs.«01_k».proof.Proof.Launch
public import proofs.«01_k».proof.Proof.Halving
public import proofs.«01_k».proof.Proof.Value
public import Idealize.ShloMosaic.Lib.Pipeline.ValueKit.Geometry

@[expose] public section

noncomputable section

namespace Cert.Hyper

open Cert.KernelIdeal Cert.KernelIdeal.Gen
open Idealize.ShloMosaic Idealize.ShloMosaic.TcCoe
open Idealize.SL Idealize.SL.Sem
open Idealize.ShloMosaic.Pipeline (Dat Cfg Window)

section
variable {F : FTy → Type} [FloatOps F] (m : (ℓ : Loc nD τ sig) → Buf (Elt F) ℓ)

/-- The region leaves the result's array at the result. -/
theorem final_out (c : Dev nD) : final m c 2 = outF (D₀ m) := by
  funext i
  refine (Dat.arrAt_emb_eq_after_last (dats m 0 c) 2 t0_0 (by decide +kernel) i).trans ?_
  rfl

/-- What a device stages of the input is the whole input. -/
theorem xIn_apply (c : Dev nD) (i : S4x256x1024.Idx) : xIn m c i = m ((c : Thread nD τ).loc main_arg0) i := by
  show m ((c : Thread nD τ).loc main_arg0) _ = _
  exact congrArg _ (funext fun (a : Fin 3) => Fin.ext ((cfg0.win 0).rect_emb_val_of_index_zero t0_0 a (by revert a; decide) i))

/-- What a device stages of the query weights is its whole block of them. -/
theorem wqIn_apply (c : Dev nD) (i : S1024x1024.Idx) : wqIn m c i = m ((c : Thread nD τ).loc main_arg1) i := by
  show m ((c : Thread nD τ).loc main_arg1) _ = _
  exact congrArg _ (funext fun (a : Fin 2) => Fin.ext ((cfg0.win 1).rect_emb_val_of_index_zero t0_0 a (by revert a; decide) i))

/-- The key and value columns a device reads start at 256 times its number. -/
theorem colR_emb (c : Dev nD) (a : Fin 1024) (j : Fin 256) : (colR c).emb (ix2 a j) = ix2 a ⟨256 * c.val + j.val, by have h : c.val < 8 := c.isLt; omega⟩ := by
  refine funext fun (k : Fin 2) => Fin.ext ?_
  show k0_off1 c k + 1 * (ix2 a j k).val = _
  rw [k0_off1_eq]
  fin_cases k
  · show 0 + 1 * a.val = a.val; omega
  · show 256 * c.val + 1 * j.val = 256 * c.val + j.val; omega

/-- A group's rows of the input are those of the group's batch. -/
theorem xR_emb (g : Fin 4) (r : Fin 256) (a : Fin 1024) : (xR g).emb (ix3 0 r a) = ix3 g r a := by
  refine funext fun (k : Fin 3) => Fin.ext ?_
  show xOff g k + 1 * (ix3 (0 : Fin 1) r a k).val = _
  fin_cases k
  · show g.val + 1 * 0 = g.val; omega
  · show 0 + 1 * r.val = r.val; omega
  · show 0 + 1 * a.val = a.val; omega

end

/-! ## The result -/

section
variable (m : (ℓ : Loc nD τ sig) → Buf (Elt Ideal) ℓ)

/-- The result at an index: the devices' partial products of the group's rows, added up. -/
theorem final_apply (c : Dev nD) (b : Fin 4) (r : Fin 256) (n : Fin 1024) : final m c 2 (ix3 b r n) =
    ∑ c, staged (wqIn m c) (wkIn m c) (wvIn m c) (woIn m c) (fun y => xIn m c ((xR b).emb y)) (ix2 r n) := by
  rw [final_out]
  refine (outF_apply (D₀ m) b r n).trans (Finset.sum_congr rfl fun c _ => ?_)
  exact congrFun (part_eq (wqIn m c) (wkIn m c) (wvIn m c) (woIn m c) b fun y => xIn m c ((xR b).emb y)) (ix2 r n)

/-- Where the devices' arguments are the reference's or their blocks, and the input, the query and the key weights are real, the
    result is the reference's. -/
theorem final_eq (X : FVec Ideal Cert.ReferenceIdeal.S4x256x1024 .f32) (Wq : FVec Ideal Cert.ReferenceIdeal.S1024x8192 .f32)
    (Wk Wv : FVec Ideal Cert.ReferenceIdeal.S1024x2048 .f32) (Wo : FVec Ideal Cert.ReferenceIdeal.S8192x1024 .f32)
    (hX : ∀ c : Dev nD, m ((c : Thread nD τ).loc main_arg0) = X)
    (hWq : ∀ c : Dev nD, m ((c : Thread nD τ).loc main_arg1) = Layout.block ⟨2, ![1024, 1024]⟩ ⟨2, ![1024, 8192]⟩ 1 8 c Wq)
    (hWo : ∀ c : Dev nD, m ((c : Thread nD τ).loc main_arg2) = Layout.block ⟨2, ![1024, 1024]⟩ ⟨2, ![8192, 1024]⟩ 0 8 c Wo)
    (hWk : ∀ c : Dev nD, m ((c : Thread nD τ).loc main_arg3) = Wk)
    (hWv : ∀ c : Dev nD, m ((c : Thread nD τ).loc main_arg4) = Wv)
    (rx : ∀ (c : Dev nD) i, Real' (m ((c : Thread nD τ).loc main_arg0) i))
    (rq : ∀ (c : Dev nD) i, Real' (m ((c : Thread nD τ).loc main_arg1) i))
    (rk : ∀ (c : Dev nD) i, Real' (m ((c : Thread nD τ).loc main_arg3) i)) (c : Dev nD) :
    final m c 2 = Cert.Plain.project (Cert.Plain.attend (Cert.Plain.scaled (Cert.Plain.queries X Wq) (Cert.Plain.repeated X Wk))
      (Cert.Plain.repeated X Wv)) Wo := by
  funext i
  obtain ⟨b, r, n, rfl⟩ : ∃ (b : Fin 4) (r : Fin 256) (n : Fin 1024), i = ix3 b r n := ⟨i 0, i 1, i 2, funext fun (k : Fin 3) => by fin_cases k <;> rfl⟩
  rw [final_apply]
  refine (total X Wq Wk Wv Wo (wqIn m) (wkIn m) (wvIn m) (woIn m) (fun c y => xIn m c ((xR b).emb y)) b ?_ ?_ ?_ ?_ ?_ ?_ ?_ ?_ r n).symm
  · intro c r a
    show xIn m c ((xR b).emb (ix3 0 r a)) = _
    rw [xR_emb, xIn_apply, hX]
  · intro c a j
    rw [wqIn_apply, hWq, Layout.block_apply]
    refine congrArg Wq (funext fun (k : Fin 2) => Fin.ext ?_)
    fin_cases k
    · rfl
    · show c.val * 1024 + j.val = 1024 * c.val + j.val; omega
  · intro c a j
    show m ((Dev.tc c : Thread nD τ).loc main_arg3) ((colR c).emb (ix2 a j)) = _
    rw [colR_emb, hWk]
  · intro c a j
    show m ((Dev.tc c : Thread nD τ).loc main_arg4) ((colR c).emb (ix2 a j)) = _
    rw [colR_emb, hWv]
  · intro c j n
    show m ((Dev.tc c : Thread nD τ).loc main_arg2) (ix2 j n) = _
    rw [hWo, Layout.block_apply]
    refine congrArg Wo (funext fun (k : Fin 2) => Fin.ext ?_)
    fin_cases k
    · show c.val * 1024 + j.val = 1024 * c.val + j.val; omega
    · rfl
  · intro c i
    show Real' (xIn m c ((xR b).emb i))
    rw [xIn_apply]; exact rx c _
  · intro c i
    rw [wqIn_apply]; exact rq c _
  · exact fun c i => rk c _

end

end Cert.Hyper

end
-- ==== Proof.Finite.lean ====
/-
The precondition read: where it holds, every element of the input, the query weights and the key weights is a real number.
-/
module

public import proofs.«01_k».proof.Proof.Algebra
public import proofs.«01_k».proof.Proof.Gen.Pre_finite_KernelIdeal

@[expose] public section

noncomputable section

namespace Cert.Hyper

open Idealize.ShloMosaic

/-- The conjunction of two bits is one just when both are. -/
theorem and_one {a b : BitVec 1} : IntOp.andi a b = 1#1 ↔ a = 1#1 ∧ b = 1#1 := by revert a b; decide

/-- A conjunction folded over a list is true only where every member is. -/
theorem all_of_foldl {ι : Type} (x : ι → BitVec 1) (l : List ι) : ∀ a : BitVec 1,
    l.foldl (fun r i => IntOp.andi r (x i)) a = 1#1 → a = 1#1 ∧ ∀ i ∈ l, x i = 1#1 := by
  induction l with
  | nil => exact fun a h => ⟨h, fun i hi => absurd hi (List.not_mem_nil)⟩
  | cons i l ih =>
    intro a h
    obtain ⟨h1, h2⟩ := ih _ h
    obtain ⟨ha, hi⟩ := and_one.1 h1
    exact ⟨ha, fun k hk => by rcases List.mem_cons.1 hk with rfl | hk; exacts [hi, h2 k hk]⟩

/-- A conjunction over every axis is true only where every element is. -/
theorem all_of_reduce {s u : Shape} {axes : List (Fin s.rank)} (x : IVec s 1) (init : IVec u 1)
    (h : s.ReducesTo axes Cert.Pre_finite_KernelIdeal.S_) (hu : 0 < u.numel) (j : Cert.Pre_finite_KernelIdeal.S_.Idx)
    (H : Host.reduce IntOp.andi x init h hu j = 1#1) (i : s.Idx) : x i = 1#1 := by
  rw [Host.reduce_eq_foldl] at H
  refine (all_of_foldl x _ _ H).2 i (List.mem_filter.2 ⟨List.mem_map.2 ⟨s.rowMajor i, List.mem_finRange _, Equiv.symm_apply_apply _ _⟩, ?_⟩)
  exact decide_eq_true (funext fun a => a.elim0)

/-- The constant that magnitudes are compared with is infinity. -/
theorem posInf : Ideal.ofBits .f32 0x7F800000#32 = ⊤ := by simp [Ideal.ofBits, Ideal.ieee]

/-- Elements whose absolute values compare below infinity are reals. -/
theorem real_of_cmp {s : Shape} (x : FVec Ideal s .f32) (hb) (i : s.Idx)
    (H : cmpf .olt (Host.absf x) (broadcastInDim s ![] hb (constant (F := Ideal) Cert.Pre_finite_KernelIdeal.S_ .f32 0x7F800000#32)) i = 1#1) : Real' (x i) := by
  have H' : Ideal.cmp .olt (max (x i) (-(x i))) (Ideal.ofBits .f32 0x7F800000#32) = 1#1 := H
  rw [posInf] at H'
  refine real_of_abs ?_
  by_contra hn
  simp [Ideal.cmp, hn] at H'

open Cert.Pre_finite_KernelIdeal in
/-- Under the precondition, the input, the query weights and the key weights are finite everywhere. -/
theorem real_of_finite (x : FVec Ideal S4x256x1024 .f32) (wq wo : FVec Ideal S1024x1024 .f32) (wk wv : FVec Ideal S1024x2048 .f32)
    (H : fn x wq wo wk wv = fun _ => 1#1) : (∀ i, Real' (x i)) ∧ (∀ i, Real' (wq i)) ∧ ∀ i, Real' (wk i) := by
  have H0 := congrFun H (fun a => a.elim0)
  obtain ⟨H1, hk⟩ := and_one.1 H0
  obtain ⟨hx, hq⟩ := and_one.1 H1
  exact ⟨fun i => real_of_cmp x _ i (all_of_reduce _ _ _ _ _ hx i), fun i => real_of_cmp wq _ i (all_of_reduce _ _ _ _ _ hq i),
    fun i => real_of_cmp wk _ i (all_of_reduce _ _ _ _ _ hk i)⟩

end Cert.Hyper

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Final
public import proofs.«01_k».proof.Proof.Finite
public import Idealize.ShloMosaic.Adequacy
public import Idealize.ShloMosaic.Init
public import proofs.«01_k».proof.Proof.Gen.Pre_finite_KernelIdeal
public import proofs.«01_k».proof.Proof.Gen.Pre_finite_ReferenceIdeal

@[expose] public section

noncomputable section

namespace Cert.Proof

open Idealize.ShloMosaic Idealize.SL.Sem

section
open Cert.KernelIdeal

/-- The kernel over any float values terminates without error on the eight devices, its arguments unchanged and every
    counter zero. -/
theorem frame_run {F : FTy → Type} [FloatOps F]
    (m : (ℓ : Loc KernelIdeal.nD KernelIdeal.τ KernelIdeal.sig) → Buf (Elt F) ℓ) (ρ) :
    θ_run KernelIdeal.defs (onTc (τ := KernelIdeal.τ) (KernelIdeal.main (F := F))) ⟨m, fun _ => 0, ρ⟩ fun r =>
      (∀ c : Dev KernelIdeal.nD,
        r.2.mem ((c.tc (τ := KernelIdeal.τ)).loc main_arg0) = m ((c.tc (τ := KernelIdeal.τ)).loc main_arg0)
        ∧ r.2.mem ((c.tc (τ := KernelIdeal.τ)).loc main_arg1) = m ((c.tc (τ := KernelIdeal.τ)).loc main_arg1)
        ∧ r.2.mem ((c.tc (τ := KernelIdeal.τ)).loc main_arg2) = m ((c.tc (τ := KernelIdeal.τ)).loc main_arg2)
        ∧ r.2.mem ((c.tc (τ := KernelIdeal.τ)).loc main_arg3) = m ((c.tc (τ := KernelIdeal.τ)).loc main_arg3)
        ∧ r.2.mem ((c.tc (τ := KernelIdeal.τ)).loc main_arg4) = m ((c.tc (τ := KernelIdeal.τ)).loc main_arg4))
      ∧ r.2.sem = fun _ => 0 :=
  (θ_run KernelIdeal.defs _ _).mono (fun _ h => ⟨fun c => (h.1 c).1, h.2⟩) (Cert.Hyper.run_main (F := F) m ρ)

end

set_option maxRecDepth 100000 in
/-- The two printed programs are one text, so their tables of bodies are equal. -/
theorem defs₀_same {F : FTy → Type} [FloatOps F] : Kernel.defs₀ (F := F) = KernelIdeal.defs₀ (F := F) := by
  unfold Kernel.defs₀ KernelIdeal.defs₀
  congr 1
  funext l a
  match l, a with
  | 0, (t, s) => rfl

/-- So are the tables with the pipeline's own entries. -/
theorem defs_same {F : FTy → Type} [FloatOps F] : Kernel.defs (F := F) = KernelIdeal.defs (F := F) :=
  congrArg (Pipeline.defs Kernel.pcfgs) defs₀_same

/-- The kernel's frame over bit patterns: the run over any float values, which is its run too. -/
theorem frame_kernel : Cert.quiescent_Kernel := fun m ρ _ => by
  rw [defs_same]
  exact frame_run (F := Bits) m ρ

/-- The kernel's frame over the extended reals. -/
theorem frame_kernelIdeal : Cert.quiescent_KernelIdeal := fun m ρ _ => frame_run (F := Ideal) m ρ

/-- The reference terminates without error, its arguments unchanged; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, where the input, the query weights and the key weights are real numbers, every device ends with the
    reference's result. -/
theorem algebraic : Cert.algebraic_KernelIdeal_ReferenceIdeal_pre_finite_KernelIdeal := fun m g m' g' hpre hin =>
  ⟨Cert.ReferenceIdeal.Value.res_main_v39 m' 0,
    (θ_run KernelIdeal.defs _ _).mono (fun r h c => ⟨((h.1 c).2.trans (Cert.Hyper.final_eq m _ _ _ _ _ (fun c => (hin c).1) (fun c => (hin c).2.1)
        (fun c => (hin c).2.2.1) (fun c => (hin c).2.2.2.1) (fun c => (hin c).2.2.2.2)
        (fun c => (Cert.Hyper.real_of_finite _ _ _ _ _ (hpre c)).1) (fun c => (Cert.Hyper.real_of_finite _ _ _ _ _ (hpre c)).2.1)
        (fun c => (Cert.Hyper.real_of_finite _ _ _ _ _ (hpre c)).2.2) c)).trans (Cert.Plain.res_eq m' 0).symm, (h.1 c).1⟩)
      (Cert.Hyper.run_main (F := Ideal) m g),
    (θ_run Cert.ReferenceIdeal.defs _ _).mono (fun r h => h 0) (Cert.ReferenceIdeal.Value.run (F := Ideal) m' g')⟩

/-- Everything claimed. -/
theorem claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    frame_kernel, frame_kernelIdeal, fun m ρ _ => frame_kernelIdeal m ρ trivial,
    frame_reference, fun m ρ _ => frame_reference m ρ trivial, trivial, algebraic⟩

end Cert.Proof

end
